-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary_inputs [hPre_ordinary_inputs : Cert.Pre_ordinary_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary_inputs [hPre_ordinary_inputs : Cert.Pre_ordinary_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ordinary_inputs [hKernelIdeal : Cert.KernelIdeal.Facts] [hPre_ordinary_inputs : Cert.Pre_ordinary_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ordinary_inputs [hReferenceIdeal : Cert.ReferenceIdeal.Facts] [hPre_ordinary_inputs : Cert.Pre_ordinary_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ordinary_inputs [hKernelIdeal : Cert.KernelIdeal.Facts] [hReferenceIdeal : Cert.ReferenceIdeal.Facts] [hPre_ordinary_inputs : Cert.Pre_ordinary_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_8) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ordinary_inputs : Cert.Pre_ordinary_inputs.Facts),
    quiescent_Kernel (hKernel := hKernel)
    ∧ quiescent_KernelIdeal (hKernelIdeal := hKernelIdeal)
    ∧ quiescent_KernelIdeal_pre_ordinary_inputs (hKernelIdeal := hKernelIdeal) (hPre_ordinary_inputs := hPre_ordinary_inputs)
    ∧ quiescent_ReferenceIdeal (hReferenceIdeal := hReferenceIdeal)
    ∧ quiescent_ReferenceIdeal_pre_ordinary_inputs (hReferenceIdeal := hReferenceIdeal) (hPre_ordinary_inputs := hPre_ordinary_inputs)
    ∧ preserves_Kernel_KernelIdeal
    ∧ algebraic_KernelIdeal_ReferenceIdeal_pre_ordinary_inputs (hKernelIdeal := hKernelIdeal) (hReferenceIdeal := hReferenceIdeal) (hPre_ordinary_inputs := hPre_ordinary_inputs)
-- ==== Pre_ordinary_inputs.lean ====
abbrev S1024x64x3 : Shape := ⟨3, ![1024, 64, 3]⟩
abbrev S724x3 : Shape := ⟨2, ![724, 3]⟩
abbrev S3x64 : Shape := ⟨2, ![3, 64]⟩
abbrev S64 : Shape := ⟨1, ![64]⟩
abbrev S64x724 : Shape := ⟨2, ![64, 724]⟩
abbrev S96x96x96 : Shape := ⟨3, ![96, 96, 96]⟩
abbrev S1024x63x3 : Shape := ⟨3, ![1024, 63, 3]⟩
abbrev S_ : Shape := ⟨0, ![]⟩
abbrev S1024x1x3 : Shape := ⟨3, ![1024, 1, 3]⟩
abbrev S1024x3 : Shape := ⟨2, ![1024, 3]⟩

class Facts : Prop where
  slices_S1024x64x3_S1024x63x3_0_1_0 : S1024x64x3.Slices ![0, 1, 0] S1024x63x3
  bcast_S_S1024x63x3 : S_.BroadcastsInDim S1024x63x3 (![] : Fin 0 → Fin S1024x63x3.rank)
  reducesTo_S1024x63x3_S_d0_1_2 : S1024x63x3.ReducesTo [0, 1, 2] S_
  h_S_ : 0 < S_.numel
  slices_S1024x64x3_S1024x1x3_0_0_0 : S1024x64x3.Slices ![0, 0, 0] S1024x1x3
  shapeCasts_S1024x1x3_S1024x3 : S1024x1x3.ShapeCasts S1024x3
  bcast_S_S1024x3 : S_.BroadcastsInDim S1024x3 (![] : Fin 0 → Fin S1024x3.rank)
  reducesTo_S1024x3_S_d0_1 : S1024x3.ReducesTo [0, 1] S_
  bcast_S_S724x3 : S_.BroadcastsInDim S724x3 (![] : Fin 0 → Fin S724x3.rank)
  reducesTo_S724x3_S_d0_1 : S724x3.ReducesTo [0, 1] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x724 : S_.BroadcastsInDim S64x724 (![] : Fin 0 → Fin S64x724.rank)
  reducesTo_S64x724_S_d0_1 : S64x724.ReducesTo [0, 1] S_

variable [Facts]

def fn_part1 {F : FTy → Type} [FloatOps F] (main_arg3 : FVec F S64 .f32) (main_arg4 : FVec F S64x724 .f32) (main_v3 : IVec S_ 1) (main_v14 : IVec S_ 1) (main_v15 : FVec F S3x64 .f32) (main_v16 : FVec F S3x64 .f32) : IVec S_ 1 :=
  let main_v17 : IVec S3x64 1 := cmpf .ole main_v15 main_v16
  let main_c_5 : IVec S_ 1 := constantI S_ 1 1#1
  let main_v18 : IVec S_ 1 := (fun x v => Host.reduce IntOp.andi x v reducesTo_S3x64_S_d0_1 h_S_) main_v17 main_c_5
  let main_v19 : IVec S_ 1 := andi main_v14 main_v18
  let main_v20 : FVec F S64 .f32 := Host.absf main_arg3
  let main_cst_6 : FVec F S_ .f32 := constant S_ .f32 0x49742400#32
  let main_v21 : FVec F S64 .f32 := broadcastInDim S64 ![] bcast_S_S64 main_cst_6
  let main_v22 : IVec S64 1 := cmpf .ole main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  let main_v25 : FVec F S64x724 .f32 := Host.absf main_arg4
  let main_cst_8 : FVec F S_ .f32 := constant S_ .f32 0x49742400#32
  let main_v26 : FVec F S64x724 .f32 := broadcastInDim S64x724 ![] bcast_S_S64x724 main_cst_8
  let main_v27 : IVec S64x724 1 := cmpf .ole main_v25 main_v26
  let main_c_9 : IVec S_ 1 := constantI S_ 1 1#1
  let main_v28 : IVec S_ 1 := (fun x v => Host.reduce IntOp.andi x v reducesTo_S64x724_S_d0_1 h_S_) main_v27 main_c_9
  let main_v29 : IVec S_ 1 := andi main_v24 main_v28
  let main_v30 : IVec S_ 1 := andi main_v3 main_v29
  main_v30

def fn {F : FTy → Type} [FloatOps F] (main_arg0 : FVec F S1024x64x3 .f32) (main_arg1 : FVec F S724x3 .f32) (main_arg2 : FVec F S3x64 .f32) (main_arg3 : FVec F S64 .f32) (main_arg4 : FVec F S64x724 .f32) (main_arg5 : FVec F S96x96x96 .f32) : IVec S_ 1 :=
  let main_v0 : FVec F S1024x63x3 .f32 := (extractStridedSlice S1024x63x3 ![0, 1, 0] · slices_S1024x64x3_S1024x63x3_0_1_0) main_arg0
  let main_cst : FVec F S_ .f32 := constant S_ .f32 0x00000000#32
  let main_v1 : FVec F S1024x63x3 .f32 := broadcastInDim S1024x63x3 ![] bcast_S_S1024x63x3 main_cst
  let main_v2 : IVec S1024x63x3 1 := cmpf .oeq main_v0 main_v1
  let main_c : IVec S_ 1 := constantI S_ 1 1#1
  let main_v3 : IVec S_ 1 := (fun x v => Host.reduce IntOp.andi x v reducesTo_S1024x63x3_S_d0_1_2 h_S_) main_v2 main_c
  let main_v4 : FVec F S1024x1x3 .f32 := (extractStridedSlice S1024x1x3 ![0, 0, 0] · slices_S1024x64x3_S1024x1x3_0_0_0) main_arg0
  let main_v5 : FVec F S1024x3 .f32 := shapeCast S1024x3 main_v4 shapeCasts_S1024x1x3_S1024x3
  let main_v6 : FVec F S1024x3 .f32 := Host.absf main_v5
  let main_cst_0 : FVec F S_ .f32 := constant S_ .f32 0x49742400#32
  let main_v7 : FVec F S1024x3 .f32 := broadcastInDim S1024x3 ![] bcast_S_S1024x3 main_cst_0
  let main_v8 : IVec S1024x3 1 := cmpf .ole main_v6 main_v7
  let main_c_1 : IVec S_ 1 := constantI S_ 1 1#1
  let main_v9 : IVec S_ 1 := (fun x v => Host.reduce IntOp.andi x v reducesTo_S1024x3_S_d0_1 h_S_) main_v8 main_c_1
  let main_v10 : FVec F S724x3 .f32 := Host.absf main_arg1
  let main_cst_2 : FVec F S_ .f32 := constant S_ .f32 0x49742400#32
  let main_v11 : FVec F S724x3 .f32 := broadcastInDim S724x3 ![] bcast_S_S724x3 main_cst_2
  let main_v12 : IVec S724x3 1 := cmpf .ole main_v10 main_v11
  let main_c_3 : IVec S_ 1 := constantI S_ 1 1#1
  let main_v13 : IVec S_ 1 := (fun x v => Host.reduce IntOp.andi x v reducesTo_S724x3_S_d0_1 h_S_) main_v12 main_c_3
  let main_v14 : IVec S_ 1 := andi main_v9 main_v13
  let main_v15 : FVec F S3x64 .f32 := Host.absf main_arg2
  let main_cst_4 : FVec F S_ .f32 := constant S_ .f32 0x49742400#32
  let main_v16 : FVec F S3x64 .f32 := broadcastInDim S3x64 ![] bcast_S_S3x64 main_cst_4
  fn_part1 (F := F) main_arg3 main_arg4 main_v3 main_v14 main_v15 main_v16
-- ==== Kernel.lean ====
abbrev S1024x64x3 : Shape := ⟨3, ![1024, 64, 3]⟩
abbrev S724x3 : Shape := ⟨2, ![724, 3]⟩
abbrev S3x64 : Shape := ⟨2, ![3, 64]⟩
abbrev S64 : Shape := ⟨1, ![64]⟩
abbrev S64x724 : Shape := ⟨2, ![64, 724]⟩
abbrev S96x96x96 : Shape := ⟨3, ![96, 96, 96]⟩
abbrev S1024x1x3 : Shape := ⟨3, ![1024, 1, 3]⟩
abbrev S1024x3 : Shape := ⟨2, ![1024, 3]⟩
abbrev S3x1024 : Shape := ⟨2, ![3, 1024]⟩
abbrev S64x3 : Shape := ⟨2, ![64, 3]⟩
abbrev S64x1 : Shape := ⟨2, ![64, 1]⟩
abbrev S_ : Shape := ⟨0, ![]⟩
abbrev S768x64 : Shape := ⟨2, ![768, 64]⟩
abbrev S724x64 : Shape := ⟨2, ![724, 64]⟩
abbrev S1 : Shape := ⟨1, ![1]⟩
abbrev S768 : Shape := ⟨1, ![768]⟩
abbrev S768x1 : Shape := ⟨2, ![768, 1]⟩
abbrev S3x768 : Shape := ⟨2, ![3, 768]⟩
abbrev S3x724 : Shape := ⟨2, ![3, 724]⟩
abbrev S1x1 : Shape := ⟨2, ![1, 1]⟩
abbrev S64x3x1024 : Shape := ⟨3, ![64, 3, 1024]⟩
abbrev S64x1x1024 : Shape := ⟨3, ![64, 1, 1024]⟩
abbrev S3x128 : Shape := ⟨2, ![3, 128]⟩
abbrev S64x3x128 : Shape := ⟨3, ![64, 3, 128]⟩
abbrev S64x1x128 : Shape := ⟨3, ![64, 1, 128]⟩
abbrev S1x3x128 : Shape := ⟨3, ![1, 3, 128]⟩
abbrev S1x128 : Shape := ⟨2, ![1, 128]⟩
abbrev S1x1x128 : Shape := ⟨3, ![1, 1, 128]⟩
abbrev S768x128 : Shape := ⟨2, ![768, 128]⟩
abbrev S64x128 : Shape := ⟨2, ![64, 128]⟩
abbrev S128 : Shape := ⟨1, ![128]⟩
abbrev S32x16x128 : Shape := ⟨3, ![32, 16, 128]⟩
abbrev S884736 : Shape := ⟨1, ![884736]⟩
abbrev S16x128 : Shape := ⟨2, ![16, 128]⟩
abbrev S1x16x128 : Shape := ⟨3, ![1, 16, 128]⟩
abbrev S64x1024 : Shape := ⟨2, ![64, 1024]⟩
abbrev S1x1024 : Shape := ⟨2, ![1, 1024]⟩
abbrev S1024 : Shape := ⟨1, ![1024]⟩
abbrev S1x3x1024 : Shape := ⟨3, ![1, 3, 1024]⟩

abbrev nBuf : Table → Nat
  | .hbm => 51
  | .local .tc .vmem => 18
  | .local .tc .smem => 1
  | .local .scVector .vmem => 2
  | _ => 0

abbrev bufTy : (tb : Table) → Fin (nBuf tb) → BufTy
  | .hbm, ⟨0, _⟩ => ⟨S1024x64x3, .f32⟩
  | .hbm, ⟨1, _⟩ => ⟨S724x3, .f32⟩
  | .hbm, ⟨2, _⟩ => ⟨S3x64, .f32⟩
  | .hbm, ⟨3, _⟩ => ⟨S64, .f32⟩
  | .hbm, ⟨4, _⟩ => ⟨S64x724, .f32⟩
  | .hbm, ⟨5, _⟩ => ⟨S96x96x96, .f32⟩
  | .hbm, ⟨6, _⟩ => ⟨S1024x1x3, .f32⟩
  | .hbm, ⟨7, _⟩ => ⟨S1024x3, .f32⟩
  | .hbm, ⟨8, _⟩ => ⟨S3x1024, .f32⟩
  | .hbm, ⟨9, _⟩ => ⟨S64x3, .f32⟩
  | .hbm, ⟨10, _⟩ => ⟨S64x1, .f32⟩
  | .hbm, ⟨11, _⟩ => ⟨S_, .f32⟩
  | .hbm, ⟨12, _⟩ => ⟨S768x64, .f32⟩
  | .hbm, ⟨13, _⟩ => ⟨S724x64, .f32⟩
  | .hbm, ⟨14, _⟩ => ⟨S_, .i32⟩
  | .hbm, ⟨15, _⟩ => ⟨S1, .i32⟩
  | .hbm, ⟨16, _⟩ => ⟨S768x64, .f32⟩
  | .hbm, ⟨17, _⟩ => ⟨S768, .i32⟩
  | .hbm, ⟨18, _⟩ => ⟨S_, .i32⟩
  | .hbm, ⟨19, _⟩ => ⟨S768, .i32⟩
  | .hbm, ⟨20, _⟩ => ⟨S768, .i1⟩
  | .hbm, ⟨21, _⟩ => ⟨S_, .f32⟩
  | .hbm, ⟨22, _⟩ => ⟨S_, .f32⟩
  | .hbm, ⟨23, _⟩ => ⟨S768, .f32⟩
  | .hbm, ⟨24, _⟩ => ⟨S768, .f32⟩
  | .hbm, ⟨25, _⟩ => ⟨S768, .f32⟩
  | .hbm, ⟨26, _⟩ => ⟨S768, .f32⟩
  | .hbm, ⟨27, _⟩ => ⟨S768x1, .f32⟩
  | .hbm, ⟨28, _⟩ => ⟨S_, .f32⟩
  | .hbm, ⟨29, _⟩ => ⟨S3x768, .f32⟩
  | .hbm, ⟨30, _⟩ => ⟨S3x724, .f32⟩
  | .hbm, ⟨31, _⟩ => ⟨S_, .i32⟩
  | .hbm, ⟨32, _⟩ => ⟨S1, .i32⟩
  | .hbm, ⟨33, _⟩ => ⟨S3x768, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x1, .f32⟩
  | .hbm, ⟨39, _⟩ => ⟨S64x3x1024, .f32⟩
  | .hbm, ⟨40, _⟩ => ⟨S64x1x1024, .f32⟩
  | .hbm, ⟨41, _⟩ => ⟨S64x1x1024, .i32⟩
  | .hbm, ⟨42, _⟩ => ⟨S32x16x128, .i32⟩
  | .hbm, ⟨43, _⟩ => ⟨S884736, .f32⟩
  | .hbm, ⟨44, _⟩ => ⟨S32x16x128, .f32⟩
  | .hbm, ⟨45, _⟩ => ⟨S64x1024, .f32⟩
  | .hbm, ⟨46, _⟩ => ⟨S64x1024, .f32⟩
  | .hbm, ⟨47, _⟩ => ⟨S64x3x1024, .f32⟩
  | .hbm, ⟨48, _⟩ => ⟨S1x1024, .i32⟩
  | .hbm, ⟨49, _⟩ => ⟨S1024x64x3, .f32⟩
  | .hbm, ⟨50, _⟩ => ⟨S1024, .i32⟩
  | .local .tc .vmem, ⟨0, _⟩ => ⟨S3x128, .f32⟩
  | .local .tc .vmem, ⟨1, _⟩ => ⟨S3x128, .f32⟩
  | .local .tc .vmem, ⟨2, _⟩ => ⟨S64x3, .f32⟩
  | .local .tc .vmem, ⟨3, _⟩ => ⟨S64x1, .f32⟩
  | .local .tc .vmem, ⟨4, _⟩ => ⟨S768x64, .f32⟩
  | .local .tc .vmem, ⟨5, _⟩ => ⟨S768x1, .f32⟩
  | .local .tc .vmem, ⟨6, _⟩ => ⟨S3x768, .f32⟩
  | .local .tc .vmem, ⟨7, _⟩ => ⟨S64x3x128, .f32⟩
  | .local .tc .vmem, ⟨8, _⟩ => ⟨S64x3x128, .f32⟩
  | .local .tc .vmem, ⟨9, _⟩ => ⟨S64x1x128, .f32⟩
  | .local .tc .vmem, ⟨10, _⟩ => ⟨S64x1x128, .f32⟩
  | .local .tc .vmem, ⟨11, _⟩ => ⟨S64x1x128, .i32⟩
  | .local .tc .vmem, ⟨12, _⟩ => ⟨S64x1x128, .i32⟩
  | .local .tc .vmem, ⟨13, _⟩ => ⟨S64x3x1024, .f32⟩
  | .local .tc .vmem, ⟨14, _⟩ => ⟨S64x1024, .f32⟩
  | .local .tc .vmem, ⟨15, _⟩ => ⟨S64x1024, .f32⟩
  | .local .tc .vmem, ⟨16, _⟩ => ⟨S64x3x1024, .f32⟩
  | .local .tc .vmem, ⟨17, _⟩ => ⟨S1x1024, .i32⟩
  | .local .tc .smem, ⟨0, _⟩ => ⟨S1x1, .f32⟩
  | .local .scVector .vmem, ⟨0, _⟩ => ⟨S16x128, .i32⟩
  | .local .scVector .vmem, ⟨1, _⟩ => ⟨S16x128, .f32⟩
  | _, _ => ⟨S1024x64x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v29 : Ref sig .tc := ⟨.hbm, 49, rfl⟩
abbrev main_v30 : Ref sig .tc := ⟨.hbm, 50, rfl⟩
abbrev main_v23_scv : Ref sig .scVector := ⟨.hbm, 42, rfl⟩
abbrev main_v24_scv : Ref sig .scVector := ⟨.hbm, 43, rfl⟩
abbrev main_v25_scv : Ref sig .scVector := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_10 : BitVec 32 := 0#32
  let c63_i32 : BitVec 32 := 63#32
  let v15 : BitVec 32 := Scalar.addi c0_i32_10 c63_i32
  let c1_i32 : BitVec 32 := 1#32
  ⟨c0_i32_10, v15, c1_i32⟩
def k0_off1 (k0_t1 : Fin k0_t1_loop.trips) : Fin 3 → Nat :=
  let c0_i32_10 : BitVec 32 := 0#32
  let c1_i32 : BitVec 32 := 1#32
  let arg10 : BitVec 32 := Scf.iv c0_i32_10 c1_i32 k0_t1
  let v51 : Index := Scalar.indexCast arg10
  let c0_29 : Index := 0#32
  let c0_30 : Index := 0#32
  ![v51.toNat, 0, 0]
def k0_off2 (k0_t1 : Fin k0_t1_loop.trips) : Fin 3 → Nat :=
  let c0_i32_10 : BitVec 32 := 0#32
  let c1_i32 : BitVec 32 := 1#32
  let arg10 : BitVec 32 := Scf.iv c0_i32_10 c1_i32 k0_t1
  let c1_i32_35 : BitVec 32 := 1#32
  let v77 : BitVec 32 := Scalar.addi arg10 c1_i32_35
  let v78 : Index := Scalar.indexCast v77
  let c0_36 : Index := 0#32
  let c0_37 : Index := 0#32
  ![v78.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_145_r0 : BitVec 32 := 0#32
  let c0_i32_146_r0 : BitVec 32 := 0#32
  ![v1.toNat, 0, 0]
abbrev grid2 : Pipeline.Grid := .none

@[reducible] def k2_t1_loop : Scf.Loop 32 :=
  let c0_i32_9 : BitVec 32 := 0#32
  let c64_i32 : BitVec 32 := 64#32
  let v24 : BitVec 32 := Scalar.addi c0_i32_9 c64_i32
  let c1_i32_10 : BitVec 32 := 1#32
  ⟨c0_i32_9, v24, c1_i32_10⟩
def k2_off1 (k2_t1 : Fin k2_t1_loop.trips) : Fin 3 → Nat :=
  let c0_i32_9 : BitVec 32 := 0#32
  let c1_i32_10 : BitVec 32 := 1#32
  let arg6 : BitVec 32 := Scf.iv c0_i32_9 c1_i32_10 k2_t1
  let v27 : Index := Scalar.indexCast arg6
  let c0_12 : Index := 0#32
  let c0_13 : Index := 0#32
  ![v27.toNat, 0, 0]
abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x3x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x3x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x1024 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64x3 : Shape := ⟨3, ![1024, 64, 3]⟩
abbrev S724x3 : Shape := ⟨2, ![724, 3]⟩
abbrev S3x64 : Shape := ⟨2, ![3, 64]⟩
abbrev S64 : Shape := ⟨1, ![64]⟩
abbrev S64x724 : Shape := ⟨2, ![64, 724]⟩
abbrev S96x96x96 : Shape := ⟨3, ![96, 96, 96]⟩
abbrev S_ : Shape := ⟨0, ![]⟩
abbrev S1024x64 : Shape := ⟨2, ![1024, 64]⟩
abbrev S1 : Shape := ⟨1, ![1]⟩
abbrev S1024 : Shape := ⟨1, ![1024]⟩
abbrev S1024x3 : Shape := ⟨2, ![1024, 3]⟩
abbrev S1024x1x3 : Shape := ⟨3, ![1024, 1, 3]⟩
abbrev S1x64 : Shape := ⟨2, ![1, 64]⟩
abbrev S1024x724 : Shape := ⟨2, ![1024, 724]⟩
abbrev S1024x1 : Shape := ⟨2, ![1024, 1]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S1024x64x3, .f32⟩
  | 1 => ⟨S724x3, .f32⟩
  | 2 => ⟨S3x64, .f32⟩
  | 3 => ⟨S64, .f32⟩
  | 4 => ⟨S64x724, .f32⟩
  | 5 => ⟨S96x96x96, .f32⟩
  | 6 => ⟨S_, .f32⟩
  | 7 => ⟨S_, .f32⟩
  | 8 => ⟨S_, .f32⟩
  | 9 => ⟨S_, .f32⟩
  | 10 => ⟨S_, .i1⟩
  | 11 => ⟨S1024x64, .i1⟩
  | 12 => ⟨S_, .i32⟩
  | 13 => ⟨S1, .i32⟩
  | 14 => ⟨S_, .i1⟩
  | 15 => ⟨S1024, .i1⟩
  | 16 => ⟨S1024x64, .i1⟩
  | 17 => ⟨S_, .i1⟩
  | 18 => ⟨S1024, .i1⟩
  | 19 => ⟨S_, .f32⟩
  | 20 => ⟨S1024x3, .f32⟩
  | 21 => ⟨S_, .i32⟩
  | 22 => ⟨S_, .i32⟩
  | 23 => ⟨S3x64, .f32⟩
  | 24 => ⟨S64, .f32⟩
  | 25 => ⟨S64x724, .f32⟩
  | 26 => ⟨S724x3, .f32⟩
  | 27 => ⟨S_, .f32⟩
  | 28 => ⟨S96x96x96, .f32⟩
  | 29 => ⟨S_, .i32⟩
  | 30 => ⟨S_, .i32⟩
  | 31 => ⟨S1024x64x3, .f32⟩
  | 32 => ⟨S1024x64, .i1⟩
  | 33 => ⟨S1024, .i1⟩
  | 34 => ⟨S1024x3, .f32⟩
  | 35 => ⟨S_, .i32⟩
  | 36 => ⟨S_, .i1⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S1024x1x3, .f32⟩
  | 48 => ⟨S1024x3, .f32⟩
  | 49 => ⟨S1024x64, .f32⟩
  | 50 => ⟨S1x64, .f32⟩
  | 51 => ⟨S1024x64, .f32⟩
  | 52 => ⟨S1024x64, .f32⟩
  | 53 => ⟨S_, .f32⟩
  | 54 => ⟨S1024x64, .f32⟩
  | 55 => ⟨S1024x64, .f32⟩
  | 56 => ⟨S1024x724, .f32⟩
  | 57 => ⟨S1024x724, .i32⟩
  | 58 => ⟨S_, .f32⟩
  | 59 => ⟨S_, .i32⟩
  | 60 => ⟨S1024, .f32⟩
  | 61 => ⟨S1024, .i32⟩
  | 62 => ⟨S_, .i32⟩
  | 63 => ⟨S1024, .i32⟩
  | 64 => ⟨S1024, .i1⟩
  | 65 => ⟨S_, .i32⟩
  | 66 => ⟨S1024, .i32⟩
  | 67 => ⟨S1024, .i32⟩
  | 68 => ⟨S1024, .i32⟩
  | 69 => ⟨S1024x1, .i32⟩
  | 70 => ⟨S1, .i32⟩
  | 71 => ⟨S_, .i32⟩
  | 72 => ⟨S1024x1, .i32⟩
  | 73 => ⟨S1024x1, .i1⟩
  | 74 => ⟨S1x1, .i32⟩
  | 75 => ⟨S1024x1, .i32⟩
  | 76 => ⟨S1024x1, .i1⟩
  | 77 => ⟨S1024x1, .i1⟩
  | 78 => ⟨S_, .i1⟩
  | 79 => ⟨S1024, .i1⟩
  | 80 => ⟨S1024x3, .f32⟩
  | 81 => ⟨S1024x3, .i1⟩
  | 82 => ⟨S_, .f32⟩
  | 83 => ⟨S1024x3, .f32⟩
  | 84 => ⟨S1024x3, .f32⟩
  | 85 => ⟨S1024x3, .f32⟩
  | 86 => ⟨S_, .f32⟩
  | 87 => ⟨S1024, .f32⟩
  | 88 => ⟨S1024, .f32⟩
  | 89 => ⟨S1024, .i1⟩
  | 90 => ⟨S_, .i32⟩
  | 91 => ⟨S_, .i1⟩
  | 92 => ⟨S_, .i1⟩
  | 93 => ⟨S_, .i1⟩
  | 94 => ⟨S_, .i1⟩
  | 95 => ⟨S_, .i1⟩
  | 96 => ⟨S1024, .i1⟩
  | 97 => ⟨S1024, .i1⟩
  | 98 => ⟨S1024x3, .f32⟩
  | 99 => ⟨S1024x3, .i32⟩
  | 100 => ⟨S_, .i32⟩
  | 101 => ⟨S_, .i32⟩
  | 102 => ⟨S_, .i32⟩
  | 103 => ⟨S1024x3, .i32⟩
  | 104 => ⟨S1024x3, .i32⟩
  | 105 => ⟨S_, .i32⟩
  | 106 => ⟨S1024x3, .i32⟩
  | 107 => ⟨S1024x3, .i32⟩
  | 108 => ⟨S1024x1, .i32⟩
  | 109 => ⟨S1024, .i32⟩
  | 110 => ⟨S1024x1, .i32⟩
  | 111 => ⟨S1024, .i32⟩
  | 112 => ⟨S1024x1, .i32⟩
  | 113 => ⟨S1024, .i32⟩
  | 114 => ⟨S_, .i32⟩
  | 115 => ⟨S1024, .i32⟩
  | 116 => ⟨S1024, .i1⟩
  | 117 => ⟨S_, .i32⟩
  | 118 => ⟨S1024, .i32⟩
  | 119 => ⟨S1024, .i32⟩
  | 120 => ⟨S1024, .i32⟩
  | 121 => ⟨S_, .i32⟩
  | 122 => ⟨S1024, .i32⟩
  | 123 => ⟨S1024, .i1⟩
  | 124 => ⟨S_, .i32⟩
  | 125 => ⟨S1024, .i32⟩
  | 126 => ⟨S1024, .i32⟩
  | 127 => ⟨S1024, .i32⟩
  | _ => ⟨S1024x64x3, .f32⟩

abbrev hbmTy0_1 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S1024x1, .i32⟩
  | 9 => ⟨S1024x1, .i32⟩
  | 10 => ⟨S1024x3, .i32⟩
  | 11 => ⟨S1024, .f32⟩
  | 12 => ⟨S1024, .i1⟩
  | 13 => ⟨S_, .f32⟩
  | 14 => ⟨S1024, .f32⟩
  | 15 => ⟨S1024, .i1⟩
  | 16 => ⟨S1024, .i1⟩
  | 17 => ⟨S_, .f32⟩
  | 18 => ⟨S1024x3, .f32⟩
  | 19 => ⟨S1024x3, .f32⟩
  | 20 => ⟨S1024x3, .f32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S1024x1x3, .f32⟩
  | 32 => ⟨S1024x3, .f32⟩
  | 33 => ⟨S1024x1, .i1⟩
  | 34 => ⟨S1024x3, .i1⟩
  | 35 => ⟨S1024x3, .f32⟩
  | 36 => ⟨S_, .i32⟩
  | 37 => ⟨S_, .i32⟩
  | 38 => ⟨S1024x1x3, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S1024x64x3, .f32⟩
  | 48 => ⟨S_, .i32⟩
  | 49 => ⟨S_, .i32⟩
  | 50 => ⟨S1024x1, .i1⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1024x64, .i1⟩
  | 59 => ⟨S1024x1, .i1⟩
  | 60 => ⟨S1024x3, .i1⟩
  | 61 => ⟨S1024x3, .f32⟩
  | 62 => ⟨S_, .i32⟩
  | 63 => ⟨S_, .i32⟩
  | 64 => ⟨S1024x64, .i1⟩
  | 65 => ⟨S1024x64, .i32⟩
  | 66 => ⟨S_, .i32⟩
  | 67 => ⟨S1024, .i32⟩
  | _ => ⟨S1024x64x3, .f32⟩

abbrev hbmTy (i : Nat) : BufTy := match i / 128 with
  | 0 => hbmTy0_0 i
  | 1 => hbmTy0_1 i
  | _ => ⟨S1024x64x3, .f32⟩

abbrev bufTy : (tb : Table) → Fin (tcTables nBuf tb) → BufTy
  | .hbm, ⟨i, _⟩ => hbmTy i
  | _, _ => ⟨S1024x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_c_5 : Ref sig .tc := ⟨.hbm, 21, rfl⟩
abbrev main_c_6 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev main_v8_6 : Ref sig .tc := ⟨.hbm, 29, rfl⟩
abbrev main_v8_7 : Ref sig .tc := ⟨.hbm, 30, rfl⟩
abbrev main_v8_8 : Ref sig .tc := ⟨.hbm, 31, rfl⟩
abbrev main_v8_9 : Ref sig .tc := ⟨.hbm, 32, rfl⟩
abbrev main_v8_10 : Ref sig .tc := ⟨.hbm, 33, rfl⟩
abbrev main_v8_11 : Ref sig .tc := ⟨.hbm, 34, rfl⟩
abbrev main_while0c_c_19 : Ref sig .tc := ⟨.hbm, 35, rfl⟩
abbrev main_while0c_v12 : Ref sig .tc := ⟨.hbm, 36, rfl⟩
abbrev main_while0b_c_19 : Ref sig .tc := ⟨.hbm, 37, rfl⟩
abbrev main_while0b_v12 : Ref sig .tc := ⟨.hbm, 38, rfl⟩
abbrev main_while0b_call0_c : Ref sig .tc := ⟨.hbm, 39, rfl⟩
abbrev main_while0b_call0_v0 : Ref sig .tc := ⟨.hbm, 40, rfl⟩
abbrev main_while0b_call0_v1 : Ref sig .tc := ⟨.hbm, 41, rfl⟩
abbrev main_while0b_call0_c_0 : Ref sig .tc := ⟨.hbm, 42, rfl⟩
abbrev main_while0b_call0_v2 : Ref sig .tc := ⟨.hbm, 43, rfl⟩
abbrev main_while0b_call0_v3 : Ref sig .tc := ⟨.hbm, 44, rfl⟩
abbrev main_while0b_call0_c_1 : Ref sig .tc := ⟨.hbm, 45, rfl⟩
abbrev main_while0b_call0_c_2 : Ref sig .tc := ⟨.hbm, 46, rfl⟩
abbrev main_while0b_call0_v4 : Ref sig .tc := ⟨.hbm, 47, rfl⟩
abbrev main_while0b_v13 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_cst_20 : Ref sig .tc := ⟨.hbm, 53, rfl⟩
abbrev main_while0b_v18 : Ref sig .tc := ⟨.hbm, 54, rfl⟩
abbrev main_while0b_v19 : Ref sig .tc := ⟨.hbm, 55, rfl⟩
abbrev main_while0b_v20 : Ref sig .tc := ⟨.hbm, 56, rfl⟩
abbrev main_while0b_call1_v0 : Ref sig .tc := ⟨.hbm, 57, rfl⟩
abbrev main_while0b_call1_cst : Ref sig .tc := ⟨.hbm, 58, rfl⟩
abbrev main_while0b_call1_c : Ref sig .tc := ⟨.hbm, 59, rfl⟩
abbrev main_while0b_call1_v1_0 : Ref sig .tc := ⟨.hbm, 60, rfl⟩
abbrev main_while0b_v21 : Ref sig .tc := ⟨.hbm, 61, rfl⟩
abbrev main_while0b_call2_c : Ref sig .tc := ⟨.hbm, 62, rfl⟩
abbrev main_while0b_call2_v0 : Ref sig .tc := ⟨.hbm, 63, rfl⟩
abbrev main_while0b_call2_v1 : Ref sig .tc := ⟨.hbm, 64, rfl⟩
abbrev main_while0b_call2_c_0 : Ref sig .tc := ⟨.hbm, 65, rfl⟩
abbrev main_while0b_call2_v2 : Ref sig .tc := ⟨.hbm, 66, rfl⟩
abbrev main_while0b_call2_v3 : Ref sig .tc := ⟨.hbm, 67, rfl⟩
abbrev main_while0b_call2_v4 : Ref sig .tc := ⟨.hbm, 68, rfl⟩
abbrev main_while0b_call2_v5 : Ref sig .tc := ⟨.hbm, 69, rfl⟩
abbrev main_while0b_call2_c_1 : Ref sig .tc := ⟨.hbm, 70, rfl⟩
abbrev main_while0b_call2_c_2 : Ref sig .tc := ⟨.hbm, 71, rfl⟩
abbrev main_while0b_call2_v6 : Ref sig .tc := ⟨.hbm, 72, rfl⟩
abbrev main_while0b_call2_v7 : Ref sig .tc := ⟨.hbm, 73, rfl⟩
abbrev main_while0b_call2_v8 : Ref sig .tc := ⟨.hbm, 74, rfl⟩
abbrev main_while0b_call2_v9 : Ref sig .tc := ⟨.hbm, 75, rfl⟩
abbrev main_while0b_call2_v10 : Ref sig .tc := ⟨.hbm, 76, rfl⟩
abbrev main_while0b_call2_v11 : Ref sig .tc := ⟨.hbm, 77, rfl⟩
abbrev main_while0b_call2_c_3 : Ref sig .tc := ⟨.hbm, 78, rfl⟩
abbrev main_while0b_call2_v12 : Ref sig .tc := ⟨.hbm, 79, rfl⟩
abbrev main_while0b_call2_v13 : Ref sig .tc := ⟨.hbm, 80, rfl⟩
abbrev main_while0b_call2_v14 : Ref sig .tc := ⟨.hbm, 81, rfl⟩
abbrev main_while0b_call2_cst : Ref sig .tc := ⟨.hbm, 82, rfl⟩
abbrev main_while0b_call2_v15 : Ref sig .tc := ⟨.hbm, 83, rfl⟩
abbrev main_while0b_v22 : Ref sig .tc := ⟨.hbm, 84, rfl⟩
abbrev main_while0b_v23 : Ref sig .tc := ⟨.hbm, 85, rfl⟩
abbrev main_while0b_cst_21 : Ref sig .tc := ⟨.hbm, 86, rfl⟩
abbrev main_while0b_v24 : Ref sig .tc := ⟨.hbm, 87, rfl⟩
abbrev main_while0b_v25 : Ref sig .tc := ⟨.hbm, 88, rfl⟩
abbrev main_while0b_v26 : Ref sig .tc := ⟨.hbm, 89, rfl⟩
abbrev main_while0b_c_22 : Ref sig .tc := ⟨.hbm, 90, rfl⟩
abbrev main_while0b_v27 : Ref sig .tc := ⟨.hbm, 91, rfl⟩
abbrev main_while0b_c_23 : Ref sig .tc := ⟨.hbm, 92, rfl⟩
abbrev main_while0b_v28 : Ref sig .tc := ⟨.hbm, 93, rfl⟩
abbrev main_while0b_v29 : Ref sig .tc := ⟨.hbm, 94, rfl⟩
abbrev main_while0b_v30 : Ref sig .tc := ⟨.hbm, 95, rfl⟩
abbrev main_while0b_v31 : Ref sig .tc := ⟨.hbm, 96, rfl⟩
abbrev main_while0b_v32 : Ref sig .tc := ⟨.hbm, 97, rfl⟩
abbrev main_while0b_v33 : Ref sig .tc := ⟨.hbm, 98, rfl⟩
abbrev main_while0b_v34 : Ref sig .tc := ⟨.hbm, 99, rfl⟩
abbrev main_while0b_c_24 : Ref sig .tc := ⟨.hbm, 100, rfl⟩
abbrev main_while0b_c_25 : Ref sig .tc := ⟨.hbm, 101, rfl⟩
abbrev main_while0b_call4_v0 : Ref sig .tc := ⟨.hbm, 102, rfl⟩
abbrev main_while0b_call4_v1 : Ref sig .tc := ⟨.hbm, 103, rfl⟩
abbrev main_while0b_call4_v2 : Ref sig .tc := ⟨.hbm, 104, rfl⟩
abbrev main_while0b_call4_v3 : Ref sig .tc := ⟨.hbm, 105, rfl⟩
abbrev main_while0b_call4_v4 : Ref sig .tc := ⟨.hbm, 106, rfl⟩
abbrev main_while0b_v35 : Ref sig .tc := ⟨.hbm, 107, rfl⟩
abbrev main_while0b_v36 : Ref sig .tc := ⟨.hbm, 108, rfl⟩
abbrev main_while0b_v37 : Ref sig .tc := ⟨.hbm, 109, rfl⟩
abbrev main_while0b_v38 : Ref sig .tc := ⟨.hbm, 110, rfl⟩
abbrev main_while0b_v39 : Ref sig .tc := ⟨.hbm, 111, rfl⟩
abbrev main_while0b_v40 : Ref sig .tc := ⟨.hbm, 112, rfl⟩
abbrev main_while0b_v41 : Ref sig .tc := ⟨.hbm, 113, rfl⟩
abbrev main_while0b_c_26 : Ref sig .tc := ⟨.hbm, 114, rfl⟩
abbrev main_while0b_v42 : Ref sig .tc := ⟨.hbm, 115, rfl⟩
abbrev main_while0b_v43 : Ref sig .tc := ⟨.hbm, 116, rfl⟩
abbrev main_while0b_c_27 : Ref sig .tc := ⟨.hbm, 117, rfl⟩
abbrev main_while0b_v44 : Ref sig .tc := ⟨.hbm, 118, rfl⟩
abbrev main_while0b_v45 : Ref sig .tc := ⟨.hbm, 119, rfl⟩
abbrev main_while0b_v46 : Ref sig .tc := ⟨.hbm, 120, rfl⟩
abbrev main_while0b_c_28 : Ref sig .tc := ⟨.hbm, 121, rfl⟩
abbrev main_while0b_v47 : Ref sig .tc := ⟨.hbm, 122, rfl⟩
abbrev main_while0b_v48 : Ref sig .tc := ⟨.hbm, 123, rfl⟩
abbrev main_while0b_c_29 : Ref sig .tc := ⟨.hbm, 124, rfl⟩
abbrev main_while0b_v49 : Ref sig .tc := ⟨.hbm, 125, rfl⟩
abbrev main_while0b_v50 : Ref sig .tc := ⟨.hbm, 126, rfl⟩
abbrev main_while0b_v51 : Ref sig .tc := ⟨.hbm, 127, rfl⟩
abbrev main_while0b_c_30 : Ref sig .tc := ⟨.hbm, 128, rfl⟩
abbrev main_while0b_v52 : Ref sig .tc := ⟨.hbm, 129, rfl⟩
abbrev main_while0b_v53 : Ref sig .tc := ⟨.hbm, 130, rfl⟩
abbrev main_while0b_c_31 : Ref sig .tc := ⟨.hbm, 131, rfl⟩
abbrev main_while0b_v54 : Ref sig .tc := ⟨.hbm, 132, rfl⟩
abbrev main_while0b_v55 : Ref sig .tc := ⟨.hbm, 133, rfl⟩
abbrev main_while0b_v56 : Ref sig .tc := ⟨.hbm, 134, rfl⟩
abbrev main_while0b_v57 : Ref sig .tc := ⟨.hbm, 135, rfl⟩
abbrev main_while0b_v58 : Ref sig .tc := ⟨.hbm, 136, rfl⟩
abbrev main_while0b_v59 : Ref sig .tc := ⟨.hbm, 137, rfl⟩
abbrev main_while0b_v60 : Ref sig .tc := ⟨.hbm, 138, rfl⟩
abbrev main_while0b_v61 : Ref sig .tc := ⟨.hbm, 139, rfl⟩
abbrev main_while0b_v62 : Ref sig .tc := ⟨.hbm, 140, rfl⟩
abbrev main_while0b_cst_32 : Ref sig .tc := ⟨.hbm, 141, rfl⟩
abbrev main_while0b_v63 : Ref sig .tc := ⟨.hbm, 142, rfl⟩
abbrev main_while0b_v64 : Ref sig .tc := ⟨.hbm, 143, rfl⟩
abbrev main_while0b_v65 : Ref sig .tc := ⟨.hbm, 144, rfl⟩
abbrev main_while0b_cst_33 : Ref sig .tc := ⟨.hbm, 145, rfl⟩
abbrev main_while0b_v66 : Ref sig .tc := ⟨.hbm, 146, rfl⟩
abbrev main_while0b_v67 : Ref sig .tc := ⟨.hbm, 147, rfl⟩
abbrev main_while0b_v68 : Ref sig .tc := ⟨.hbm, 148, rfl⟩
abbrev main_while0b_c_34 : Ref sig .tc := ⟨.hbm, 149, rfl⟩
abbrev main_while0b_v69 : Ref sig .tc := ⟨.hbm, 150, rfl⟩
abbrev main_while0b_call5_c : Ref sig .tc := ⟨.hbm, 151, rfl⟩
abbrev main_while0b_call5_v0 : Ref sig .tc := ⟨.hbm, 152, rfl⟩
abbrev main_while0b_call5_v1 : Ref sig .tc := ⟨.hbm, 153, rfl⟩
abbrev main_while0b_call5_c_0 : Ref sig .tc := ⟨.hbm, 154, rfl⟩
abbrev main_while0b_call5_v2 : Ref sig .tc := ⟨.hbm, 155, rfl⟩
abbrev main_while0b_call5_v3 : Ref sig .tc := ⟨.hbm, 156, rfl⟩
abbrev main_while0b_call5_c_1 : Ref sig .tc := ⟨.hbm, 157, rfl⟩
abbrev main_while0b_call5_c_2 : Ref sig .tc := ⟨.hbm, 158, rfl⟩
abbrev main_while0b_call5_v4 : Ref sig .tc := ⟨.hbm, 159, rfl⟩
abbrev main_while0b_v70 : Ref sig .tc := ⟨.hbm, 160, rfl⟩
abbrev main_while0b_v71 : Ref sig .tc := ⟨.hbm, 161, rfl⟩
abbrev main_while0b_call6_v0 : Ref sig .tc := ⟨.hbm, 162, rfl⟩
abbrev main_while0b_v72 : Ref sig .tc := ⟨.hbm, 163, rfl⟩
abbrev main_while0b_c_35 : Ref sig .tc := ⟨.hbm, 164, rfl⟩
abbrev main_while0b_v73 : Ref sig .tc := ⟨.hbm, 165, rfl⟩
abbrev main_while0b_call7_v0 : Ref sig .tc := ⟨.hbm, 166, rfl⟩
abbrev main_while0b_call7_c : Ref sig .tc := ⟨.hbm, 167, rfl⟩
abbrev main_while0b_call7_v1 : Ref sig .tc := ⟨.hbm, 168, rfl⟩
abbrev main_while0b_call7_v2 : Ref sig .tc := ⟨.hbm, 169, rfl⟩
abbrev main_while0b_call7_c_0 : Ref sig .tc := ⟨.hbm, 170, rfl⟩
abbrev main_while0b_call7_v3 : Ref sig .tc := ⟨.hbm, 171, rfl⟩
abbrev main_while0b_call7_v4 : Ref sig .tc := ⟨.hbm, 172, rfl⟩
abbrev main_while0b_call7_c_1 : Ref sig .tc := ⟨.hbm, 173, rfl⟩
abbrev main_while0b_call7_c_2 : Ref sig .tc := ⟨.hbm, 174, rfl⟩
abbrev main_while0b_v74 : Ref sig .tc := ⟨.hbm, 175, rfl⟩
abbrev main_while0b_c_36 : Ref sig .tc := ⟨.hbm, 176, rfl⟩
abbrev main_while0b_v75 : Ref sig .tc := ⟨.hbm, 177, rfl⟩
abbrev main_while0b_call8_v0 : Ref sig .tc := ⟨.hbm, 178, rfl⟩
abbrev main_while0b_call8_c : Ref sig .tc := ⟨.hbm, 179, rfl⟩
abbrev main_while0b_call8_v1 : Ref sig .tc := ⟨.hbm, 180, rfl⟩
abbrev main_while0b_call8_v2 : Ref sig .tc := ⟨.hbm, 181, rfl⟩
abbrev main_while0b_call8_c_0 : Ref sig .tc := ⟨.hbm, 182, rfl⟩
abbrev main_while0b_call8_v3 : Ref sig .tc := ⟨.hbm, 183, rfl⟩
abbrev main_while0b_call8_v4 : Ref sig .tc := ⟨.hbm, 184, rfl⟩
abbrev main_while0b_call8_c_1 : Ref sig .tc := ⟨.hbm, 185, rfl⟩
abbrev main_while0b_v76 : Ref sig .tc := ⟨.hbm, 186, rfl⟩
abbrev main_while0b_v77 : Ref sig .tc := ⟨.hbm, 187, rfl⟩
abbrev main_while0b_call9_v0 : Ref sig .tc := ⟨.hbm, 188, rfl⟩
abbrev main_while0b_v78 : Ref sig .tc := ⟨.hbm, 189, rfl⟩
abbrev main_while0b_c_37 : Ref sig .tc := ⟨.hbm, 190, rfl⟩
abbrev main_while0b_v79 : Ref sig .tc := ⟨.hbm, 191, rfl⟩
abbrev main_v9 : Ref sig .tc := ⟨.hbm, 192, rfl⟩
abbrev main_v10 : Ref sig .tc := ⟨.hbm, 193, rfl⟩
abbrev main_c_7 : Ref sig .tc := ⟨.hbm, 194, rfl⟩
abbrev main_v11 : Ref sig .tc := ⟨.hbm, 195, rfl⟩

abbrev nD : Nat := 1
abbrev τ : Topo := Topo.v7x

variable {F : FTy → Type} [FloatOps F]

abbrev main_while0_count : Scf.Loop 32 := ⟨0#32, 63#32, 1#32⟩
-- ==== Proof.Lib.GatherBatch.lean ====
/- Several indirect gathers outstanding on one semaphore. Each row a gather moves is one transfer of a single batch on the
   semaphore's cell: the gathers are issued one after the other, and the rows' deliveries come back together when the
   whole batch has been waited for. -/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

section Row

variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))

/-- The place of entry `j` in the list. -/
abbrev entryIx (j : Fin (s.size hg.axis')) : si.Idx := si.rowMajor.symm (j.cast hn.symm)

/-- The words of row `j`. -/
def rowPay (r : Fin (s.size hg.axis') → Fin (s₀.size hg.axis)) (j : Fin (s.size hg.axis')) : (s.rowShape hg.axis').Idx → Elt F e :=
  fun i => src.view.read (Elt F) fs (hg.rowIdx (r j) i)

/-- What row `j` of a gather brings back: its row of the destination written, its entry of the list, its piece of the
    source's share. -/
def rowBack (ho : 0 < s.size hg.axis') (r : Fin (s.size hg.axis') → Fin (s₀.size hg.axis)) (j : Fin (s.size hg.axis')) : sProp 𝕄 :=
  iprop(((dst.view.loc c ↦[(dst.view.slice (s.rowRect hg.axis' j)).set]{fullShare}
        ((dst.view.slice (s.rowRect hg.axis' j)).write (Elt F) fd (rowPay c src hg fs r j) Finset.univ))
      ∗ (offs.view.loc c ↦[{offs.view.emb (entryIx hg hn j)}]{qo} fo))
    ∗ (src.view.loc c ↦[src.view.set]{pieceOf q _ ho j} fs))

omit [Preorder Lvl] in
instance rowBack_storable (ho : 0 < s.size hg.axis') (r : Fin (s.size hg.axis') → Fin (s₀.size hg.axis)) (j : Fin (s.size hg.axis')) :
    Storable (upEmb : UEmb _ 𝕄) (rowBack c src dst hg offs hn q qo fs fd fo ho r j : sProp 𝕄) := by
  unfold rowBack; infer_instance

omit [Preorder Lvl] in
theorem entryIx_bijective : Function.Bijective (entryIx hg hn) :=
  si.rowMajor.symm.bijective.comp (finCongr hn.symm).bijective

omit [Preorder Lvl] in
/-- All the rows of one gather together: the destination written with the gather's payload, the list and the source back. -/
theorem rowBack_all (ho : 0 < s.size hg.axis') (r : Fin (s.size hg.axis') → Fin (s₀.size hg.axis)) :
    (bigSep Finset.univ (rowBack c src dst hg offs hn q qo fs fd fo ho r) : sProp 𝕄)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hd := pointsTo_rows_write (Ix := Ix) (Name := Name) (U := U) (Lvl := Lvl) (Val := Elt F) c dst.view hg.axis' fd
    (rowPay c src hg fs r) (gatherPayload hg (src.view.read (Elt F) fs) r)
    fun j i => by unfold gatherPayload rowPay; rw [Shape.Gathers.idx_rowRect_emb]
  unfold rowBack
  iintro H
  ihave H1 := Transfers.bigSep_sep_out _ _ _ $$ H
  icases H1 with ⟨H2, Hs⟩
  ihave H3 := Transfers.bigSep_sep_out _ _ _ $$ H2
  icases H3 with ⟨Hd, Hl⟩
  isplitl [Hd]
  · ihave Hd' := hd $$ Hd
    iexact Hd'
  isplitl [Hs]
  · iapply (Entails.of_eq (pointsTo_piecesOf (src.view.set) fs ho q).symm) $$ Hs
  · iapply (Entails.of_eq (pointsTo_entries c offs.view (entryIx hg hn) (entryIx_bijective hg hn) qo fo).symm) $$ Hl

end Row

/-- The next gather of a batch is issued: its rows are transfers `t 0, t 1, …` of the batch, the next ones in order. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {B : Fin n → sProp 𝕄} {j₀ j₁ u : ℕ} (ι : Ix) (N : ℕ) (ho : 0 < s.size hg.axis')
    (hin : ∀ x, (offs.view.read (Elt F) fo x).toNat < s₀.size hg.axis)
    (hN : ∀ j, (dst.slice (s.rowRect hg.axis' j) (s.stride_rowRect hg.axis' j)).view.dmaCredit = N)
    (t : Fin (s.size hg.axis') → Fin n)
    (hB : ∀ j, (rowBack c src dst hg offs hn q qo fs fd fo ho (rows (offs.view.read (Elt F) fo) hn hin) j : sProp 𝕄) ⊢ B (t j))
    (ht : ∀ Φ : Fin n → sProp 𝕄, bigSep (Transfers.pending j₀) Φ = iprop((bigSep Finset.univ fun j => Φ (t j)) ∗ bigSep (Transfers.pending j₁) Φ))
    (hj : j₁ * N - u = (j₀ * N - u) + s.size hg.axis' * N) :
    iprop((src.view.loc c ↦[src.view.set]{q} fs) ∗ (dst.view.loc c ↦[dst.view.set]{fullShare} fd)
        ∗ (offs.view.loc c ↦[offs.view.set]{qo} fo) ∗ Transfers.Batch EC c (.dma sem) ι N B j₀ u)
      ⊢ iprop((Transfers.Batch EC c (.dma sem) ι N B j₁ u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have hrd : ∀ j, (rowOf (s₀.size hg.axis) (offs.view.read (Elt F) fo (entryIx hg hn j))).map (gatherRow (F := F) c src dst hg sem hsrc he hsp hr j)
      = some (gatherRow c src dst hg sem hsrc he hsp hr j (rows (offs.view.read (Elt F) fo) hn hin j)) := fun j => by
    rw [rowOf_of_lt (hin _)]; rfl
  unfold Transfers.Batch
  iintro ⟨Hs, Hd, Hl, ⟨%γ, %γ₀, %κ, #Hinv, HI, H0, Hcred⟩⟩ Hk
  ihave HI' := (Entails.of_eq (ht fun t => count EC (γ t) 0)) $$ HI
  icases HI' with ⟨Hnow, Hlater⟩
  ihave Hd' := (Entails.of_eq (pointsTo_rows c dst.view hg.axis' fullShare fd)) $$ Hd
  ihave Hl' := (Entails.of_eq (pointsTo_entries c offs.view (entryIx hg hn) (entryIx_bijective hg hn) qo fo)) $$ Hl
  ihave Hs' := (Entails.of_eq (pointsTo_piecesOf (src.view.set) fs ho q)) $$ Hs
  iapply (wp_enqueueIndirectDma 𝒱 c bd Set.univ (qo := qo) (fo := fo)
    (rd := fun j => gatherRow c src dst hg sem hsrc he hsp hr j (rows (offs.view.read (Elt F) fo) hn hin j)) ι (s.size hg.axis' * N)
    (by
      intro j x x' ρ ρ' h h'
      obtain ⟨_, _, rfl⟩ := Option.map_eq_some_iff.mp h
      obtain ⟨_, _, rfl⟩ := Option.map_eq_some_iff.mp h'
      rfl) hrd
    (by rw [Finset.sum_congr rfl fun j _ => hN j, Finset.sum_const, Finset.card_univ, Fintype.card_fin, smul_eq_mul])) $$ [Hd' Hl' Hs' Hnow]
  · have hrow : ∀ j, iprop(inv κ (Transfers.batchBody EC (c, SemLoc.dma sem) N B γ γ₀)
          ∗ ((((dst.view.loc c ↦[(dst.view.slice (s.rowRect hg.axis' j)).set]{fullShare} fd) ∗ (offs.view.loc c ↦[{offs.view.emb (entryIx hg hn j)}]{qo} fo))
          ∗ (src.view.loc c ↦[src.view.set]{pieceOf q _ ho j} fs)) ∗ count EC (γ (t j)) 0))
        ⊢ (iprop((offs.view.loc c ↦[{offs.view.emb (entryIx hg hn j)}]{qo} fo) ∗ ((offs.view.loc c ↦[{offs.view.emb (entryIx hg hn j)}]{qo} fo)
            -∗ rowRes c (gatherRow c src dst hg sem hsrc he hsp hr j (rows (offs.view.read (Elt F) fo) hn hin j)))) : sProp 𝕄) := fun j => by
      iintro ⟨#Hinv, ⟨⟨Hr, He⟩, Hq⟩, Ht⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (rowPay c src hg fs (rows (offs.view.read (Elt F) fo) hn hin) j) Finset.univ))
        ∗ (offs.view.loc c ↦[{offs.view.emb (entryIx hg hn j)}]{qo} fo))
      isplitl [Hq]; · iexact Hq
      isplitl [Hr He]
      · iapply writeUpdate_frame
        isplitl [Hr]
        · iapply (pointsTo_writeUpdate c (v := dst.view.slice (s.rowRect hg.axis' j)) subset_rfl) $$ Hr
        · iexact He
      · rw [show (gatherRow c src dst hg sem hsrc he hsp hr j (rows (offs.view.read (Elt F) fo) hn hin j)).dst.view.amount (SemLoc.dma sem) = N from hN j]
        iapply (Transfers.batch_creditUpdate EC (t j) (hB j))
        isplitr; · iexact Hinv
        iexact Ht
    unfold Stream.res
    ihave H1 := Transfers.bigSep_sep_in _ _ _ $$ [Hd' Hl']; · isplitl [Hd'] <;> iassumption
    ihave H2 := Transfers.bigSep_sep_in _ _ _ $$ [H1 Hs']; · isplitl [H1] <;> iassumption
    ihave H3 := Transfers.bigSep_sep_in _ _ _ $$ [H2 Hnow]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [Hlater]; · iexact Hlater
  isplitl [H0]; · iexact H0
  rw [hj, ← tallyAt_add]
  icombine Hcred Hcred' as H
  iexact H

end Cert.Proof.GatherBatch

end
-- ==== Proof.KI.Setup.lean ====
/- The launch as its theorem sees it, and the ghost state: one round library for the call's handshakes, one for the
   pipelined regions' cells, counters for the copies a tile keeps in flight. -/
module

public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Setup

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

end Cert.KernelIdeal.Setup

end
-- ==== Proof.KI.Host.lean ====
/- @main's host operations, in the stretches the two pipelined regions and the SparseCore call cut it into. -/
module

public import proofs.«01_k».proof.Proof.KI.Setup

@[expose] public section

set_option maxRecDepth 16384

noncomputable section

namespace Cert.KernelIdeal.Host

open Cert.KernelIdeal Cert.KernelIdeal.Gen
open Idealize.ShloMosaic Idealize.ShloMosaic.TcCoe
open Idealize.SL Idealize.SL.Sem

variable {F : FTy → Type} [FloatOps F]

/-- The operations before the first region. -/
abbrev hostA : List (HloOp τ sig (Elt F)) :=
  [ StableHlo.unary main_arg0 main_v0 ((extractStridedSlice S1024x1x3 ![0, 0, 0] · slices_S1024x64x3_S1024x1x3_0_0_0) : (⟨S1024x64x3, .f32⟩ : BufTy).Contents (Elt F) → (⟨S1024x1x3, .f32⟩ : BufTy).Contents (Elt F)),
    StableHlo.reshape main_v0 main_v1 (rfl : (.f32 : EltTy) = .f32) shapeCasts_S1024x1x3_S1024x3,
    StableHlo.unary main_v1 main_v2 ((transpose S3x1024 [1, 0] · transposes_S1024x3_S3x1024_1_0) : (⟨S1024x3, .f32⟩ : BufTy).Contents (Elt F) → (⟨S3x1024, .f32⟩ : BufTy).Contents (Elt F)),
    StableHlo.unary main_arg2 main_v3 ((transpose S64x3 [1, 0] · transposes_S3x64_S64x3_1_0) : (⟨S3x64, .f32⟩ : BufTy).Contents (Elt F) → (⟨S64x3, .f32⟩ : BufTy).Contents (Elt F)),
    StableHlo.reshape main_arg3 main_v4 (rfl : (.f32 : EltTy) = .f32) shapeCasts_S64_S64x1,
    StableHlo.nullary main_cst (constant S_ .f32 0x00000000#32),
    StableHlo.unary main_cst main_v5 (broadcastInDim S768x64 ![] bcast_S_S768x64 : (⟨S_, .f32⟩ : BufTy).Contents (Elt F) → (⟨S768x64, .f32⟩ : BufTy).Contents (Elt F)),
    StableHlo.unary main_arg4 main_v6 ((transpose S724x64 [1, 0] · transposes_S64x724_S724x64_1_0) : (⟨S64x724, .f32⟩ : BufTy).Contents (Elt F) → (⟨S724x64, .f32⟩ : BufTy).Contents (Elt F)),
    StableHlo.nullary main_c (constantI S_ 32 0#32),
    StableHlo.unary main_c main_v7 (broadcastInDim S1 ![] bcast_S_S1 : (⟨S_, .i32⟩ : BufTy).Contents (Elt F) → (⟨S1, .i32⟩ : BufTy).Contents (Elt F)),
    StableHlo.ternary main_v5 main_v7 main_v6 main_v8 ((fun x i u => Host.scatter scatter_S768x64_S1_S724x64_01_n_0_0 (fun _ b => b) x i u) : (⟨S768x64, .f32⟩ : BufTy).Contents (Elt F) → (⟨S1, .i32⟩ : BufTy).Contents (Elt F) → (⟨S724x64, .f32⟩ : BufTy).Contents (Elt F) → (⟨S768x64, .f32⟩ : BufTy).Contents (Elt F)),
    StableHlo.nullary main_v9 (iotaInDim S768 32 0),
    StableHlo.nullary main_c_0 (constantI S_ 32 724#32),
    StableHlo.unary main_c_0 main_v10 (broadcastInDim S768 ![] bcast_S_S768 : (⟨S_, .i32⟩ : BufTy).Contents (Elt F) → (⟨S768, .i32⟩ : BufTy).Contents (Elt F)),
    StableHlo.binary main_v9 main_v10 main_v11 (cmpi .slt : (⟨S768, .i32⟩ : BufTy).Contents (Elt F) → (⟨S768, .i32⟩ : BufTy).Contents (Elt F) → (⟨S768, .i1⟩ : BufTy).Contents (Elt F)),
    StableHlo.nullary main_cst_1 (constant S_ .f32 0x00000000#32),
    StableHlo.nullary main_cst_2 (constant S_ .f32 0xF149F2CA#32),
    StableHlo.TRef.unary (.of main_cst_1 : StableHlo.TRef sig ⟨S_, .f32⟩) (.of main_call0_v0 : StableHlo.TRef sig ⟨S768, .f32⟩) (broadcastInDim S768 ![] bcast_S_S768),
    StableHlo.TRef.unary (.of main_cst_2 : StableHlo.TRef sig ⟨S_, .f32⟩) (.of main_call0_v1 : StableHlo.TRef sig ⟨S768, .f32⟩) (broadcastInDim S768 ![] bcast_S_S768),
    StableHlo.TRef.ternary (.of main_v11 : StableHlo.TRef sig ⟨S768, .i1⟩) (.of main_call0_v0 : StableHlo.TRef sig ⟨S768, .f32⟩) (.of main_call0_v1 : StableHlo.TRef sig ⟨S768, .f32⟩) (.of main_v12 : StableHlo.TRef sig ⟨S768, .f32⟩) select,
    StableHlo.unary main_v12 main_v13 (id : (⟨S768, .f32⟩ : BufTy).Contents (Elt F) → (⟨S768, .f32⟩ : BufTy).Contents (Elt F)),
    StableHlo.reshape main_v13 main_v14 (rfl : (.f32 : EltTy) = .f32) shapeCasts_S768_S768x1,
    StableHlo.nullary main_cst_3 (constant S_ .f32 0x00000000#32),
    StableHlo.unary main_cst_3 main_v15 (broadcastInDim S3x768 ![] bcast_S_S3x768 : (⟨S_, .f32⟩ : BufTy).Contents (Elt F) → (⟨S3x768, .f32⟩ : BufTy).Contents (Elt F)),
    StableHlo.unary main_arg1 main_v16 ((transpose S3x724 [1, 0] · transposes_S724x3_S3x724_1_0) : (⟨S724x3, .f32⟩ : BufTy).Contents (Elt F) → (⟨S3x724, .f32⟩ : BufTy).Contents (Elt F)),
    StableHlo.nullary main_c_4 (constantI S_ 32 0#32),
    StableHlo.unary main_c_4 main_v17 (broadcastInDim S1 ![] bcast_S_S1 : (⟨S_, .i32⟩ : BufTy).Contents (Elt F) → (⟨S1, .i32⟩ : BufTy).Contents (Elt F)),
    StableHlo.ternary main_v15 main_v17 main_v16 main_v18 ((fun x i u => Host.scatter scatter_S3x768_S1_S3x724_01_n_1_0 (fun _ b => b) x i u) : (⟨S3x768, .f32⟩ : BufTy).Contents (Elt F) → (⟨S1, .i32⟩ : BufTy).Contents (Elt F) → (⟨S3x724, .f32⟩ : BufTy).Contents (Elt F) → (⟨S3x768, .f32⟩ : BufTy).Contents (Elt F)),
    StableHlo.nullary main_cst_5 (constant S_ .f32 0x42700000#32),
    StableHlo.nullary main_cst_6 (constant S_ .f32 0x3C8EFA35#32),
    StableHlo.binary main_cst_5 main_cst_6 main_v19 (mulf : (⟨S_, .f32⟩ : BufTy).Contents (Elt F) → (⟨S_, .f32⟩ : BufTy).Contents (Elt F) → (⟨S_, .f32⟩ : BufTy).Contents (Elt F)),
    StableHlo.unary main_v19 main_v20 (Host.cos : (⟨S_, .f32⟩ : BufTy).Contents (Elt F) → (⟨S_, .f32⟩ : BufTy).Contents (Elt F)),
    StableHlo.reshape main_v20 main_v21 (rfl : (.f32 : EltTy) = .f32) shapeCasts_S_S1x1 ]

theorem hostA_sub : (hostA : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.nullary_bufs_sub .., StableHlo.unary_bufs_sub .., StableHlo.unary_bufs_sub .., StableHlo.nullary_bufs_sub .., StableHlo.unary_bufs_sub .., StableHlo.ternary_bufs_sub .., StableHlo.nullary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.unary_bufs_sub .., StableHlo.nullary_bufs_sub .., StableHlo.unary_bufs_sub .., StableHlo.ternary_bufs_sub .., StableHlo.nullary_bufs_sub .., StableHlo.nullary_bufs_sub .., StableHlo.binary_bufs_sub .., StableHlo.unary_bufs_sub .., StableHlo.reshape_bufs_sub ..⟩
theorem hostA_fresh : (hostA : List (HloOp τ sig (Elt F))).Forall fun op => op.fresh = ∅ := by
  simp only [List.Forall]; repeat' constructor
/-- What each writes, in order. -/
abbrev hostA_W : List (Ref sig .tc) := [main_v0, main_v1, main_v2, main_v3, main_v4, main_cst, main_v5, main_v6, main_c, main_v7, main_v8, main_v9, main_c_0, main_v10, main_v11, main_cst_1, main_cst_2, main_call0_v0, main_call0_v1, main_v12, main_v13, main_v14, main_cst_3, main_v15, main_v16, main_c_4, main_v17, main_v18, main_cst_5, main_cst_6, main_v19, main_v20, main_v21]
theorem hostA_writes : (hostA : List (HloOp τ sig (Elt F))).Forall fun op => op.writes ⊆ (hostA_W.map (Proc.devRef (τ := τ) .tc)).toFinset :=
  StableHlo.forall_writes_sub_of_map rfl

/-- from the first region to the SparseCore call. -/
abbrev hostB : List (HloOp τ sig (Elt F)) :=
  [ StableHlo.reshape main_v22_2 main_v23 (rfl : (.i32 : EltTy) = .i32) shapeCasts_S64x1x1024_S32x16x128,
    StableHlo.reshape main_arg5 main_v24 (rfl : (.f32 : EltTy) = .f32) shapeCasts_S96x96x96_S884736 ]

theorem hostB_sub : (hostB : List (HloOp τ sig (Elt F))).Forall fun op => op.bufs ⊆ StableHlo.tcRefs τ sig :=
  ⟨StableHlo.reshape_bufs_sub .., StableHlo.reshape_bufs_sub ..⟩
theorem hostB_fresh : (hostB : List (HloOp τ sig (Elt F))).Forall fun op => op.fresh = ∅ := by
  simp only [List.Forall]; repeat' constructor
/-- What each writes, in order. -/
abbrev hostB_W : List (Ref sig .tc) := [main_v23, main_v24]
theorem hostB_writes : (hostB : List (HloOp τ sig (Elt F))).Forall fun op => op.writes ⊆ (hostB_W.map (Proc.devRef (τ := τ) .tc)).toFinset :=
  StableHlo.forall_writes_sub_of_map rfl

/-- from the call to the second region. -/
abbrev hostC : List (HloOp τ sig (Elt F)) :=
  [ StableHlo.reshape main_v25 main_v26 (rfl : (.f32 : EltTy) = .f32) shapeCasts_S32x16x128_S64x1024,
    StableHlo.reshape main_v22_1 main_v27 (rfl : (.f32 : EltTy) = .f32) shapeCasts_S64x1x1024_S64x1024 ]

theorem hostC_sub : (hostC : List (HloOp τ sig (Elt F))).Forall fun op => op.bufs ⊆ StableHlo.tcRefs τ sig :=
  ⟨StableHlo.reshape_bufs_sub .., StableHlo.reshape_bufs_sub ..⟩
theorem hostC_fresh : (hostC : List (HloOp τ sig (Elt F))).Forall fun op => op.fresh = ∅ := by
  simp only [List.Forall]; repeat' constructor
/-- What each writes, in order. -/
abbrev hostC_W : List (Ref sig .tc) := [main_v26, main_v27]
theorem hostC_writes : (hostC : List (HloOp τ sig (Elt F))).Forall fun op => op.writes ⊆ (hostC_W.map (Proc.devRef (τ := τ) .tc)).toFinset :=
  StableHlo.forall_writes_sub_of_map rfl

/-- and after it. -/
abbrev hostD : List (HloOp τ sig (Elt F)) :=
  [ StableHlo.unary main_v28_0 main_v29 ((transpose S1024x64x3 [2, 0, 1] · transposes_S64x3x1024_S1024x64x3_2_0_1) : (⟨S64x3x1024, .f32⟩ : BufTy).Contents (Elt F) → (⟨S1024x64x3, .f32⟩ : BufTy).Contents (Elt F)),
    StableHlo.reshape main_v28_1 main_v30 (rfl : (.i32 : EltTy) = .i32) shapeCasts_S1x1024_S1024 ]

theorem hostD_sub : (hostD : List (HloOp τ sig (Elt F))).Forall fun op => op.bufs ⊆ StableHlo.tcRefs τ sig :=
  ⟨StableHlo.unary_bufs_sub .., StableHlo.reshape_bufs_sub ..⟩
theorem hostD_fresh : (hostD : List (HloOp τ sig (Elt F))).Forall fun op => op.fresh = ∅ := by
  simp only [List.Forall]; repeat' constructor
/-- What each writes, in order. -/
abbrev hostD_W : List (Ref sig .tc) := [main_v29, main_v30]
theorem hostD_writes : (hostD : List (HloOp τ sig (Elt F))).Forall fun op => op.writes ⊆ (hostD_W.map (Proc.devRef (τ := τ) .tc)).toFinset :=
  StableHlo.forall_writes_sub_of_map rfl

set_option maxHeartbeats 1000000 in
theorem main_eq (d : Dev nD) : main (F := F) d
    = (StableHlo.seq hostA >>= fun _ => Prog.lift (.customCall (SparseCore.inner (Pipeline.entry 0)) ()) >>= fun _ =>
        StableHlo.seq hostB >>= fun _ => sc.run d 0 >>= fun _ =>
        StableHlo.seq hostC >>= fun _ => Prog.lift (.customCall (SparseCore.inner (Pipeline.entry 1)) ()) >>= fun _ =>
        StableHlo.seq hostD) := by
  unfold main fn_where.body
  simp only [StableHlo.seq, bind_assoc, pure_bind]

end Cert.KernelIdeal.Host

end
-- ==== Proof.KI.Traj.lean ====
/- The trajectory kernel's body, run once at symbolic staging buffers: what its three outputs hold after it, stated as
   functions of what its six inputs held. -/
module

public import proofs.«01_k».proof.Proof.Gen.KernelIdeal.Skeleton
public import proofs.«01_k».proof.Proof.Gen.KernelIdeal.Loops
public import Idealize.ShloMosaic.Lib.Pipeline.FrameBody
public import Idealize.ShloMosaic.Lib.WritesUnit
public import Idealize.ShloMosaic.Lib.VecWindow
public import Idealize.ShloMosaic.Lib.ValueLayout
public import Idealize.ShloMosaic.Lib.ValueIdxCore
public import Idealize.ShloMosaic.Lib.Ring
public import Idealize.ShloMosaic.Lib.Tactic

@[expose] public section

set_option maxRecDepth 16384

noncomputable section

namespace Cert.KernelIdeal.Traj

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The values -/

section Values

variable (x0 : Vec F S3x128 .f32) (x1 : Vec F S64x3 .f32) (x2 : Vec F S64x1 .f32) (x3 : Vec F S768x64 .f32)
  (x4 : Vec F S768x1 .f32) (x5 : Vec F S3x768 .f32)

/-- Each direction's number, in every track's column. -/
def rowNo : IVec S768x128 32 := iota .tc S768x128 32 [0] iota_S768x128_d0_w32

/-- The direction picked at the positions `p`. -/
def dir (p : FVec F S3x128 .f32) : FVec F S3x128 .f32 := k0_pay9 rowNo p x1 x2 x3 x4 x5

/-- Positions and last directions before trip `t`. -/
def st : ℕ → FVec F S3x128 .f32 × FVec F S3x128 .f32
  | 0 => (k0_pay1 x0, k0_pay5)
  | t + 1 => (k0_pay7 (st t).1 (dir x1 x2 x3 x4 x5 (st t).1), dir x1 x2 x3 x4 x5 (st t).1)

/-- The positions of every step. -/
def qArr : Vec F S64x3x128 .f32 := fun y => (st x0 x1 x2 x3 x4 x5 (y 0).val).1 (ix2 (y 1) (y 2))

/-- The cosines of every step against the one before, the last row zero. -/
def dotArr : Vec F S64x1x128 .f32 := fun y =>
  if (y 0).val = 63 then k0_pay4 (F := F) (ix3 0 0 (y 2))
  else k0_pay10 rowNo (st x0 x1 x2 x3 x4 x5 (y 0).val).1 (st x0 x1 x2 x3 x4 x5 (y 0).val).2 x1 x2 x3 x4 x5 (ix3 0 0 (y 2))

/-- The voxel numbers of every step, the last row zero. -/
def linArr : Vec F S64x1x128 .i32 := fun y =>
  if (y 0).val = 63 then k0_pay3 (ix3 0 0 (y 2)) else k0_pay6 (st x0 x1 x2 x3 x4 x5 (y 0).val).1 (ix3 0 0 (y 2))

/-! ## The stores, trip by trip, the last first -/

/-- The positions stored by the trips before `k`. -/
def qPcs : ℕ → List (View.Piece (Elt F) S64x3x128 .f32)
  | 0 => []
  | k + 1 => if h : k < k0_t1_loop.trips then
      ⟨Rect.unit (s := S64x3x128) (k0_off2 ⟨k, h⟩) S1x3x128.size (k0_off2_inb ⟨k, h⟩),
        k0_pay8 (st x0 x1 x2 x3 x4 x5 k).1 (dir x1 x2 x3 x4 x5 (st x0 x1 x2 x3 x4 x5 k).1)⟩ :: qPcs k
    else qPcs k

/-- The cosines stored by the trips before `k`. -/
def dotPcs : ℕ → List (View.Piece (Elt F) S64x1x128 .f32)
  | 0 => []
  | k + 1 => if h : k < k0_t1_loop.trips then
      ⟨Rect.unit (s := S64x1x128) (k0_off1 ⟨k, h⟩) S1x1x128.size (k0_off1_inb ⟨k, h⟩),
        k0_pay10 rowNo (st x0 x1 x2 x3 x4 x5 k).1 (st x0 x1 x2 x3 x4 x5 k).2 x1 x2 x3 x4 x5⟩ :: dotPcs k
    else dotPcs k

/-- The voxel numbers stored by the trips before `k`. -/
def linPcs : ℕ → List (View.Piece (Elt F) S64x1x128 .i32)
  | 0 => []
  | k + 1 => if h : k < k0_t1_loop.trips then
      ⟨Rect.unit (s := S64x1x128) (k0_off1 ⟨k, h⟩) S1x1x128.size (k0_off1_inb ⟨k, h⟩),
        k0_pay6 (st x0 x1 x2 x3 x4 x5 k).1⟩ :: linPcs k
    else linPcs k

theorem qPcs_succ (k : Fin k0_t1_loop.trips) : qPcs x0 x1 x2 x3 x4 x5 (k.val + 1) =
    ⟨Rect.unit (s := S64x3x128) (k0_off2 k) S1x3x128.size (k0_off2_inb k),
      k0_pay8 (st x0 x1 x2 x3 x4 x5 k.val).1 (dir x1 x2 x3 x4 x5 (st x0 x1 x2 x3 x4 x5 k.val).1)⟩ :: qPcs x0 x1 x2 x3 x4 x5 k.val := by
  rw [qPcs]; exact dif_pos k.isLt

theorem dotPcs_succ (k : Fin k0_t1_loop.trips) : dotPcs x0 x1 x2 x3 x4 x5 (k.val + 1) =
    ⟨Rect.unit (s := S64x1x128) (k0_off1 k) S1x1x128.size (k0_off1_inb k),
      k0_pay10 rowNo (st x0 x1 x2 x3 x4 x5 k.val).1 (st x0 x1 x2 x3 x4 x5 k.val).2 x1 x2 x3 x4 x5⟩ :: dotPcs x0 x1 x2 x3 x4 x5 k.val := by
  rw [dotPcs]; exact dif_pos k.isLt

theorem linPcs_succ (k : Fin k0_t1_loop.trips) : linPcs x0 x1 x2 x3 x4 x5 (k.val + 1) =
    ⟨Rect.unit (s := S64x1x128) (k0_off1 k) S1x1x128.size (k0_off1_inb k),
      k0_pay6 (st x0 x1 x2 x3 x4 x5 k.val).1⟩ :: linPcs x0 x1 x2 x3 x4 x5 k.val := by
  rw [linPcs]; exact dif_pos k.isLt

theorem trips_eq : k0_t1_loop.trips = 63 := by decide +kernel

/-- A piece of the first `k` trips is one trip's. -/
theorem mem_qPcs (k : ℕ) (p : View.Piece (Elt F) S64x3x128 .f32) (hp : p ∈ qPcs x0 x1 x2 x3 x4 x5 k) :
    ∃ j : Fin k0_t1_loop.trips, p = ⟨Rect.unit (s := S64x3x128) (k0_off2 j) S1x3x128.size (k0_off2_inb j),
      k0_pay8 (st x0 x1 x2 x3 x4 x5 j.val).1 (dir x1 x2 x3 x4 x5 (st x0 x1 x2 x3 x4 x5 j.val).1)⟩ := by
  induction k with
  | zero => exact absurd hp List.not_mem_nil
  | succ k ih =>
    rw [qPcs] at hp
    split at hp
    · rcases List.mem_cons.mp hp with h | h
      · exact ⟨_, h⟩
      · exact ih h
    · exact ih hp

theorem mem_dotPcs (k : ℕ) (p : View.Piece (Elt F) S64x1x128 .f32) (hp : p ∈ dotPcs x0 x1 x2 x3 x4 x5 k) :
    ∃ j : Fin k0_t1_loop.trips, p = ⟨Rect.unit (s := S64x1x128) (k0_off1 j) S1x1x128.size (k0_off1_inb j),
      k0_pay10 rowNo (st x0 x1 x2 x3 x4 x5 j.val).1 (st x0 x1 x2 x3 x4 x5 j.val).2 x1 x2 x3 x4 x5⟩ := by
  induction k with
  | zero => exact absurd hp List.not_mem_nil
  | succ k ih =>
    rw [dotPcs] at hp
    split at hp
    · rcases List.mem_cons.mp hp with h | h
      · exact ⟨_, h⟩
      · exact ih h
    · exact ih hp

theorem mem_linPcs (k : ℕ) (p : View.Piece (Elt F) S64x1x128 .i32) (hp : p ∈ linPcs x0 x1 x2 x3 x4 x5 k) :
    ∃ j : Fin k0_t1_loop.trips, p = ⟨Rect.unit (s := S64x1x128) (k0_off1 j) S1x1x128.size (k0_off1_inb j),
      k0_pay6 (st x0 x1 x2 x3 x4 x5 j.val).1⟩ := by
  induction k with
  | zero => exact absurd hp List.not_mem_nil
  | succ k ih =>
    rw [linPcs] at hp
    split at hp
    · rcases List.mem_cons.mp hp with h | h
      · exact ⟨_, h⟩
      · exact ih h
    · exact ih hp

/-- Each trip before `k` is among the pieces. -/
theorem qPcs_mem (k : ℕ) (j : Fin k0_t1_loop.trips) (hj : j.val < k) :
    ⟨Rect.unit (s := S64x3x128) (k0_off2 j) S1x3x128.size (k0_off2_inb j),
      k0_pay8 (st x0 x1 x2 x3 x4 x5 j.val).1 (dir x1 x2 x3 x4 x5 (st x0 x1 x2 x3 x4 x5 j.val).1)⟩ ∈ qPcs x0 x1 x2 x3 x4 x5 k := by
  induction k with
  | zero => omega
  | succ k ih =>
    rcases Nat.lt_succ_iff_lt_or_eq.mp hj with h | h
    · rw [qPcs]; split
      · exact List.mem_cons_of_mem _ (ih h)
      · exact ih h
    · subst h; rw [qPcs_succ]; exact List.mem_cons_self

theorem dotPcs_mem (k : ℕ) (j : Fin k0_t1_loop.trips) (hj : j.val < k) :
    ⟨Rect.unit (s := S64x1x128) (k0_off1 j) S1x1x128.size (k0_off1_inb j),
      k0_pay10 rowNo (st x0 x1 x2 x3 x4 x5 j.val).1 (st x0 x1 x2 x3 x4 x5 j.val).2 x1 x2 x3 x4 x5⟩ ∈ dotPcs x0 x1 x2 x3 x4 x5 k := by
  induction k with
  | zero => omega
  | succ k ih =>
    rcases Nat.lt_succ_iff_lt_or_eq.mp hj with h | h
    · rw [dotPcs]; split
      · exact List.mem_cons_of_mem _ (ih h)
      · exact ih h
    · subst h; rw [dotPcs_succ]; exact List.mem_cons_self

theorem linPcs_mem (k : ℕ) (j : Fin k0_t1_loop.trips) (hj : j.val < k) :
    ⟨Rect.unit (s := S64x1x128) (k0_off1 j) S1x1x128.size (k0_off1_inb j),
      k0_pay6 (st x0 x1 x2 x3 x4 x5 j.val).1⟩ ∈ linPcs x0 x1 x2 x3 x4 x5 k := by
  induction k with
  | zero => omega
  | succ k ih =>
    rcases Nat.lt_succ_iff_lt_or_eq.mp hj with h | h
    · rw [linPcs]; split
      · exact List.mem_cons_of_mem _ (ih h)
      · exact ih h
    · subst h; rw [linPcs_succ]; exact List.mem_cons_self

/-- A row rectangle of a three-axis array holds the places of its row. -/
theorem mem_row {n0 n1 n2 : ℕ} (off : Fin 3 → ℕ) (j : ℕ) (h : off = ![j, 0, 0])
    (inb : ∀ a, off a + (⟨3, ![1, n1, n2]⟩ : Shape).size a ≤ (⟨3, ![n0, n1, n2]⟩ : Shape).size a)
    (y : (⟨3, ![n0, n1, n2]⟩ : Shape).Idx) (hy : (y 0).val = j) :
    y ∈ (Rect.unit (s := ⟨3, ![n0, n1, n2]⟩) off (⟨3, ![1, n1, n2]⟩ : Shape).size inb).set := by
  subst h
  rw [Rect.mem_set_unit]
  intro a
  match a with
  | ⟨0, _⟩ => exact ⟨le_of_eq hy.symm, by show (y 0).val < j + 1; omega⟩
  | ⟨1, _⟩ => exact ⟨Nat.zero_le _, by show (y 1).val < 0 + n1; have := (y 1).isLt; have : (y 1).val < n1 := this; omega⟩
  | ⟨2, _⟩ => exact ⟨Nat.zero_le _, by show (y 2).val < 0 + n2; have := (y 2).isLt; have : (y 2).val < n2 := this; omega⟩

/-- Where a row rectangle's place `x` lies in the array. -/
theorem emb_row {n0 n1 n2 : ℕ} (off : Fin 3 → ℕ) (j : ℕ) (h : off = ![j, 0, 0])
    (inb : ∀ a, off a + (⟨3, ![1, n1, n2]⟩ : Shape).size a ≤ (⟨3, ![n0, n1, n2]⟩ : Shape).size a) (hj : j < n0)
    (x : (Rect.unit (s := ⟨3, ![n0, n1, n2]⟩) off (⟨3, ![1, n1, n2]⟩ : Shape).size inb).shape.Idx) :
    (Rect.unit (s := ⟨3, ![n0, n1, n2]⟩) off (⟨3, ![1, n1, n2]⟩ : Shape).size inb).emb x = ix3 ⟨j, hj⟩ (x 1) (x 2) := by
  subst h
  funext a
  apply Fin.ext
  have h0 : (x 0).val = 0 := by have h : (x 0).val < 1 := (x 0).isLt; omega
  match a with
  | ⟨0, _⟩ => show j + 1 * (x 0).val = j; omega
  | ⟨1, _⟩ => show 0 + 1 * (x 1).val = (x 1).val; omega
  | ⟨2, _⟩ => show 0 + 1 * (x 2).val = (x 2).val; omega

/-- A place of a one-row shape. -/
theorem eq_row {n1 n2 : ℕ} (x : (⟨3, ![1, n1, n2]⟩ : Shape).Idx) : x = ix3 0 (x 1) (x 2) := by
  conv_lhs => rw [eq_ix3 x]
  congr 1; exact Subsingleton.elim (α := Fin 1) _ _

theorem pay8_apply (p d : FVec F S3x128 .f32) (a : Fin 3) (b : Fin 128) : k0_pay8 p d (ix3 0 a b) = k0_pay7 p d (ix2 a b) := by
  unfold k0_pay8; exact shapeCast_ab_1ab_apply _ _ _ _ _

theorem pay2_apply (a : Fin 3) (b : Fin 128) : k0_pay2 x0 (ix3 0 a b) = k0_pay1 x0 (ix2 a b) := by
  unfold k0_pay2; exact shapeCast_ab_1ab_apply _ _ _ _ _

/-- Every store of the body read back: the positions. -/
theorem read_q {sig : RefSig} {κ : Kind} {sp : Space} (v : View sig κ sp S64x3x128 .f32) (f : v.ty.Contents (Elt F)) (k : ℕ) (hk : k = 63)
    (inb) : v.read (Elt F) (v.writes (Elt F) f (qPcs x0 x1 x2 x3 x4 x5 k ++
      [⟨Rect.unit (s := S64x3x128) ![0, 0, 0] S1x3x128.size inb, k0_pay2 x0⟩])) = qArr x0 x1 x2 x3 x4 x5 := by
  funext y
  refine View.read_writes_apply_of_pieces v f _ _ ?_ y ?_
  · intro p hp x
    rcases List.mem_append.mp hp with hp | hp
    · obtain ⟨j, rfl⟩ := mem_qPcs _ _ _ _ _ _ _ _ hp
      have hj : j.val < 63 := lt_of_lt_of_eq j.isLt trips_eq
      dsimp only at x ⊢
      rw [emb_row (k0_off2 j) (j.val + 1) (k0_off2_eq j) _ (by omega) x]
      exact (congrArg (k0_pay8 _ _) (eq_row x)).trans (pay8_apply _ _ _ _)
    · obtain rfl := List.mem_singleton.mp hp
      dsimp only at x ⊢
      rw [emb_row ![0, 0, 0] 0 rfl _ (by omega) x]
      exact (congrArg (k0_pay2 _) (eq_row x)).trans (pay2_apply _ _ _)
  · by_cases h0 : (y 0).val = 0
    · exact ⟨_, List.mem_append_right _ List.mem_cons_self, mem_row ![0, 0, 0] 0 rfl inb y h0⟩
    · have hy : (y 0).val < 64 := (y 0).isLt
      exact ⟨_, List.mem_append_left _ (qPcs_mem x0 x1 x2 x3 x4 x5 k ⟨(y 0).val - 1, by rw [trips_eq]; omega⟩ (by show (y 0).val - 1 < k; omega)),
        mem_row _ ((y 0).val - 1 + 1) (k0_off2_eq _) (k0_off2_inb _) y (by omega)⟩

/-- The cosines. -/
theorem read_dot {sig : RefSig} {κ : Kind} {sp : Space} (v : View sig κ sp S64x1x128 .f32) (f : v.ty.Contents (Elt F)) (k : ℕ) (hk : k = 63)
    (inb) : v.read (Elt F) (v.writes (Elt F) f (dotPcs x0 x1 x2 x3 x4 x5 k ++
      [⟨Rect.unit (s := S64x1x128) ![63, 0, 0] S1x1x128.size inb, k0_pay4⟩])) = dotArr x0 x1 x2 x3 x4 x5 := by
  funext y
  refine View.read_writes_apply_of_pieces v f _ _ ?_ y ?_
  · intro p hp x
    rcases List.mem_append.mp hp with hp | hp
    · obtain ⟨j, rfl⟩ := mem_dotPcs _ _ _ _ _ _ _ _ hp
      have hj : j.val < 63 := lt_of_lt_of_eq j.isLt trips_eq
      dsimp only at x ⊢
      rw [emb_row (k0_off1 j) j.val (k0_off1_eq j) _ (by omega) x]
      refine Eq.trans ?_ (if_neg (by show ¬ j.val = 63; omega)).symm
      conv_lhs => rw [eq_row x]
      congr 1; exact congrArg (fun a => ix3 0 a (x 2)) (Subsingleton.elim (α := Fin 1) _ _)
    · obtain rfl := List.mem_singleton.mp hp
      dsimp only at x ⊢
      rw [emb_row ![63, 0, 0] 63 rfl _ (by omega) x]
      refine Eq.trans ?_ (if_pos rfl).symm
      conv_lhs => rw [eq_row x]
      congr 1; exact congrArg (fun a => ix3 0 a (x 2)) (Subsingleton.elim (α := Fin 1) _ _)
  · by_cases h0 : (y 0).val = 63
    · exact ⟨_, List.mem_append_right _ List.mem_cons_self, mem_row ![63, 0, 0] 63 rfl inb y h0⟩
    · have hy : (y 0).val < 64 := (y 0).isLt
      exact ⟨_, List.mem_append_left _ (dotPcs_mem x0 x1 x2 x3 x4 x5 k ⟨(y 0).val, by rw [trips_eq]; omega⟩ (by show (y 0).val < k; omega)),
        mem_row _ (y 0).val (k0_off1_eq _) (k0_off1_inb _) y rfl⟩

/-- The voxel numbers. -/
theorem read_lin {sig : RefSig} {κ : Kind} {sp : Space} (v : View sig κ sp S64x1x128 .i32) (f : v.ty.Contents (Elt F)) (k : ℕ) (hk : k = 63)
    (inb) : v.read (Elt F) (v.writes (Elt F) f (linPcs x0 x1 x2 x3 x4 x5 k ++
      [⟨Rect.unit (s := S64x1x128) ![63, 0, 0] S1x1x128.size inb, k0_pay3⟩])) = linArr x0 x1 x2 x3 x4 x5 := by
  funext y
  refine View.read_writes_apply_of_pieces v f _ _ ?_ y ?_
  · intro p hp x
    rcases List.mem_append.mp hp with hp | hp
    · obtain ⟨j, rfl⟩ := mem_linPcs _ _ _ _ _ _ _ _ hp
      have hj : j.val < 63 := lt_of_lt_of_eq j.isLt trips_eq
      dsimp only at x ⊢
      rw [emb_row (k0_off1 j) j.val (k0_off1_eq j) _ (by omega) x]
      refine Eq.trans ?_ (if_neg (by show ¬ j.val = 63; omega)).symm
      conv_lhs => rw [eq_row x]
      congr 1; exact congrArg (fun a => ix3 0 a (x 2)) (Subsingleton.elim (α := Fin 1) _ _)
    · obtain rfl := List.mem_singleton.mp hp
      dsimp only at x ⊢
      rw [emb_row ![63, 0, 0] 63 rfl _ (by omega) x]
      refine Eq.trans ?_ (if_pos rfl).symm
      conv_lhs => rw [eq_row x]
      congr 1; exact congrArg (fun a => ix3 0 a (x 2)) (Subsingleton.elim (α := Fin 1) _ _)
  · by_cases h0 : (y 0).val = 63
    · exact ⟨_, List.mem_append_right _ List.mem_cons_self, mem_row ![63, 0, 0] 63 rfl inb y h0⟩
    · have hy : (y 0).val < 64 := (y 0).isLt
      exact ⟨_, List.mem_append_left _ (linPcs_mem x0 x1 x2 x3 x4 x5 k ⟨(y 0).val, by rw [trips_eq]; omega⟩ (by show (y 0).val < k; omega)),
        mem_row _ (y 0).val (k0_off1_eq _) (k0_off1_inb _) y rfl⟩

end Values

/-! ## One trip -/

section Trip

variable {Ix Name U Lvl : Type} [DecidableEq Ix] [DecidableEq Name] [URA U] [Preorder Lvl]
local notation "𝕄" => MT nD τ sig Ix (Elt F) Name U Lvl

variable (𝒱 : Variants) (c : Dev nD) (bd : Option 𝒱.V) (E : Set Name) (i : grid0.Coords)
  (arg1 : Memref sig .tc .vmem S3x128 .f32) (harg1 : arg1.IsWhole) (arg2 : Memref sig .tc .vmem S64x3 .f32) (harg2 : arg2.IsWhole)
  (arg3 : Memref sig .tc .vmem S64x1 .f32) (harg3 : arg3.IsWhole) (arg4 : Memref sig .tc .vmem S768x64 .f32) (harg4 : arg4.IsWhole)
  (arg5 : Memref sig .tc .vmem S768x1 .f32) (harg5 : arg5.IsWhole) (arg6 : Memref sig .tc .vmem S3x768 .f32) (harg6 : arg6.IsWhole)
  (arg7 : Memref sig .tc .vmem S64x3x128 .f32) (harg7 : arg7.IsWhole) (arg8 : Memref sig .tc .vmem S64x1x128 .f32) (harg8 : arg8.IsWhole)
  (arg9 : Memref sig .tc .vmem S64x1x128 .i32) (harg9 : arg9.IsWhole)
  (x0 : Vec F S3x128 .f32) (x1 : Vec F S64x3 .f32) (x2 : Vec F S64x1 .f32) (x3 : Vec F S768x64 .f32)
  (x4 : Vec F S768x1 .f32) (x5 : Vec F S3x768 .f32)
  (G7 : BufTy.Contents (Elt F) arg7.view.ty) (G8 : BufTy.Contents (Elt F) arg8.view.ty) (G9 : BufTy.Contents (Elt F) arg9.view.ty)

/-- Before trip `k`: the inputs as they were, each output with the stores of the trips so far, and the carried pair. -/
abbrev inv (k : ℕ) (acc : FVec F S3x128 .f32 × FVec F S3x128 .f32) : sProp 𝕄 :=
  iprop((arg2.view.loc (c : Thread nD τ) ↦[arg2.view.set]{fullShare} harg2.unread x1)
    ∗ (arg3.view.loc (c : Thread nD τ) ↦[arg3.view.set]{fullShare} harg3.unread x2)
    ∗ (arg4.view.loc (c : Thread nD τ) ↦[arg4.view.set]{fullShare} harg4.unread x3)
    ∗ (arg5.view.loc (c : Thread nD τ) ↦[arg5.view.set]{fullShare} harg5.unread x4)
    ∗ (arg6.view.loc (c : Thread nD τ) ↦[arg6.view.set]{fullShare} harg6.unread x5)
    ∗ (∃ f, (arg7.view.loc (c : Thread nD τ) ↦[arg7.view.set]{fullShare} f)
        ∗ ⌜f = arg7.view.writes (Elt F) G7 (qPcs x0 x1 x2 x3 x4 x5 k)⌝)
    ∗ (∃ f, (arg8.view.loc (c : Thread nD τ) ↦[arg8.view.set]{fullShare} f)
        ∗ ⌜f = arg8.view.writes (Elt F) G8 (dotPcs x0 x1 x2 x3 x4 x5 k)⌝)
    ∗ (∃ f, (arg9.view.loc (c : Thread nD τ) ↦[arg9.view.set]{fullShare} f)
        ∗ ⌜f = arg9.view.writes (Elt F) G9 (linPcs x0 x1 x2 x3 x4 x5 k)⌝)
    ∗ ⌜acc = st x0 x1 x2 x3 x4 x5 k⌝)

set_option maxHeartbeats 4000000 in
/-- One trip's region, from the state before it to the state after. -/
theorem step (k : Fin k0_t1_loop.trips) (acc : FVec F S3x128 .f32 × FVec F S3x128 .f32) :
    inv (Ix := Ix) (Name := Name) (U := U) (Lvl := Lvl) c arg2 harg2 arg3 harg3 arg4 harg4 arg5 harg5 arg6 harg6 arg7 arg8 arg9 x0 x1 x2 x3 x4 x5 G7 G8 G9 k.val acc
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 rowNo k acc)
          (fun yld => inv (Ix := Ix) (Name := Name) (U := U) (Lvl := Lvl) c arg2 harg2 arg3 harg3 arg4 harg4 arg5 harg5 arg6 harg6 arg7 arg8 arg9 x0 x1 x2 x3 x4 x5 G7 G8 G9 (k.val + 1) yld) := by
  have hk : k.val < 63 := Nat.lt_of_lt_of_le k.isLt k0_t1_abs.2.1
  iintro ⟨H2, H3, H4, H5, H6, ⟨%f7, H7, %h7⟩, ⟨%f8, H8, %h8⟩, ⟨%f9, H9, %h9⟩, %hacc⟩
  subst hacc
  unfold k0_t1_body
  sl_exec
  sl_step
  have hr : step.sl.r arg2 harg2 arg3 harg3 arg4 harg4 arg5 harg5 arg6 harg6 x0 x1 x2 x3 x4 x5 k
      = dir x1 x2 x3 x4 x5 (st x0 x1 x2 x3 x4 x5 k.val).1 := by
    unfold step.sl.r dir
    rw [View.readAt_full, View.readAt_full, View.readAt_full, View.readAt_full, View.readAt_full,
      harg2.read_unread, harg3.read_unread, harg4.read_unread, harg5.read_unread, harg6.read_unread]
  rw [hr, View.readAt_full, View.readAt_full, View.readAt_full, View.readAt_full, View.readAt_full,
      harg2.read_unread, harg3.read_unread, harg4.read_unread, harg5.read_unread, harg6.read_unread]
  unfold inv
  rw [qPcs_succ, dotPcs_succ, linPcs_succ]
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; rw [h7]; rfl
  isplitl [H8]
  · iexists _; isplitl [H8]; · iexact H8
    ipureintro; rw [h8]; rfl
  isplitl [H9]
  · iexists _; isplitl [H9]; · iexact H9
    ipureintro; rw [h9]; rfl
  ipureintro; rfl

/-- The loop by its invariant. -/
@[sl_loop, instance_reducible] def loopInv :
    LoopInvTy_k0_t1 (F := F) Ix Name U Lvl 𝒱 c bd E i arg1 harg1 arg2 harg2 arg3 harg3 arg4 harg4 arg5 harg5 arg6 harg6 arg7 harg7 arg8 harg8 arg9 harg9 rowNo (k0_pay1 x0, k0_pay5) where
  inv := inv c arg2 harg2 arg3 harg3 arg4 harg4 arg5 harg5 arg6 harg6 arg7 arg8 arg9 x0 x1 x2 x3 x4 x5 G7 G8 G9
  step := step 𝒱 c bd E i arg1 harg1 arg2 harg2 arg3 harg3 arg4 harg4 arg5 harg5 arg6 harg6 arg7 harg7 arg8 harg8 arg9 harg9 x0 x1 x2 x3 x4 x5 G7 G8 G9

set_option maxHeartbeats 4000000 in
/-- The body on whole staging buffers: the inputs stay, the outputs hold the values above. -/
theorem run (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (qArr x0 x1 x2 x3 x4 x5) ∗ owns (c : Thread nD τ) arg8 fullShare (dotArr x0 x1 x2 x3 x4 x5)
            ∗ owns (c : Thread nD τ) arg9 fullShare (linArr x0 x1 x2 x3 x4 x5)) -∗ K ⟨⟩))
      ⊢ wp frame (wpE (defs₀ (F := F)) 𝒱 (c : Thread nD τ) bd) E
          (cc0__traj_body i arg1 harg1 arg2 harg2 arg3 harg3 arg4 harg4 arg5 harg5 arg6 harg6 arg7 harg7 arg8 harg8 arg9 harg9) K := by
  simp only [cc0__traj_body_eq_skeleton]; unfold cc0__traj_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  have e0 : View.readAt (Elt F) arg1.view (Rect.unit ![0, 0] S3x128.size inb_S3x128_S3x128_0_0).toLoadRect (harg1.unread x0) = x0 := by
    rw [View.readAt_full, hf0]
  isplitl [H6]
  · iexists _; isplitr
    swap; · iexact H6
    ipureintro; rw [e0]; exact read_q x0 x1 x2 x3 x4 x5 _ _ _ trips_eq _
  isplitl [H7]
  · iexists _; isplitr
    swap; · iexact H7
    ipureintro; rw [e0]; exact read_dot x0 x1 x2 x3 x4 x5 _ _ _ trips_eq _
  iexists _; isplitr
  swap; · iexact H8
  ipureintro; rw [e0]; exact read_lin x0 x1 x2 x3 x4 x5 _ _ _ trips_eq _

end Trip

end Cert.KernelIdeal.Traj

end
-- ==== Proof.KI.Finish.lean ====
/- The finishing kernel's body, run once at symbolic staging buffers: what its two outputs hold after it, stated as
   functions of what its four inputs held. -/
module

public import proofs.«01_k».proof.Proof.KI.Traj
public import Idealize.ShloMosaic.Lib.WholeRead

@[expose] public section

set_option maxRecDepth 16384

noncomputable section

namespace Cert.KernelIdeal.Finish

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem trips_eq : k2_t1_loop.trips = 64 := by decide +kernel

section Values

variable (v1 v5 : Vec F S64x1024 .f32) (v7 : Elt F .f32) (x1 : Vec F S64x3x1024 .f32)

/-- Row `k` of the positions. -/
def rowAt (k : Fin k2_t1_loop.trips) : Vec F S1x3x1024 .f32 := fun x => x1 (ix3 (Fin.cast trips_eq k) (x 1) (x 2))

/-- The masked positions. -/
def finQ : Vec F S64x3x1024 .f32 := fun y =>
  k2_pay3 v1 v5 v7 (Fin.cast trips_eq.symm (y 0)) (rowAt x1 (Fin.cast trips_eq.symm (y 0))) (ix3 0 (y 1) (y 2))

/-- The stores of the trips before `k`, the last first. -/
def pcs : ℕ → List (View.Piece (Elt F) S64x3x1024 .f32)
  | 0 => []
  | k + 1 => if h : k < k2_t1_loop.trips then
      ⟨Rect.unit (s := S64x3x1024) (k2_off1 ⟨k, h⟩) S1x3x1024.size (k2_off1_inb ⟨k, h⟩), k2_pay3 v1 v5 v7 ⟨k, h⟩ (rowAt x1 ⟨k, h⟩)⟩ :: pcs k
    else pcs k

theorem pcs_succ (k : Fin k2_t1_loop.trips) : pcs v1 v5 v7 x1 (k.val + 1) =
    ⟨Rect.unit (s := S64x3x1024) (k2_off1 k) S1x3x1024.size (k2_off1_inb k), k2_pay3 v1 v5 v7 k (rowAt x1 k)⟩ :: pcs v1 v5 v7 x1 k.val := by
  rw [pcs]; exact dif_pos k.isLt

theorem mem_pcs (k : ℕ) (p : View.Piece (Elt F) S64x3x1024 .f32) (hp : p ∈ pcs v1 v5 v7 x1 k) :
    ∃ j : Fin k2_t1_loop.trips, p = ⟨Rect.unit (s := S64x3x1024) (k2_off1 j) S1x3x1024.size (k2_off1_inb j), k2_pay3 v1 v5 v7 j (rowAt x1 j)⟩ := by
  induction k with
  | zero => exact absurd hp List.not_mem_nil
  | succ k ih =>
    rw [pcs] at hp
    split at hp
    · rcases List.mem_cons.mp hp with h | h
      · exact ⟨_, h⟩
      · exact ih h
    · exact ih hp

theorem pcs_mem (k : ℕ) (j : Fin k2_t1_loop.trips) (hj : j.val < k) :
    ⟨Rect.unit (s := S64x3x1024) (k2_off1 j) S1x3x1024.size (k2_off1_inb j), k2_pay3 v1 v5 v7 j (rowAt x1 j)⟩ ∈ pcs v1 v5 v7 x1 k := by
  induction k with
  | zero => omega
  | succ k ih =>
    rcases Nat.lt_succ_iff_lt_or_eq.mp hj with h | h
    · rw [pcs]; split
      · exact List.mem_cons_of_mem _ (ih h)
      · exact ih h
    · subst h; rw [pcs_succ]; exact List.mem_cons_self

/-- All the stores read back. -/
theorem read_pcs {sig : RefSig} {κ : Kind} {sp : Space} (v : View sig κ sp S64x3x1024 .f32) (f : v.ty.Contents (Elt F)) (k : ℕ) (hk : k = 64) :
    v.read (Elt F) (v.writes (Elt F) f (pcs v1 v5 v7 x1 k)) = finQ v1 v5 v7 x1 := by
  funext y
  refine View.read_writes_apply_of_pieces v f _ _ ?_ y ?_
  · intro p hp x
    obtain ⟨j, rfl⟩ := mem_pcs _ _ _ _ _ _ hp
    have hj : j.val < 64 := lt_of_lt_of_eq j.isLt trips_eq
    dsimp only at x ⊢
    rw [Traj.emb_row (k2_off1 j) j.val (k2_off1_eq j) _ (by omega) x]
    exact congrArg (k2_pay3 _ _ _ _ _) (Traj.eq_row x)
  · have hy : (y 0).val < 64 := (y 0).isLt
    exact ⟨_, pcs_mem v1 v5 v7 x1 k ⟨(y 0).val, by rw [trips_eq]; omega⟩ (by show (y 0).val < k; omega),
      Traj.mem_row _ (y 0).val (k2_off1_eq _) (k2_off1_inb _) y rfl⟩

end Values

section Trip

variable {Ix Name U Lvl : Type} [DecidableEq Ix] [DecidableEq Name] [URA U] [Preorder Lvl]
local notation "𝕄" => MT nD τ sig Ix (Elt F) Name U Lvl

variable (𝒱 : Variants) (c : Dev nD) (bd : Option 𝒱.V) (E : Set Name)
  (arg0 : Memref sig .tc .smem S1x1 .f32) (harg0 : arg0.IsWhole) (arg1 : Memref sig .tc .vmem S64x3x1024 .f32) (harg1 : arg1.IsWhole)
  (arg2 : Memref sig .tc .vmem S64x1024 .f32) (harg2 : arg2.IsWhole) (arg3 : Memref sig .tc .vmem S64x1024 .f32) (harg3 : arg3.IsWhole)
  (arg4 : Memref sig .tc .vmem S64x3x1024 .f32) (harg4 : arg4.IsWhole) (arg5 : Memref sig .tc .vmem S1x1024 .i32) (harg5 : arg5.IsWhole)
  (v1 v5 : Vec F S64x1024 .f32) (v7 : Elt F .f32) (x1 : Vec F S64x3x1024 .f32) (G4 : BufTy.Contents (Elt F) arg4.view.ty)

/-- A load of row `k` of the positions. -/
theorem load_row (k : Fin k2_t1_loop.trips) :
    View.readAt (Elt F) arg1.view (Rect.unit (s := S64x3x1024) (k2_off1 k) S1x3x1024.size (k2_off1_inb k)).toLoadRect (harg1.unread x1) = rowAt x1 k := by
  funext x
  rw [harg1.readAt_unread]
  have hk : k.val < 64 := lt_of_lt_of_eq k.isLt trips_eq
  exact congrArg x1 (Traj.emb_row (k2_off1 k) k.val (k2_off1_eq k) (k2_off1_inb k) hk x)

/-- Before trip `k`: the positions as they were, the output with the stores so far. -/
abbrev inv (k : ℕ) (acc : Unit) : sProp 𝕄 :=
  iprop((arg1.view.loc (c : Thread nD τ) ↦[arg1.view.set]{fullShare} harg1.unread x1)
    ∗ (∃ f, (arg4.view.loc (c : Thread nD τ) ↦[arg4.view.set]{fullShare} f)
        ∗ ⌜f = arg4.view.writes (Elt F) G4 (pcs v1 v5 v7 x1 k)⌝))

set_option maxHeartbeats 4000000 in
/-- One trip. -/
theorem step (k : Fin k2_t1_loop.trips) (acc : Unit) :
    inv (Ix := Ix) (Name := Name) (U := U) (Lvl := Lvl) c arg1 harg1 arg4 v1 v5 v7 x1 G4 k.val acc
      ⊢ wp frame (wpE (defs₀ (F := F)) 𝒱 (c : Thread nD τ) bd) E
          (k2_t1_body (F := F) arg0 harg0 arg1 harg1 arg2 harg2 arg3 harg3 arg4 harg4 arg5 harg5 v1 v5 v7 k acc)
          (fun yld => inv (Ix := Ix) (Name := Name) (U := U) (Lvl := Lvl) c arg1 harg1 arg4 v1 v5 v7 x1 G4 (k.val + 1) yld) := by
  have hk : k.val < 64 := lt_of_lt_of_eq k.isLt trips_eq
  iintro ⟨H1, ⟨%f4, H4, %h4⟩⟩
  unfold k2_t1_body
  sl_exec
  sl_step
  rw [load_row]
  unfold inv
  rw [pcs_succ]
  isplitl [H1]; · iexact H1
  iexists _; isplitl [H4]; · iexact H4
  ipureintro; rw [h4]; rfl

/-- The loop by its invariant. -/
@[sl_loop, instance_reducible] def loopInv :
    LoopInvTy_k2_t1 (F := F) Ix Name U Lvl 𝒱 c bd E arg0 harg0 arg1 harg1 arg2 harg2 arg3 harg3 arg4 harg4 arg5 harg5 v1 v5 v7 where
  inv := inv c arg1 harg1 arg4 v1 v5 v7 x1 G4
  step := step 𝒱 c bd E arg0 harg0 arg1 harg1 arg2 harg2 arg3 harg3 arg4 harg4 arg5 harg5 v1 v5 v7 x1 G4

set_option maxHeartbeats 4000000 in
/-- The body on whole staging buffers: the inputs stay, the outputs hold the values above. -/
theorem run (x0 : Vec F S1x1 .f32) (x2 x3 : Vec F S64x1024 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (finQ x3 x2 (x0 (ix2 0 0)) x1)
            ∗ owns (c : Thread nD τ) arg5 fullShare (k2_pay2 x3 x2 (x0 (ix2 0 0)))) -∗ K ⟨⟩))
      ⊢ wp frame (wpE (defs₀ (F := F)) 𝒱 (c : Thread nD τ) bd) E
          (cc2__finish_body arg0 harg0 arg1 harg1 arg2 harg2 arg3 harg3 arg4 harg4 arg5 harg5) K := by
  simp only [cc2__finish_body_eq_skeleton]; unfold cc2__finish_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg0.eq_unread hf0; obtain rfl := harg1.eq_unread hf1; obtain rfl := harg2.eq_unread hf2; obtain rfl := harg3.eq_unread hf3
  sl_exec
  sl_step
  have e3 : View.readAt (Elt F) arg3.view (Rect.unit ![0, 0] S64x1024.size inb_S64x1024_S64x1024_0_0).toLoadRect (harg3.unread x3) = x3 := by
    rw [View.readAt_full, hf3]
  have e2 : View.readAt (Elt F) arg2.view (Rect.unit ![0, 0] S64x1024.size inb_S64x1024_S64x1024_0_0).toLoadRect (harg2.unread x2) = x2 := by
    rw [View.readAt_full, hf2]
  have e7 : run.sl.r c arg0 harg0 x0 = x0 (ix2 0 0) := by
    unfold run.sl.r
    rw [View.readAt_full, hf0]
    exact congrArg x0 (by
      rw [eq_ix2 (Shape.Idx.first _)]
      exact congrArg₂ ix2 (Subsingleton.elim (α := Fin 1) _ _) (Subsingleton.elim (α := Fin 1) _ _))
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro; rw [e3, e2, e7]; exact read_pcs x3 x2 _ x1 _ _ _ trips_eq
  iexists _; isplitr
  swap; · iexact H5
  ipureintro; unfold run.sl.H5_1; rw [e3, e2, e7]; exact View.read_writes_full _ _ _ _ _

end Trip

end Cert.KernelIdeal.Finish

end
-- ==== Proof.KI.Regions.lean ====
/- The two pipelined regions: each window's block, the proof data at the values the bodies leave, the body obligations, and
   the regions as segments of @main entered and left with what the TensorCore owes the SparseCore call. -/
module

public import proofs.«01_k».proof.Proof.KI.Host
public import proofs.«01_k».proof.Proof.KI.Traj
public import proofs.«01_k».proof.Proof.KI.Finish
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

namespace Cert.KernelIdeal.Regions

open Cert.KernelIdeal Cert.KernelIdeal.Gen Cert.KernelIdeal.Setup Cert.KernelIdeal.Host
open Idealize.ShloMosaic Idealize.ShloMosaic.TcCoe Idealize.ShloMosaic.ValueIdx Idealize.ShloMosaic.Tactic
open Idealize.ShloMosaic.SparseCore (T)
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The waits the TensorCore has recorded before call `n` sit at or below the level of that call's first handshake. -/
def below (n : ℕ) (c : Dev nD) : Set (SemLoc sig × HIx 1) := {p | (K (F := F)).lev (T c, p.1) p.2 ≤ 8 * n}

section Data

variable (V : (c : Dev nD) → (b : Ref sig .tc) → Buf (Elt F) ((c : Thread nD τ).loc b))

/-! ## The trajectory region -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => Traj.qArr (iblk0 V c 0 t) (iblk0 V c 1 t) (iblk0 V c 2 t) (iblk0 V c 3 t) (iblk0 V c 4 t) (iblk0 V c 5 t)
    | ⟨7, _⟩ => Traj.dotArr (iblk0 V c 0 t) (iblk0 V c 1 t) (iblk0 V c 2 t) (iblk0 V c 3 t) (iblk0 V c 4 t) (iblk0 V c 5 t)
    | ⟨8, _⟩ => Traj.linArr (iblk0 V c 0 t) (iblk0 V c 1 t) (iblk0 V c 2 t) (iblk0 V c 3 t) (iblk0 V c 4 t) (iblk0 V c 5 t)
  Φ _ := Pipeline.scopedRest spec0 c
  q _ := fullShare
  owed _ := (K (F := F)).Otc c 0
  recorded _ := below (F := F) 0 c

theorem A_eq0 (c : Dev nD) (w : Fin cfg0.W) : (dat0 V c).A w = V c (Pipeline.arrRef spec0 w) := by dsimp only [dat0]

/-! An input's staging buffer holds its block at every point. -/

theorem before0_0 (c : Dev nD) (t : Fin cfg0.N) (d) : (dat0 V c).before 0 t d = iblk0 V c 0 t :=
  ((dat0 V c).before_in_eq_fetched 0 rfl (fun _ => rfl) (fun _ _ _ => rfl) (fun t => by dsimp only [dat0]; unfold Dat.blockOf iblk0; rfl) t d).trans
    (by unfold Dat.fetched Dat.blockOf iblk0; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by dsimp only [dat0]; unfold Dat.blockOf iblk0; rfl) t d).trans
    (by unfold Dat.fetched Dat.blockOf iblk0; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by dsimp only [dat0]; unfold Dat.blockOf iblk0; rfl) t d).trans
    (by unfold Dat.fetched Dat.blockOf iblk0; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by dsimp only [dat0]; unfold Dat.blockOf iblk0; rfl) t d).trans
    (by unfold Dat.fetched Dat.blockOf iblk0; rfl)
theorem before0_4 (c : Dev nD) (t : Fin cfg0.N) (d) : (dat0 V c).before 4 t d = iblk0 V c 4 t :=
  ((dat0 V c).before_in_eq_fetched 4 rfl (fun _ => rfl) (fun _ _ _ => rfl) (fun t => by dsimp only [dat0]; unfold Dat.blockOf iblk0; rfl) t d).trans
    (by unfold Dat.fetched Dat.blockOf iblk0; rfl)
theorem before0_5 (c : Dev nD) (t : Fin cfg0.N) (d) : (dat0 V c).before 5 t d = iblk0 V c 5 t :=
  ((dat0 V c).before_in_eq_fetched 5 rfl (fun _ => rfl) (fun _ _ _ => rfl) (fun t => by dsimp only [dat0]; unfold Dat.blockOf iblk0; rfl) t d).trans
    (by unfold Dat.fetched Dat.blockOf iblk0; rfl)

theorem defs₀_row0 (t : Fin cfg0.N) : defs₀ (F := F) .tc cfg0.body (cfg0.bodyArgs t (cfg0.slots t)) = bodyAt0 t := by
  rfl

def bodyPre0 (c : Dev nD) (t : Fin cfg0.N) : sProp 𝕄 :=
  iprop((dat0 V c).Φ t.castSucc ∗ (dat0 V c).owesAt none t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d)))

def bodyPost0 (c : Dev nD) (t : Fin cfg0.N) : sProp 𝕄 :=
  iprop((dat0 V c).Φ t.succ ∗ (dat0 V c).owesAt none t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t)
    ∗ owns (c : Thread nD τ) (win0_8.stage (cfg0.slots t 8)) fullShare ((dat0 V c).after 8 t))

theorem sound_body0 (c : Dev nD) (t : Fin cfg0.N) :
    bodyPre0 V c t ⊢ wp frame (wpE (defs₀ (F := F)) 𝒱₀ (c : Thread nD τ) none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl, show (dat0 V c).owesAt none t.succ = (dat0 V c).owesAt none t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Traj.run 𝒱₀ c none Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) 𝒱₀ none Set.univ := fun t => by
  rw [bigSep_W0, bigSep_W0, defs₀_row0]
  exact triple_restated (sound_body0 V c t) rfl .rfl fun _ => .rfl

/-! ## The finishing region -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => Finish.finQ (iblk2 V c 3 t) (iblk2 V c 2 t) ((iblk2 V c 0 t : Vec F S1x1 .f32) (ix2 0 0)) (iblk2 V c 1 t)
    | ⟨5, _⟩ => k2_pay2 (iblk2 V c 3 t) (iblk2 V c 2 t) ((iblk2 V c 0 t : Vec F S1x1 .f32) (ix2 0 0))
  Φ _ := Pipeline.scopedRest spec2 c
  q _ := fullShare
  owed _ := (K (F := F)).Otc c 1
  recorded _ := below (F := F) 1 c

theorem A_eq2 (c : Dev nD) (w : Fin cfg2.W) : (dat2 V c).A w = V c (Pipeline.arrRef spec2 w) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by dsimp only [dat2]; unfold Dat.blockOf iblk2; rfl) t d).trans
    (by unfold Dat.fetched Dat.blockOf iblk2; rfl)
theorem before2_1 (c : Dev nD) (t : Fin cfg2.N) (d) : (dat2 V c).before 1 t d = iblk2 V c 1 t :=
  ((dat2 V c).before_in_eq_fetched 1 rfl (fun _ => rfl) (fun _ _ _ => rfl) (fun t => by dsimp only [dat2]; unfold Dat.blockOf iblk2; rfl) t d).trans
    (by unfold Dat.fetched Dat.blockOf iblk2; rfl)
theorem before2_2 (c : Dev nD) (t : Fin cfg2.N) (d) : (dat2 V c).before 2 t d = iblk2 V c 2 t :=
  ((dat2 V c).before_in_eq_fetched 2 rfl (fun _ => rfl) (fun _ _ _ => rfl) (fun t => by dsimp only [dat2]; unfold Dat.blockOf iblk2; rfl) t d).trans
    (by unfold Dat.fetched Dat.blockOf iblk2; rfl)
theorem before2_3 (c : Dev nD) (t : Fin cfg2.N) (d) : (dat2 V c).before 3 t d = iblk2 V c 3 t :=
  ((dat2 V c).before_in_eq_fetched 3 rfl (fun _ => rfl) (fun _ _ _ => rfl) (fun t => by dsimp only [dat2]; unfold Dat.blockOf iblk2; rfl) t d).trans
    (by unfold Dat.fetched Dat.blockOf iblk2; rfl)

theorem defs₀_row2 (t : Fin cfg2.N) : defs₀ (F := F) .tc cfg2.body (cfg2.bodyArgs t (cfg2.slots t)) = bodyAt2 t := by
  rfl

def bodyPre2 (c : Dev nD) (t : Fin cfg2.N) : sProp 𝕄 :=
  iprop((dat2 V c).Φ t.castSucc ∗ (dat2 V c).owesAt none t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d)))

def bodyPost2 (c : Dev nD) (t : Fin cfg2.N) : sProp 𝕄 :=
  iprop((dat2 V c).Φ t.succ ∗ (dat2 V c).owesAt none t.succ
    ∗ owns (c : Thread nD τ) (win2_0.stage (cfg2.slots t 0)) fullShare ((dat2 V c).after 0 t)
    ∗ owns (c : Thread nD τ) (win2_1.stage (cfg2.slots t 1)) fullShare ((dat2 V c).after 1 t)
    ∗ owns (c : Thread nD τ) (win2_2.stage (cfg2.slots t 2)) fullShare ((dat2 V c).after 2 t)
    ∗ owns (c : Thread nD τ) (win2_3.stage (cfg2.slots t 3)) fullShare ((dat2 V c).after 3 t)
    ∗ owns (c : Thread nD τ) (win2_4.stage (cfg2.slots t 4)) fullShare ((dat2 V c).after 4 t)
    ∗ owns (c : Thread nD τ) (win2_5.stage (cfg2.slots t 5)) fullShare ((dat2 V c).after 5 t))

theorem sound_body2 (c : Dev nD) (t : Fin cfg2.N) :
    bodyPre2 V c t ⊢ wp frame (wpE (defs₀ (F := F)) 𝒱₀ (c : Thread nD τ) none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl, show (dat2 V c).owesAt none t.succ = (dat2 V c).owesAt none t.castSucc from rfl]
  dsimp only [dat2]
  iintro ⟨HΦ, Ho, ⟨%d0, H0⟩, ⟨%d1, H1⟩, ⟨%d2, H2⟩, ⟨%d3, H3⟩, ⟨%d4, H4⟩, ⟨%d5, H5⟩⟩
  iapply (Finish.run 𝒱₀ c none Set.univ _ _ _ _ _ _ _ _ _ _ _ _ (iblk2 V c 1 t) (iblk2 V c 0 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) 𝒱₀ none Set.univ := fun t => by
  rw [bigSep_W2, bigSep_W2, defs₀_row2]
  exact triple_restated (sound_body2 V c t) rfl .rfl fun _ => .rfl

end Data

end Cert.KernelIdeal.Regions

end
-- ==== Proof.KI.Views.lean ====
/- The gather's views: tile `(c, s)` works on row `2 s + c` of the list and of the result; inside a tile, gather `i` reads
   row `i` of the fetched list and writes row `i` of the fetched values. -/
module

public import proofs.«01_k».proof.Proof.KI.Setup
public import Idealize.ShloMosaic.Lib.ValueLayout

@[expose] public section

set_option maxRecDepth 16384

noncomputable section

namespace Cert.KernelIdeal.Views

open Cert.KernelIdeal Cert.KernelIdeal.Gen Cert.KernelIdeal.Setup
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev lV : Memref sig .scVector .hbm S32x16x128 .i32 := Memref.whole main_v23_scv
abbrev tV : Memref sig .scVector .hbm S884736 .f32 := Memref.whole main_v24_scv
abbrev oV : Memref sig .scVector .hbm S32x16x128 .f32 := Memref.whole main_v25_scv
abbrev sV : Memref sig .scVector .vmem S16x128 .i32 := Memref.whole cc1_scratch0
abbrev rV : Memref sig .scVector .vmem S16x128 .f32 := Memref.whole cc1_scratch1

abbrev lLoc (d : Dev nD) : Loc nD τ sig := (SparseCore.T d).loc main_v23
abbrev tLoc (d : Dev nD) : Loc nD τ sig := (SparseCore.T d).loc main_v24
abbrev oLoc (d : Dev nD) : Loc nD τ sig := (SparseCore.T d).loc main_v25

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

theorem wid_lt (L : grid1.Coords) : 2 * (L 1).val + (L 0).val < 32 := by
  have h0 : (L 0).val < 2 := (L 0).isLt
  have h1 : (L 1).val < 16 := (L 1).isLt
  omega
/-- The row tile `L` works on. -/
def wid (L : grid1.Coords) : Fin 32 := ⟨2 * (L 1).val + (L 0).val, wid_lt L⟩

/-- The elements of row `w`. -/
abbrev rowSet (w : Fin 32) : Finset S32x16x128.Idx := (S32x16x128.rowRect 0 w).set

abbrev rowK (L : grid1.Coords) : Rect S32x16x128 := Rect.unit (s := S32x16x128) (k1_off1 L) S1x16x128.size (k1_off1_inb L)
abbrev lRowK (L : grid1.Coords) : Memref sig .scVector .hbm S16x128 .i32 := ((lV).slice (rowK L) (fun _ => rfl)).squeeze S16x128 squeezes_S1x16x128_S16x128
abbrev oRowK (L : grid1.Coords) : Memref sig .scVector .hbm S16x128 .f32 := ((oV).slice (rowK L) (fun _ => rfl)).squeeze S16x128 squeezes_S1x16x128_S16x128
abbrev tAllK : Memref sig .scVector .hbm S884736 .f32 := (tV).slice (Rect.unit (s := S884736) ![0] S884736.size inb_S884736_S884736_0) (fun _ => rfl)

theorem inbRow (i : Fin 16) : ∀ a, (![i.val, 0] : Fin 2 → ℕ) a + S1x128.size a ≤ S16x128.size a := fun a => by
  match a with
  | 0 => show i.val + 1 ≤ 16; omega
  | 1 => show 0 + 128 ≤ 128; omega
abbrev lineRect (i : Fin 16) : Rect S16x128 := Rect.unit (s := S16x128) ![i.val, 0] S1x128.size (inbRow i)
abbrev sRow (i : Fin 16) : Memref sig .scVector .vmem S128 .i32 := ((sV).slice (lineRect i) (fun _ => rfl)).squeeze S128 squeezes_S1x128_S128
abbrev rRow (i : Fin 16) : Memref sig .scVector .vmem S128 .f32 := ((rV).slice (lineRect i) (fun _ => rfl)).squeeze S128 squeezes_S1x128_S128

theorem rowK_eq (L : grid1.Coords) : rowK L = S32x16x128.rowRect 0 (wid L) := by
  unfold rowK Shape.rowRect
  congr 1 <;> funext a
  · rw [k1_off1_eq]
    match a with
    | 0 => rfl
    | 1 => rfl
    | 2 => rfl
  · match a with
    | 0 => rfl
    | 1 => rfl
    | 2 => rfl
theorem lineRect_eq (i : Fin 16) : lineRect i = S16x128.rowRect 0 i := by
  unfold lineRect Shape.rowRect
  congr 1 <;> funext a
  · match a with
    | 0 => rfl
    | 1 => rfl
  · match a with
    | 0 => rfl
    | 1 => rfl

theorem set_lRowK (L : grid1.Coords) : (lRowK L).view.set = rowSet (wid L) := by
  show (((lV).view.slice (rowK L)).reshape S16x128 squeezes_S1x16x128_S16x128.numel_eq).set = _
  rw [View.set_reshape]
  have h : ∀ r r' : Rect S32x16x128, r = r' → ((lV).view.slice r).set = ((lV).view.slice r').set := fun _ _ e => e ▸ rfl
  refine (h _ _ (rowK_eq L)).trans ?_
  rw [View.set_slice]; exact Finset.map_refl
theorem set_oRowK (L : grid1.Coords) : (oRowK L).view.set = rowSet (wid L) := by
  show (((oV).view.slice (rowK L)).reshape S16x128 squeezes_S1x16x128_S16x128.numel_eq).set = _
  rw [View.set_reshape]
  have h : ∀ r r' : Rect S32x16x128, r = r' → ((oV).view.slice r).set = ((oV).view.slice r').set := fun _ _ e => e ▸ rfl
  refine (h _ _ (rowK_eq L)).trans ?_
  rw [View.set_slice]; exact Finset.map_refl
theorem set_sRow (i : Fin 16) : (sRow i).view.set = ((sV).view.slice (S16x128.rowRect 0 i)).set := by
  show (((sV).view.slice (lineRect i)).reshape S128 squeezes_S1x128_S128.numel_eq).set = _
  rw [View.set_reshape]
  have h : ∀ r r' : Rect S16x128, r = r' → ((sV).view.slice r).set = ((sV).view.slice r').set := fun _ _ e => e ▸ rfl
  exact h _ _ (lineRect_eq i)
theorem set_rRow (i : Fin 16) : (rRow i).view.set = ((rV).view.slice (S16x128.rowRect 0 i)).set := by
  show (((rV).view.slice (lineRect i)).reshape S128 squeezes_S1x128_S128.numel_eq).set = _
  rw [View.set_reshape]
  have h : ∀ r r' : Rect S16x128, r = r' → ((rV).view.slice r).set = ((rV).view.slice r').set := fun _ _ e => e ▸ rfl
  exact h _ _ (lineRect_eq i)
theorem set_tAllK : (tAllK).view.set = Finset.univ := by
  show ((tV).view.slice _).set = _
  rw [View.set_slice, show (Rect.unit (s := S884736) ![0] S884736.size inb_S884736_S884736_0).set = Finset.univ from ?_]
  · exact Finset.map_refl
  · ext x
    simp only [Finset.mem_univ, iff_true, Rect.mem_set_unit]
    intro a
    match a with
    | 0 => exact ⟨Nat.zero_le _, by show (x 0).val < 0 + 884736; have := (x 0).isLt; simpa using this⟩

theorem rowK_emb (L : grid1.Coords) (a : Fin 16) (b : Fin 128) : (rowK L).emb (ix3 (0 : Fin 1) a b) = ix3 (wid L) a b := by
  funext x; apply Fin.ext
  rw [Rect.emb_apply]
  show k1_off1 L x + 1 * _ = _
  rw [k1_off1_eq]
  match x with
  | 0 => show 2 * (L 1).val + (L 0).val + 1 * 0 = 2 * (L 1).val + (L 0).val; omega
  | 1 => show 0 + 1 * a.val = a.val; omega
  | 2 => show 0 + 1 * b.val = b.val; omega
theorem lineRect_emb (i : Fin 16) (b : Fin 128) : (lineRect i).emb (ix2 (0 : Fin 1) b) = ix2 i b := by
  funext x; apply Fin.ext
  rw [Rect.emb_apply]
  match x with
  | 0 => show i.val + 1 * 0 = i.val; omega
  | 1 => show 0 + 1 * b.val = b.val; omega

theorem squeeze_ix1 (h : S128.numel = S1x128.numel) (b : Fin 128) : Shape.reshapeEquiv (s := S1x128) (s' := S128) h (ix1 b) = ix2 (0 : Fin 1) b :=
  Shape.reshapeEquiv_eq_of_rowMajor h (by
    show (Shape.rowMajor ⟨2, ![1, 128]⟩ (ix2 (0 : Fin 1) b) : ℕ) = Shape.rowMajor ⟨1, ![128]⟩ (ix1 b)
    rw [Shape.rowMajor_val_two, Shape.rowMajor_val_one]
    show 0 * 128 + b.val = b.val
    omega)

theorem lRowK_emb (L : grid1.Coords) (a : Fin 16) (b : Fin 128) : (lRowK L).view.emb (ix2 a b) = ix3 (wid L) a b := by
  show (rowK L).emb (Shape.reshapeEquiv _ (ix2 a b)) = _
  rw [← rowK_emb]; exact congrArg _ (reshapeEquiv_ix2_1ab _ a b)
theorem oRowK_emb (L : grid1.Coords) (a : Fin 16) (b : Fin 128) : (oRowK L).view.emb (ix2 a b) = ix3 (wid L) a b := by
  show (rowK L).emb (Shape.reshapeEquiv _ (ix2 a b)) = _
  rw [← rowK_emb]; exact congrArg _ (reshapeEquiv_ix2_1ab _ a b)
theorem sRow_emb (i : Fin 16) (b : Fin 128) : (sRow i).view.emb (ix1 b) = ix2 i b := by
  show (lineRect i).emb (Shape.reshapeEquiv _ (ix1 b)) = _
  rw [← lineRect_emb]; exact congrArg _ (squeeze_ix1 _ b)
theorem rRow_emb (i : Fin 16) (b : Fin 128) : (rRow i).view.emb (ix1 b) = ix2 i b := by
  show (lineRect i).emb (Shape.reshapeEquiv _ (ix1 b)) = _
  rw [← lineRect_emb]; exact congrArg _ (squeeze_ix1 _ b)
theorem tAllK_emb (x : S884736.Idx) : (tAllK).view.emb x = x := by
  show (Rect.unit (s := S884736) ![0] S884736.size inb_S884736_S884736_0).emb x = x
  funext a; apply Fin.ext
  rw [Rect.emb_apply]
  match a with
  | 0 => show 0 + 1 * (x 0).val = (x 0).val; omega

/-! ## What the kernel computes -/

/-- The value a list of places picks out of a table. -/
def pick (FA : Vec F S884736 .f32) (v : BitVec 32) : Elt F .f32 :=
  if h : v.toNat < 884736 then FA (ix1 ⟨v.toNat, h⟩) else FA (ix1 ⟨0, by decide⟩)

/-- The whole result. -/
def outArr (LIN : Vec F S32x16x128 .i32) (FA : Vec F S884736 .f32) : Vec F S32x16x128 .f32 := fun x => pick FA (LIN x)
/-- A tile's fetched list, and its fetched values. -/
def tileList (LIN : Vec F S32x16x128 .i32) (w : Fin 32) : Vec F S16x128 .i32 := fun y => LIN (ix3 w (y 0) (y 1))
def tileVals (LIN : Vec F S32x16x128 .i32) (FA : Vec F S884736 .f32) (w : Fin 32) : Vec F S16x128 .f32 := fun y => outArr LIN FA (ix3 w (y 0) (y 1))

end Cert.KernelIdeal.Views

end
-- ==== Proof.KI.Gather.lean ====
/- The sixteen gathers of one tile: issued one after the other on one semaphore, waited one after the other, and their
   rows collected into the fetched values. -/
module

public import proofs.«01_k».proof.Proof.KI.Views
public import proofs.«01_k».proof.Proof.Lib.GatherBatch

@[expose] public section

set_option maxRecDepth 16384

noncomputable section

namespace Cert.KernelIdeal.Gather

open Cert.KernelIdeal Cert.KernelIdeal.Gen Cert.KernelIdeal.Setup Cert.KernelIdeal.Views Cert.Proof.GatherBatch
open Idealize.ShloMosaic Idealize.ShloMosaic.SparseCore Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid1.Coords) (q : PosShare TreeShare) (LIN : Vec F S32x16x128 .i32) (FA : Vec F S884736 .f32)
variable (hlt : ∀ x, (LIN x : BitVec 32).toNat < 884736) (fr : Vec F S16x128 .f32)

theorem pos128 : 0 < S128.size gathers_S884736_S128.axis' := by decide

theorem read_sRow (LB : Vec F S16x128 .i32) (i : Fin 16) (b : Fin 128) : (sRow i).view.read (Elt F) LB (ix1 b) = LB (ix2 i b) := by
  rw [View.read_apply, sRow_emb]; rfl

theorem hin (hlt : ∀ x, (LIN x : BitVec 32).toNat < 884736) (i : Fin 16) (x : S128.Idx) :
    ((sRow i).view.read (Elt F) (tileList LIN (wid L)) x : BitVec 32).toNat < S884736.size gathers_S884736_S128.axis := by
  obtain ⟨b, rfl⟩ : ∃ b, x = ix1 b := ⟨x 0, eq_ix1 x⟩
  rw [read_sRow]; exact hlt _

/-- What one row of gather `i` brings back. -/
def back (i : Fin 16) (j : Fin 128) : sProp 𝕄 :=
  rowBack (thr d L) tAllK (rRow i) gathers_S884736_S128 (sRow i) rfl (pieceOf q 16 (by decide) i) fullShare FA fr (tileList LIN (wid L)) pos128
    (rows ((sRow i).view.read (Elt F) (tileList LIN (wid L))) rfl (hin L LIN hlt i)) j

/-- The rows of all the gathers in the order of their issue. -/
def B (t : Fin (16 * 128)) : sProp 𝕄 :=
  back d L q LIN FA hlt fr (finProdFinEquiv.symm t).1 (finProdFinEquiv.symm t).2

instance B_storable (t : Fin (16 * 128)) : Storable (upEmb : UEmb _ 𝕄) (B d L q LIN FA hlt fr t) := by
  unfold B back rowBack; infer_instance

/-- The credit of one row. -/
abbrev N : ℕ := ((rRow 0).slice (S128.rowRect gathers_S884736_S128.axis' ⟨0, pos128⟩) (S128.stride_rowRect _ _)).view.dmaCredit

theorem pending_rows (i : Fin 16) (Φ : Fin (16 * 128) → sProp 𝕄) :
    bigSep (Transfers.pending (128 * i.val)) Φ
      = iprop((bigSep Finset.univ fun j : Fin 128 => Φ (finProdFinEquiv (i, j))) ∗ bigSep (Transfers.pending (128 * (i.val + 1))) Φ) := by
  have hval : ∀ j : Fin 128, (finProdFinEquiv (i, j) : Fin (16 * 128)).val = j.val + 128 * i.val := fun j => rfl
  let e : Fin 128 ↪ Fin (16 * 128) := ⟨fun j => finProdFinEquiv (i, j), fun a b h => (Prod.mk.inj (finProdFinEquiv.injective h)).2⟩
  have hU : (Transfers.pending (128 * i.val) : Finset (Fin (16 * 128))) = Finset.univ.map e ∪ Transfers.pending (128 * (i.val + 1)) := by
    ext t
    simp only [Transfers.pending, Finset.mem_filter, Finset.mem_univ, true_and, Finset.mem_union, Finset.mem_map]
    constructor
    · intro h
      by_cases h' : 128 * (i.val + 1) ≤ t.val
      · exact .inr h'
      · exact .inl ⟨⟨t.val - 128 * i.val, by omega⟩, Fin.ext ((hval _).trans (by show t.val - 128 * i.val + 128 * i.val = _; omega))⟩
    · rintro (⟨j, rfl⟩ | h)
      · show 128 * i.val ≤ (finProdFinEquiv (i, j) : Fin (16 * 128)).val
        rw [hval]; omega
      · omega
  have hD : Disjoint (Finset.univ.map e) (Transfers.pending (128 * (i.val + 1)) : Finset (Fin (16 * 128))) := by
    rw [Finset.disjoint_left]
    intro t ht ht'
    obtain ⟨j, -, rfl⟩ := Finset.mem_map.mp ht
    have h2 : 128 * (i.val + 1) ≤ (finProdFinEquiv (i, j) : Fin (16 * 128)).val := (Finset.mem_filter.mp ht').2
    rw [hval] at h2
    have := j.isLt; omega
  rw [hU, bigSep_union hD, BI.bigSep_map]; rfl

/-- What is left to issue gathers `k, k + 1, …`. -/
def rem (k : ℕ) : sProp 𝕄 :=
  iprop((bigSep (Transfers.pending (n := 16) k) fun i =>
      iprop(((tAllK).view.loc (thr d L) ↦[(tAllK).view.set]{pieceOf q 16 (by decide) i} FA)
        ∗ ((rRow i).view.loc (thr d L) ↦[(rRow i).view.set]{fullShare} fr)
        ∗ ((sRow i).view.loc (thr d L) ↦[(sRow i).view.set]{fullShare} (tileList LIN (wid L)))))
    ∗ Transfers.Batch countersEmb (thr d L) (.dma cc1_scratch2.sem) (none : HIx 1) N (B d L q LIN FA hlt fr) (128 * k) 0)

/-- Gather `i` is issued. -/
theorem issue {α : Type} {Q : α → sProp 𝕄} (i : Fin 16) {k : PUnit → Prog (TpuEff nD τ sig (Elt F) Λ₀ (.scVector (cV L) (jV L))) α} {hsrc he hsp hr hn} :
    rem d L q LIN FA hlt fr i.val
      ⊢ iprop((rem d L q LIN FA hlt fr (i.val + 1) -∗ wp frame (wpE (defs₀ (F := F)) 𝒱₀ (thr d L) none) Set.univ (k ⟨⟩) Q)
          -∗ wp frame (wpE (defs₀ (F := F)) 𝒱₀ (thr d L) none) Set.univ
            (SparseCore.enqueueIndirectGather rfl tAllK (rRow i) gathers_S884736_S128 (sRow i) hn cc1_scratch2.sem hsrc he hsp hr >>= k) Q) := by
  unfold rem
  rw [Transfers.bigSep_pending_step _ i.val i.isLt]
  iintro ⟨⟨⟨Ht, Hr, Hs⟩, Hrest⟩, HB⟩ Hk
  iapply (wp_gatherBatch (Ix := HIx 1) countersEmb 𝒱₀ (thr d L) none (defs := defs₀ (F := F)) (src := tAllK) (dst := rRow i) (hg := gathers_S884736_S128) (offs := sRow i) (sem := cc1_scratch2.sem)
    (q := pieceOf q 16 (by decide) i) (qo := fullShare) (fs := FA) (fd := fr) (fo := tileList LIN (wid L)) (B := B d L q LIN FA hlt fr)
    (j₀ := 128 * i.val) (j₁ := 128 * (i.val + 1)) (u := 0) (none : HIx 1) N pos128 (hin L LIN hlt i)
    (fun _ => rfl) (fun j => finProdFinEquiv (i, j)) (fun j => Entails.of_eq (by unfold B; rw [Equiv.symm_apply_apply]; rfl))
    (pending_rows i) (by show 128 * (i.val + 1) * N - 0 = (128 * i.val * N - 0) + 128 * N; rw [Nat.sub_zero, Nat.sub_zero, ← Nat.add_mul]; congr 1)) $$ [Ht Hr Hs HB]
  · isplitl [Ht]; · iexact Ht
    isplitl [Hr]; · iexact Hr
    isplitl [Hs]; · iexact Hs
    iexact HB
  iintro HB
  iapply Hk
  isplitl [Hrest]; · iexact Hrest
  iexact HB

/-- What is held while the gathers are waited for, `k` of them already. -/
def got (O : CellTallies nD τ sig (HIx 1)) (W : Waits sig (HIx 1)) (k : ℕ) : sProp 𝕄 :=
  iprop(Transfers.Batch countersEmb (thr d L) (.dma cc1_scratch2.sem) (none : HIx 1) N (B d L q LIN FA hlt fr) (16 * 128) (128 * N * k)
    ∗ ∃ W', ⌜∀ p ∈ W', p ∈ W ∨ p.2 = none⌝ ∗ owes (thr d L) O W')

variable {O : CellTallies nD τ sig (HIx 1)} {W : Waits sig (HIx 1)}

/-- Gather `i` is waited for. -/
theorem await {α : Type} {Q : α → sProp 𝕄} (i : Fin 16) {k : PUnit → Prog (TpuEff nD τ sig (Elt F) Λ₀ (.scVector (cV L) (jV L))) α} {hsrc hdst} :
    iprop(got d L q LIN FA hlt fr O W i.val ∗ Transfers.MayWaits (thr d L) (none : HIx 1) O)
      ⊢ iprop((got d L q LIN FA hlt fr O W (i.val + 1) -∗ wp frame (wpE (defs₀ (F := F)) 𝒱₀ (thr d L) none) Set.univ (k ⟨⟩) Q)
          -∗ wp frame (wpE (defs₀ (F := F)) 𝒱₀ (thr d L) none) Set.univ
            (SparseCore.waitIndirectGather cc1_scratch2.sem tAllK (rRow i) hsrc hdst >>= k) Q) := by
  unfold got
  iintro ⟨⟨HB, %W', %hW', HO⟩, Hmw⟩ Hk
  iapply (Transfers.wp_waitBatchMulO countersEmb 𝒱₀ (thr d L) none (none : HIx 1) (N := N) (defs := defs₀ (F := F)) 128
    (show (rRow i).view.dmaCredit = 128 * N from (by decide : (rRow 0).view.dmaCredit = 128 * N))
    (show 128 * N * i.val + 128 * N ≤ N * (16 * 128) by rw [← Nat.mul_succ, Nat.mul_comm N, Nat.mul_assoc, Nat.mul_right_comm 16, Nat.mul_assoc 16, Nat.mul_comm 16, ← Nat.mul_assoc]; exact Nat.mul_le_mul_left _ i.isLt)) $$ [HB HO Hmw]
  · isplitl [HB]; · iexact HB
    isplitl [HO]; · iexact HO
    iapply (Transfers.MayWaits.elim (SemLoc.dma cc1_scratch2.sem)) $$ Hmw
  iintro ⟨HB, HO⟩
  iapply Hk
  isplitl [HB]; · iexact HB
  iexists _; isplitr
  swap; · iexact HO
  ipureintro; intro p hp
  rcases Finset.mem_insert.mp hp with hp | hp
  · exact .inr (hp ▸ rfl)
  · exact hW' p hp

/-- The values' buffer, row by row, -/
theorem rV_rows (f : Vec F S16x128 .f32) : ((rV).view.loc (thr d L) ↦{fullShare} f : sProp 𝕄)
    = bigSep Finset.univ fun i : Fin 16 => (rRow i).view.loc (thr d L) ↦[(rRow i).view.set]{fullShare} f := by
  have key : ∀ S S' : Finset (Idx ((rV).view.loc (thr d L))), S = S' → ((rV).view.loc (thr d L) ↦[S]{fullShare} f : sProp 𝕄) = (rV).view.loc (thr d L) ↦[S']{fullShare} f :=
    fun _ _ e => by rw [e]
  refine (key _ _ (View.set_whole (cc1_scratch1 : Ref sig .scVector)).symm).trans ((pointsTo_rows (thr d L) (rV).view (0 : Fin 2) fullShare f).trans ?_)
  exact bigSep_congr fun (i : Fin 16) _ => key _ _ (set_rRow i).symm
/-- the list's, -/
theorem sV_rows (f : Vec F S16x128 .i32) : ((sV).view.loc (thr d L) ↦{fullShare} f : sProp 𝕄)
    = bigSep Finset.univ fun i : Fin 16 => (sRow i).view.loc (thr d L) ↦[(sRow i).view.set]{fullShare} f := by
  have key : ∀ S S' : Finset (Idx ((sV).view.loc (thr d L))), S = S' → ((sV).view.loc (thr d L) ↦[S]{fullShare} f : sProp 𝕄) = (sV).view.loc (thr d L) ↦[S']{fullShare} f :=
    fun _ _ e => by rw [e]
  refine (key _ _ (View.set_whole (cc1_scratch0 : Ref sig .scVector)).symm).trans ((pointsTo_rows (thr d L) (sV).view (0 : Fin 2) fullShare f).trans ?_)
  exact bigSep_congr fun (i : Fin 16) _ => key _ _ (set_sRow i).symm
/-- and the table's share, a piece to each gather. -/
theorem tV_pieces : ((tV).view.loc (thr d L) ↦{q} FA : sProp 𝕄)
    = bigSep Finset.univ fun i : Fin 16 => (tAllK).view.loc (thr d L) ↦[(tAllK).view.set]{pieceOf q 16 (by decide) i} FA := by
  rw [set_tAllK]
  exact pointsTo_piecesOf (ℓ := (tV).view.loc (thr d L)) Finset.univ FA (by decide : 0 < 16) q

/-- Before the first gather: the table's share, the values' buffer and the fetched list fall into the gathers' parts. -/
theorem start :
    iprop(((tV).view.loc (thr d L) ↦{q} FA) ∗ ((rV).view.loc (thr d L) ↦{fullShare} fr) ∗ ((sV).view.loc (thr d L) ↦{fullShare} tileList LIN (wid L))
        ∗ semVal ((thr d L), SemLoc.dma cc1_scratch2.sem) 0)
      ⊢ (|={Set.univ}=> rem d L q LIN FA hlt fr 0 : sProp 𝕄) := by
  rw [rV_rows, sV_rows, tV_pieces]
  unfold rem
  iintro ⟨Ht, Hr, Hs, Hv⟩
  imod (Transfers.batch_alloc' countersEmb (thr d L) (none : HIx 1) N (B d L q LIN FA hlt fr) (E := Set.univ)) $$ Hv with HB
  imodintro
  isplitr [HB]
  · rw [Transfers.pending_zero, bigSep_sep', bigSep_sep']
    isplitl [Ht]; · iexact Ht
    isplitl [Hr]; · iexact Hr
    iexact Hs
  · iexact HB

/-- What gather `i` writes is row `i` of the fetched values. -/
theorem written (i : Fin 16) (x : (rRow i).view.ty.Idx) (hx : x ∈ (rRow i).view.set) :
    (rRow i).view.write (Elt F) fr (gatherPayload gathers_S884736_S128 ((tAllK).view.read (Elt F) FA)
        (rows ((sRow i).view.read (Elt F) (tileList LIN (wid L))) rfl (hin L LIN hlt i))) Finset.univ x = tileVals LIN FA (wid L) x := by
  obtain ⟨z, -, rfl⟩ := Finset.mem_map.mp hx
  obtain ⟨b, rfl⟩ : ∃ b, z = ix1 b := ⟨z 0, eq_ix1 z⟩
  rw [View.write_emb_of_mem _ _ (Finset.mem_univ _), rRow_emb]
  show FA ((tAllK).view.emb _) = pick FA (LIN (ix3 (wid L) i b))
  rw [tAllK_emb, pick, dif_pos (hlt _)]
  refine congrArg FA ?_
  funext a; apply Fin.ext
  match a with
  | 0 =>
    show ((sRow i).view.read (Elt F) (tileList LIN (wid L)) _ : BitVec 32).toNat = (LIN (ix3 (wid L) i b) : BitVec 32).toNat
    rw [show S128.rowMajor.symm _ = ix1 b from ?_, read_sRow]
    · rfl
    · rw [Equiv.symm_apply_eq]; apply Fin.ext
      show b.val = (Shape.rowMajor ⟨1, ![128]⟩ (ix1 b) : ℕ)
      rw [Shape.rowMajor_val_one]

/-- After the last wait: everything back, the values fetched. -/
theorem finish :
    got d L q LIN FA hlt fr O W 16
      ⊢ (|={Set.univ}=> iprop(((tV).view.loc (thr d L) ↦{q} FA) ∗ ((rV).view.loc (thr d L) ↦{fullShare} tileVals LIN FA (wid L))
        ∗ ((sV).view.loc (thr d L) ↦{fullShare} tileList LIN (wid L)) ∗ semVal ((thr d L), SemLoc.dma cc1_scratch2.sem) 0
        ∗ ∃ W', ⌜∀ p ∈ W', p ∈ W ∨ p.2 = none⌝ ∗ owes (thr d L) O W') : sProp 𝕄) := by
  have hB : bigSep Finset.univ (B d L q LIN FA hlt fr)
      = bigSep Finset.univ fun i : Fin 16 => bigSep Finset.univ fun j : Fin 128 => back d L q LIN FA hlt fr i j := by
    rw [bigSep_univ_equiv finProdFinEquiv, bigSep_univ_prod]
    exact bigSep_congr fun i _ => bigSep_congr fun j _ => by unfold B; rw [Equiv.symm_apply_apply]
  have hi : ∀ i : Fin 16, (bigSep Finset.univ fun j : Fin 128 => back d L q LIN FA hlt fr i j)
      ⊢ (iprop(((rRow i).view.loc (thr d L) ↦[(rRow i).view.set]{fullShare} tileVals LIN FA (wid L))
          ∗ ((tAllK).view.loc (thr d L) ↦[(tAllK).view.set]{pieceOf q 16 (by decide) i} FA)
          ∗ ((sRow i).view.loc (thr d L) ↦[(sRow i).view.set]{fullShare} tileList LIN (wid L))) : sProp 𝕄) := fun i => by
    refine (rowBack_all (thr d L) tAllK (rRow i) gathers_S884736_S128 (sRow i) rfl (pieceOf q 16 (by decide) i) fullShare FA fr (tileList LIN (wid L)) pos128
      (rows ((sRow i).view.read (Elt F) (tileList LIN (wid L))) rfl (hin L LIN hlt i))).trans ?_
    refine Entails.of_eq ?_
    rw [pointsTo_congr (written L LIN FA hlt fr i)]
  have hall : (bigSep Finset.univ fun i : Fin 16 => bigSep Finset.univ fun j : Fin 128 => back d L q LIN FA hlt fr i j)
      ⊢ (bigSep Finset.univ fun i : Fin 16 => iprop(((rRow i).view.loc (thr d L) ↦[(rRow i).view.set]{fullShare} tileVals LIN FA (wid L))
          ∗ ((tAllK).view.loc (thr d L) ↦[(tAllK).view.set]{pieceOf q 16 (by decide) i} FA)
          ∗ ((sRow i).view.loc (thr d L) ↦[(sRow i).view.set]{fullShare} tileList LIN (wid L))) : sProp 𝕄) :=
    bigSep_mono fun i _ => hi i
  rw [bigSep_sep', bigSep_sep'] at hall
  rw [rV_rows, sV_rows, tV_pieces]
  unfold got
  iintro ⟨HB, HO⟩
  ihave HB := (Entails.of_eq (show Transfers.Batch countersEmb (thr d L) (.dma cc1_scratch2.sem) (none : HIx 1) N (B d L q LIN FA hlt fr) (16 * 128) (128 * N * 16)
    = Transfers.Batch countersEmb (thr d L) (.dma cc1_scratch2.sem) (none : HIx 1) N (B d L q LIN FA hlt fr) (16 * 128) (N * (16 * 128)) from
      congrArg _ (by rw [Nat.mul_comm 128 N, Nat.mul_assoc]))) $$ HB
  imod (Transfers.batch_collect' countersEmb (thr d L) (by decide : 0 < N)) $$ HB with ⟨HB, Hv⟩
  imodintro
  ihave HB' := (Entails.of_eq hB) $$ HB
  ihave HB2 := hall $$ HB'
  icases HB2 with ⟨Hr, Ht, Hs⟩
  isplitl [Ht]; · iexact Ht
  isplitl [Hr]; · iexact Hr
  isplitl [Hs]; · iexact Hs
  isplitl [Hv]; · iexact Hv
  iexact HO

end Cert.KernelIdeal.Gather

end
-- ==== Proof.KI.Tile.lean ====
/- One tile's task: fetch its row of the list, gather, write the row of the result. And the call's split over the tiles. -/
module

public import proofs.«01_k».proof.Proof.KI.Gather

@[expose] public section

set_option maxRecDepth 16384

noncomputable section

namespace Cert.KernelIdeal.Tile

open Cert.KernelIdeal Cert.KernelIdeal.Gen Cert.KernelIdeal.Setup Cert.KernelIdeal.Views Cert.KernelIdeal.Gather
open Idealize.ShloMosaic Idealize.ShloMosaic.SparseCore Idealize.ShloMosaic.ValueIdx Idealize.ShloMosaic.Tactic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (LIN : Vec F S32x16x128 .i32) (FA : Vec F S884736 .f32)

/-- Tile `w`'s share of the table. -/
abbrev tq (w : Fin 32) : PosShare TreeShare := pieceOf fullShare 32 (by decide) w

abbrev lRow (d : Dev nD) (w : Fin 32) : sProp 𝕄 := lLoc d ↦[rowSet w]{fullShare} LIN
abbrev tSh (d : Dev nD) (w : Fin 32) : sProp 𝕄 := tLoc d ↦{tq w} FA
abbrev oRow (d : Dev nD) (w : Fin 32) (f : Vec F S32x16x128 .f32) : sProp 𝕄 := oLoc d ↦[rowSet w]{fullShare} f

/-- What a tile is handed, and what it hands back. -/
def given (d : Dev nD) (w : Fin 32) : sProp 𝕄 := iprop(lRow LIN d w ∗ tSh FA d w ∗ ∃ f, oRow d w f)
def done (d : Dev nD) (w : Fin 32) : sProp 𝕄 := iprop(lRow LIN d w ∗ tSh FA d w ∗ oRow d w (outArr LIN FA))

instance (d : Dev nD) (w : Fin 32) : Storable (upEmb : UEmb _ 𝕄) (given LIN FA d w) := by unfold given; infer_instance
instance (d : Dev nD) (w : Fin 32) : Storable (upEmb : UEmb _ 𝕄) (done LIN FA d w) := by unfold done; infer_instance

section Body

variable (d : Dev nD) (L : grid1.Coords)

abbrev cA : GSem nD τ sig := (thr d L, .dma cc1_scoped0.sem)
abbrev cB : GSem nD τ sig := (thr d L, .dma cc1_scratch2.sem)
abbrev cC : GSem nD τ sig := (thr d L, .dma cc1_scoped1.sem)

theorem ownSems0_V :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc1_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc1_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc1_scoped1.sem : SemLoc sig).isScoped .scVector = true; decide⟩⟩⟩)]

theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

theorem pts_lRowK (f : Vec F S32x16x128 .i32) :
    ((lRowK L).view.loc (thr d L) ↦[(lRowK L).view.set]{fullShare} f : sProp 𝕄) = lLoc d ↦[rowSet (wid L)]{fullShare} f := by
  rw [set_lRowK]
theorem pts_oRowK (f : Vec F S32x16x128 .f32) :
    ((oRowK L).view.loc (thr d L) ↦[(oRowK L).view.set]{fullShare} f : sProp 𝕄) = oLoc d ↦[rowSet (wid L)]{fullShare} f := by
  rw [set_oRowK]

theorem read_list : (lRowK L).view.read (Elt F) LIN = tileList LIN (wid L) := by
  funext y
  obtain ⟨a, b, rfl⟩ : ∃ a b, y = ix2 a b := ⟨y 0, y 1, eq_ix2 y⟩
  rw [View.read_apply, lRowK_emb]; rfl

theorem written_row (fo : Vec F S32x16x128 .f32) (x : (oRowK L).view.ty.Idx) (hx : x ∈ (oRowK L).view.set) :
    (oRowK L).view.writes (Elt F) fo [⟨Rect.whole S16x128, tileVals LIN FA (wid L)⟩] x = outArr LIN FA x := by
  obtain ⟨z, -, rfl⟩ := Finset.mem_map.mp hx
  obtain ⟨a, b, rfl⟩ : ∃ a b, z = ix2 a b := ⟨z 0, z 1, eq_ix2 z⟩
  have h := View.read_writes_cons_emb (oRowK L).view fo (Rect.whole S16x128) (tileVals LIN FA (wid L)) [] (ix2 a b)
  rw [show (Rect.whole S16x128).emb (ix2 a b) = ix2 a b from Rect.emb_whole_apply _ _] at h
  rw [View.read_apply] at h
  refine (show _ = _ from h).trans ?_
  rw [oRowK_emb]; rfl

set_option maxHeartbeats 4000000 in
/-- The task on tile `L`. -/
theorem tile_body (hF : (K (F := F)).Facts) (hlt : ∀ x, (LIN x : BitVec 32).toNat < 884736)
    (O : CellTallies nD τ sig (HIx 1)) (W : Waits sig (HIx 1)) (hO : ∀ g, O g none = 0) :
    iprop(levAts (K (F := F)).L (K (F := F)).lev ∗ emp
        ∗ given LIN FA d (wid L) ∗ scopedBufs (thr d L) ∗ scopedSems0 (thr d L) ∗ owes (thr d L) O W)
      ⊢ wp frame (wpE (defs₀ (F := F)) 𝒱₀ (thr d L) none) Set.univ
          (cc1_gather_k L lV (Memref.isWhole_whole _) tV (Memref.isWhole_whole _) oV (Memref.isWhole_whole _)
            sV (Memref.isWhole_whole _) rV (Memref.isWhole_whole _) cc1_scratch2 cc1_scoped0 cc1_scoped1)
          fun _ => iprop(done LIN FA d (wid L)
            ∗ scopedBufs (thr d L) ∗ scopedSems0 (thr d L)
            ∗ ∃ W', ⌜∀ p ∈ W', p ∈ W ∨ p.2 = none⌝ ∗ owes (thr d L) O W') := by
  simp only [cc1_gather_k_eq_skeleton]; unfold cc1_gather_k_skel
  rw [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  simp only [bind_assoc, pure_bind]
  rw [(K (F := F)).scopedBufs_V hF d (cV L) (jV L), SparseCore.Cfg.scopedSems0_V (Val := Elt F) d (cV L) (jV L), ownSems0_V, ownBufs_V]
  unfold given done
  iintro ⟨#Hlv, -, ⟨Hl, Ht, ⟨%fo, Ho⟩⟩, ⟨⟨%fs, Hs⟩, ⟨%fr, Hr⟩, Hbufs⟩, ⟨HsemA, HsemB, HsemC, Hsems⟩, HO⟩
  ihave #Hmw := (show levAts (K (F := F)).L (K (F := F)).lev ⊢ Transfers.MayWaits (thr d L) (none : HIx 1) O from
    (K (F := F)).mayWaits_none (thr := thr d L) hO) $$ Hlv
  ihave Hl' := (Entails.of_eq (pts_lRowK (F := F) d L _).symm) $$ Hl
  ihave Ho' := (Entails.of_eq (pts_oRowK (F := F) d L _).symm) $$ Ho
  ihave Hs' := (Entails.of_eq (show ((thr d L).loc cc1_scratch0 ↦{fullShare} fs : sProp 𝕄) = (sV).view.loc (thr d L) ↦{fullShare} fs from rfl)) $$ Hs
  ihave Hr' := (Entails.of_eq (show ((thr d L).loc cc1_scratch1 ↦{fullShare} fr : sProp 𝕄) = (rV).view.loc (thr d L) ↦{fullShare} fr from rfl)) $$ Hr
  sl_exec
  ihave Hs2 := (Entails.of_eq (show ((sV).view.loc (thr d L) ↦{fullShare} View.write (Elt F) (sV).view fs (tile_body.sl.dma0 LIN L) Finset.univ : sProp 𝕄)
      = (sV).view.loc (thr d L) ↦{fullShare} tileList LIN (wid L) by
    rw [View.write_whole_univ]; unfold tile_body.sl.dma0; rw [read_list])) $$ Hs'
  imod (start d L (tq (wid L)) LIN FA hlt fr) $$ [Ht Hr' Hs2 HsemB] with Hrem
  · isplitl [Ht]; · iexact Ht
    isplitl [Hr']; · iexact Hr'
    isplitl [Hs2]; · iexact Hs2
    iexact HsemB
  iapply (issue d L (tq (wid L)) LIN FA hlt fr ⟨0, by decide⟩) $$ Hrem; iintro Hrem
  iapply (issue d L (tq (wid L)) LIN FA hlt fr ⟨1, by decide⟩) $$ Hrem; iintro Hrem
  iapply (issue d L (tq (wid L)) LIN FA hlt fr ⟨2, by decide⟩) $$ Hrem; iintro Hrem
  iapply (issue d L (tq (wid L)) LIN FA hlt fr ⟨3, by decide⟩) $$ Hrem; iintro Hrem
  iapply (issue d L (tq (wid L)) LIN FA hlt fr ⟨4, by decide⟩) $$ Hrem; iintro Hrem
  iapply (issue d L (tq (wid L)) LIN FA hlt fr ⟨5, by decide⟩) $$ Hrem; iintro Hrem
  iapply (issue d L (tq (wid L)) LIN FA hlt fr ⟨6, by decide⟩) $$ Hrem; iintro Hrem
  iapply (issue d L (tq (wid L)) LIN FA hlt fr ⟨7, by decide⟩) $$ Hrem; iintro Hrem
  iapply (issue d L (tq (wid L)) LIN FA hlt fr ⟨8, by decide⟩) $$ Hrem; iintro Hrem
  iapply (issue d L (tq (wid L)) LIN FA hlt fr ⟨9, by decide⟩) $$ Hrem; iintro Hrem
  iapply (issue d L (tq (wid L)) LIN FA hlt fr ⟨10, by decide⟩) $$ Hrem; iintro Hrem
  iapply (issue d L (tq (wid L)) LIN FA hlt fr ⟨11, by decide⟩) $$ Hrem; iintro Hrem
  iapply (issue d L (tq (wid L)) LIN FA hlt fr ⟨12, by decide⟩) $$ Hrem; iintro Hrem
  iapply (issue d L (tq (wid L)) LIN FA hlt fr ⟨13, by decide⟩) $$ Hrem; iintro Hrem
  iapply (issue d L (tq (wid L)) LIN FA hlt fr ⟨14, by decide⟩) $$ Hrem; iintro Hrem
  iapply (issue d L (tq (wid L)) LIN FA hlt fr ⟨15, by decide⟩) $$ Hrem; iintro Hrem
  ihave Hgot := (show iprop(rem d L (tq (wid L)) LIN FA hlt fr 16 ∗ ∃ W', ⌜∀ p ∈ W', p ∈ W ∨ p.2 = none⌝ ∗ owes (thr d L) O W')
      ⊢ got d L (tq (wid L)) LIN FA hlt fr O W 0 from by
    unfold rem got
    iintro ⟨⟨-, HB⟩, HO⟩
    isplitl [HB]; · iexact HB
    iexact HO) $$ [Hrem HO]
  · isplitl [Hrem]; · iexact Hrem
    iexists _; isplitr
    swap; · iexact HO
    ipureintro; intro p hp
    rcases Finset.mem_insert.mp hp with hp | hp
    · exact .inr (hp ▸ rfl)
    · exact .inl hp
  iapply (await d L (tq (wid L)) LIN FA hlt fr ⟨0, by decide⟩) $$ [Hgot]
  · isplitl [Hgot]; · iexact Hgot
    iexact Hmw
  iintro Hgot
  iapply (await d L (tq (wid L)) LIN FA hlt fr ⟨1, by decide⟩) $$ [Hgot]
  · isplitl [Hgot]; · iexact Hgot
    iexact Hmw
  iintro Hgot
  iapply (await d L (tq (wid L)) LIN FA hlt fr ⟨2, by decide⟩) $$ [Hgot]
  · isplitl [Hgot]; · iexact Hgot
    iexact Hmw
  iintro Hgot
  iapply (await d L (tq (wid L)) LIN FA hlt fr ⟨3, by decide⟩) $$ [Hgot]
  · isplitl [Hgot]; · iexact Hgot
    iexact Hmw
  iintro Hgot
  iapply (await d L (tq (wid L)) LIN FA hlt fr ⟨4, by decide⟩) $$ [Hgot]
  · isplitl [Hgot]; · iexact Hgot
    iexact Hmw
  iintro Hgot
  iapply (await d L (tq (wid L)) LIN FA hlt fr ⟨5, by decide⟩) $$ [Hgot]
  · isplitl [Hgot]; · iexact Hgot
    iexact Hmw
  iintro Hgot
  iapply (await d L (tq (wid L)) LIN FA hlt fr ⟨6, by decide⟩) $$ [Hgot]
  · isplitl [Hgot]; · iexact Hgot
    iexact Hmw
  iintro Hgot
  iapply (await d L (tq (wid L)) LIN FA hlt fr ⟨7, by decide⟩) $$ [Hgot]
  · isplitl [Hgot]; · iexact Hgot
    iexact Hmw
  iintro Hgot
  iapply (await d L (tq (wid L)) LIN FA hlt fr ⟨8, by decide⟩) $$ [Hgot]
  · isplitl [Hgot]; · iexact Hgot
    iexact Hmw
  iintro Hgot
  iapply (await d L (tq (wid L)) LIN FA hlt fr ⟨9, by decide⟩) $$ [Hgot]
  · isplitl [Hgot]; · iexact Hgot
    iexact Hmw
  iintro Hgot
  iapply (await d L (tq (wid L)) LIN FA hlt fr ⟨10, by decide⟩) $$ [Hgot]
  · isplitl [Hgot]; · iexact Hgot
    iexact Hmw
  iintro Hgot
  iapply (await d L (tq (wid L)) LIN FA hlt fr ⟨11, by decide⟩) $$ [Hgot]
  · isplitl [Hgot]; · iexact Hgot
    iexact Hmw
  iintro Hgot
  iapply (await d L (tq (wid L)) LIN FA hlt fr ⟨12, by decide⟩) $$ [Hgot]
  · isplitl [Hgot]; · iexact Hgot
    iexact Hmw
  iintro Hgot
  iapply (await d L (tq (wid L)) LIN FA hlt fr ⟨13, by decide⟩) $$ [Hgot]
  · isplitl [Hgot]; · iexact Hgot
    iexact Hmw
  iintro Hgot
  iapply (await d L (tq (wid L)) LIN FA hlt fr ⟨14, by decide⟩) $$ [Hgot]
  · isplitl [Hgot]; · iexact Hgot
    iexact Hmw
  iintro Hgot
  iapply (await d L (tq (wid L)) LIN FA hlt fr ⟨15, by decide⟩) $$ [Hgot]
  · isplitl [Hgot]; · iexact Hgot
    iexact Hmw
  iintro Hgot
  imod (finish d L (tq (wid L)) LIN FA hlt fr) $$ Hgot with ⟨Ht, Hr, Hs, HsemB, ⟨%W', %hW', HO⟩⟩
  sl_exec
  ihave Ho2 := (Entails.of_eq (show ((oRowK L).view.loc (thr d L) ↦[(oRowK L).view.set]{fullShare}
        (oRowK L).view.writes (Elt F) fo [⟨Rect.whole S16x128, tile_body.sl.dma0_1 LIN FA L⟩] : sProp 𝕄)
      = oLoc d ↦[rowSet (wid L)]{fullShare} outArr LIN FA by
    rw [← pts_oRowK]; exact pointsTo_congr (written_row LIN FA L fo))) $$ Ho'
  sl_step
  isplitl [Hl' Ht Ho2]
  · isplitl [Hl']; · iapply (Entails.of_eq (pts_lRowK (F := F) d L _)); iexact Hl'
    isplitl [Ht]; · iexact Ht
    iexact Ho2
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp
  · exact .inr (hp ▸ rfl)
  · exact hW' p hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          lV (Memref.isWhole_whole _) tV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Body

/-! ## What the call carries -/

/-- The row of tile `s` of SparseCore `c`. -/
def rowOf (c : Fin 2) (s : Fin 16) : Fin 32 := finProdFinEquiv (s, c)

/-- Each SparseCore is handed what its tiles need, and hands back what they leave. -/
def P (LIN : Dev nD → Vec F S32x16x128 .i32) (FA : Dev nD → Vec F S884736 .f32) : (K (F := F)).Pay (nD := nD) (Val := Elt F) (Name := ℕ) (U := UU) where
  st := fun q d c => match q with | 0 => bigSep Finset.univ fun s : Fin 16 => given (LIN d) (FA d) d (rowOf (Fin.cast nCore_zero c) s)
  dn := fun q d c => match q with | 0 => bigSep Finset.univ fun s : Fin 16 => done (LIN d) (FA d) d (rowOf (Fin.cast nCore_zero c) s)
  go := fun q d c i => match q with | 0 => given (LIN d) (FA d) d (rowOf (Fin.cast nCore_zero c) (Fin.cast nSub_zero i))
  td := fun q d c i => match q with | 0 => done (LIN d) (FA d) d (rowOf (Fin.cast nCore_zero c) (Fin.cast nSub_zero i))
  x := fun _ _ => iprop(emp)

variable (LINd : Dev nD → Vec F S32x16x128 .i32) (FAd : Dev nD → Vec F S884736 .f32)

instance P_storable : (P (F := F) LINd FAd).IsStorable where
  st q d c := match q with
    | 0 => (inferInstance : BI.Storable (upEmb : UEmb _ 𝕄) (bigSep Finset.univ fun s : Fin 16 => given (LINd d) (FAd d) d (rowOf (Fin.cast nCore_zero c) s)))
  dn q d c := match q with
    | 0 => (inferInstance : BI.Storable (upEmb : UEmb _ 𝕄) (bigSep Finset.univ fun s : Fin 16 => done (LINd d) (FAd d) d (rowOf (Fin.cast nCore_zero c) s)))
  go q d c i := match q with
    | 0 => (inferInstance : BI.Storable (upEmb : UEmb _ 𝕄) (given (LINd d) (FAd d) d (rowOf (Fin.cast nCore_zero c) (Fin.cast nSub_zero i))))
  td q d c i := match q with
    | 0 => (inferInstance : BI.Storable (upEmb : UEmb _ 𝕄) (done (LINd d) (FAd d) d (rowOf (Fin.cast nCore_zero c) (Fin.cast nSub_zero i))))

theorem tileObl (hF : (K (F := F)).Facts) (hlt : ∀ d x, (LINd d x : BitVec 32).toNat < 884736) : (K (F := F)).TileObl (D (F := F)) 𝒱 (P LINd FAd) v₀ 0 := by
  intro d c i O W hO _ _
  simp only [show (P LINd FAd).ox = fun _ _ => 0 from rfl, add_zero]
  have hci : ((K (F := F)).core 0 c).val < grid1.bound 0 ∧ ((K (F := F)).sub 0 i).val < grid1.bound 1 := ⟨c.isLt, i.isLt⟩
  have hw : wid (coordsV ⟨_, hci.1⟩ ⟨_, hci.2⟩) = rowOf (Fin.cast nCore_zero c) (Fin.cast nSub_zero i) :=
    Fin.ext (Nat.add_comm (2 * i.val) c.val)
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := (tile_body (LINd d) (FAd d) d (coordsV ⟨_, hci.1⟩ ⟨_, hci.2⟩) hF (hlt d) O W hO).trans (wp_mono frame _ _ fun _ => obl_post (q := (0 : Fin 1)))
  rw [hw] at hb
  exact hb

theorem vecSplit : (K (F := F)).VecSplit' (P LINd FAd) 0 := by
  intro d c
  show (bigSep Finset.univ fun s : Fin 16 => given (LINd d) (FAd d) d (rowOf (Fin.cast nCore_zero c) s)) ⊢ |={Set.univ}=> iprop(
      (bigSep Finset.univ fun s : Fin 16 => given (LINd d) (FAd d) d (rowOf (Fin.cast nCore_zero c) s))
      ∗ ((bigSep Finset.univ fun s : Fin 16 => done (LINd d) (FAd d) d (rowOf (Fin.cast nCore_zero c) s))
          -∗ (bigSep Finset.univ fun s : Fin 16 => done (LINd d) (FAd d) d (rowOf (Fin.cast nCore_zero c) s))))
  iintro H; imodintro
  isplitl [H]; · iexact H
  iintro H; iexact H

/-- Over the tiles of both SparseCores is over the rows. -/
theorem over_rows (Φ : Fin 32 → sProp 𝕄) :
    (bigSep Finset.univ fun c : Fin ((K (F := F)).nCore 0) => bigSep Finset.univ fun s : Fin 16 => Φ (rowOf (Fin.cast nCore_zero c) s))
      = bigSep Finset.univ Φ := by
  rw [bigSep_univ_equiv (((finCongr (nCore_zero (F := F))).prodCongr (Equiv.refl (Fin 16))).trans
      ((Equiv.prodComm (Fin 2) (Fin 16)).trans finProdFinEquiv)) Φ, bigSep_univ_prod]
  rfl

theorem rows_cover : (Finset.univ : Finset S32x16x128.Idx) = Finset.univ.biUnion fun w : Fin 32 => rowSet w := by
  ext x
  simp only [Finset.mem_univ, true_iff, Finset.mem_biUnion, true_and]
  refine ⟨x 0, ?_⟩
  have h : (S32x16x128.rowRect (0 : Fin 3) (x 0)).emb (S32x16x128.rowProj (0 : Fin 3) x) = x := Shape.rowRect_emb_rowProj _ _
  have h' : (S32x16x128.rowRect (0 : Fin 3) (x 0)).emb (S32x16x128.rowProj (0 : Fin 3) x) ∈ rowSet (x 0) := by
    unfold rowSet; rw [← Rect.map_emb_univ]; exact Finset.mem_map_of_mem _ (Finset.mem_univ _)
  rwa [h] at h'

theorem rows_disjoint {w w' : Fin 32} (h : w ≠ w') : Disjoint (rowSet w) (rowSet w') := by
  refine Finset.disjoint_left.mpr fun i hi hi' => h ?_
  unfold rowSet at hi hi'
  rw [← Rect.map_emb_univ] at hi hi'
  obtain ⟨j, -, rfl⟩ := Finset.mem_map.mp hi
  obtain ⟨j', -, hj'⟩ := Finset.mem_map.mp hi'
  have := congrFun hj' (0 : Fin 3)
  rw [Shape.rowRect_emb_axis (s := S32x16x128) (0 : Fin 3) w' j', Shape.rowRect_emb_axis (s := S32x16x128) (0 : Fin 3) w j] at this
  exact this.symm

theorem l_rows (d : Dev nD) (f : Vec F S32x16x128 .i32) :
    (lLoc d ↦{fullShare} f : sProp 𝕄) = bigSep Finset.univ fun w : Fin 32 => lLoc d ↦[rowSet w]{fullShare} f :=
  (congrArg (fun S : Finset S32x16x128.Idx => (lLoc d ↦[S]{fullShare} f : sProp 𝕄)) rows_cover).trans
    (pointsTo_biUnion Finset.univ _ fun _ _ _ _ h => rows_disjoint h)
theorem o_rows (d : Dev nD) (f : Vec F S32x16x128 .f32) :
    (oLoc d ↦{fullShare} f : sProp 𝕄) = bigSep Finset.univ fun w : Fin 32 => oLoc d ↦[rowSet w]{fullShare} f :=
  (congrArg (fun S : Finset S32x16x128.Idx => (oLoc d ↦[S]{fullShare} f : sProp 𝕄)) rows_cover).trans
    (pointsTo_biUnion Finset.univ _ fun _ _ _ _ h => rows_disjoint h)

theorem t_pieces (d : Dev nD) (f : Vec F S884736 .f32) :
    (tLoc d ↦{fullShare} f : sProp 𝕄) = bigSep Finset.univ fun w : Fin 32 => tLoc d ↦{tq w} f :=
  pointsTo_piecesOf (ℓ := tLoc d) Finset.univ f (o := 32) (by omega) fullShare

theorem give (d : Dev nD) (f : Vec F S32x16x128 .f32) (w : Fin 32) : iprop(lRow LIN d w ∗ tSh FA d w ∗ oRow d w f) ⊢ given LIN FA d w := by
  unfold given
  iintro ⟨Hl, Ht, Ho⟩
  isplitl [Hl]; · iexact Hl
  isplitl [Ht]; · iexact Ht
  iexists f; iexact Ho

/-- The call's operands whole are what the two SparseCores are handed, -/
theorem st_of (d : Dev nD) (f : Vec F S32x16x128 .f32) :
    iprop((lLoc d ↦{fullShare} LINd d) ∗ (tLoc d ↦{fullShare} FAd d) ∗ (oLoc d ↦{fullShare} f))
      ⊢ (bigSep Finset.univ fun c : Fin ((K (F := F)).nCore 0) => (P LINd FAd).st 0 d c : sProp 𝕄) := by
  refine BI.Entails.trans ?_ (Entails.of_eq (over_rows (given (LINd d) (FAd d) d)).symm)
  rw [l_rows, o_rows, t_pieces, ← bigSep_sep', ← bigSep_sep']
  exact bigSep_mono fun w _ => give (LINd d) (FAd d) d f w

/-- and what they hand back is the operands whole, the result computed. -/
theorem dn_to (d : Dev nD) :
    (bigSep Finset.univ fun c : Fin ((K (F := F)).nCore 0) => (P LINd FAd).dn 0 d c)
      ⊢ (iprop((lLoc d ↦{fullShare} LINd d) ∗ (tLoc d ↦{fullShare} FAd d) ∗ (oLoc d ↦{fullShare} outArr (LINd d) (FAd d))) : sProp 𝕄) := by
  refine BI.Entails.trans (Entails.of_eq (over_rows (done (LINd d) (FAd d) d))) ?_
  rw [l_rows, o_rows, t_pieces, ← bigSep_sep', ← bigSep_sep']
  exact bigSep_mono fun w _ => BI.Entails.refl _

end Cert.KernelIdeal.Tile

end
-- ==== Proof.KI.Segments.lean ====
/- The contents of the buffers at each boundary of @main, from the launch to the return, and the two pipelined regions as
   segments entered and left with what the TensorCore owes the SparseCore call. -/
module

public import proofs.«01_k».proof.Proof.KI.Regions
public import proofs.«01_k».proof.Proof.KI.Tile

@[expose] public section

set_option maxRecDepth 16384

noncomputable section

namespace Cert.KernelIdeal.Segments

open Cert.KernelIdeal Cert.KernelIdeal.Gen Cert.KernelIdeal.Setup Cert.KernelIdeal.Host Cert.KernelIdeal.Regions Cert.KernelIdeal.Views
open Idealize.ShloMosaic Idealize.ShloMosaic.TcCoe Idealize.ShloMosaic.ValueIdx Idealize.ShloMosaic.Tactic
open Idealize.ShloMosaic.SparseCore (T)
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## The contents at each boundary -/

/-- At the launch. -/
def W0 (c : Dev nD) : Valuation τ sig (Elt F) := fun b => m (c, b)
/-- Where the trajectory region is entered. -/
def WA (c : Dev nD) : Valuation τ sig (Elt F) := StableHlo.after hostA (W0 m c)
abbrev VA : (c : Dev nD) → (b : Ref sig .tc) → Buf (Elt F) ((c : Thread nD τ).loc b) := fun c b => WA m c b
/-- Where it is left. -/
def WR0 (c : Dev nD) : Valuation τ sig (Elt F) := Pipeline.withArrays spec0 c (WA m c) fun w => (dat0 (VA m) c).arrAt w cfg0.N
abbrev VR0 : (c : Dev nD) → (b : Ref sig .tc) → Buf (Elt F) ((c : Thread nD τ).loc b) := fun c b => WR0 m c b
/-- Where the SparseCore call is entered: the list of positions and the table are laid out. -/
def WB (c : Dev nD) : Valuation τ sig (Elt F) := StableHlo.after hostB (WR0 m c)
/-- The list the call gathers by, and the table it gathers from. -/
def LIN (c : Dev nD) : Vec F S32x16x128 .i32 := WB m c (Proc.devRef .tc main_v23)
def FA (c : Dev nD) : Vec F S884736 .f32 := WB m c (Proc.devRef .tc main_v24)
/-- Where the call is left. -/
def WS (c : Dev nD) : Valuation τ sig (Elt F) := Function.update (WB m c) (Proc.devRef .tc main_v25) (outArr (LIN m c) (FA m c))
/-- Where the finishing region is entered. -/
def WC (c : Dev nD) : Valuation τ sig (Elt F) := StableHlo.after hostC (WS m c)
abbrev VC : (c : Dev nD) → (b : Ref sig .tc) → Buf (Elt F) ((c : Thread nD τ).loc b) := fun c b => WC m c b
/-- Where it is left. -/
def WR1 (c : Dev nD) : Valuation τ sig (Elt F) := Pipeline.withArrays spec2 c (WC m c) fun w => (dat2 (VC m) c).arrAt w cfg2.N
abbrev VR1 : (c : Dev nD) → (b : Ref sig .tc) → Buf (Elt F) ((c : Thread nD τ).loc b) := fun c b => WR1 m c b
/-- At the return. -/
def WD (c : Dev nD) : Valuation τ sig (Elt F) := StableHlo.after hostD (WR1 m c)

theorem WR0_arr (c : Dev nD) (w : Fin cfg0.W) : WR0 m c (Proc.devRef .tc (Pipeline.arrRef spec0 w)) = (dat0 (VA m) c).arrAt w cfg0.N := by
  unfold WR0; exact Pipeline.withArrays_arr spec0 launch0.win.arr_inj c _ _ w
theorem WR0_of_ne (c : Dev nD) (b : Ref sig .tc) (hb : ∀ w, Pipeline.arrRef spec0 w ≠ b) :
    WR0 m c (Proc.devRef .tc b) = WA m c (Proc.devRef .tc b) := by
  unfold WR0; exact Pipeline.withArrays_of_ne spec0 c _ _ b hb
theorem WR1_arr (c : Dev nD) (w : Fin cfg2.W) : WR1 m c (Proc.devRef .tc (Pipeline.arrRef spec2 w)) = (dat2 (VC m) c).arrAt w cfg2.N := by
  unfold WR1; exact Pipeline.withArrays_arr spec2 launch2.win.arr_inj c _ _ w
theorem WR1_of_ne (c : Dev nD) (b : Ref sig .tc) (hb : ∀ w, Pipeline.arrRef spec2 w ≠ b) :
    WR1 m c (Proc.devRef .tc b) = WC m c (Proc.devRef .tc b) := by
  unfold WR1; exact Pipeline.withArrays_of_ne spec2 c _ _ b hb

/-- A buffer no step of @main writes ends as it was launched. -/
theorem WD_kept (c : Dev nD) (b : Ref sig .tc) (hA : b ∉ hostA_W) (hB : b ∉ hostB_W) (hC : b ∉ hostC_W) (hD : b ∉ hostD_W)
    (h0 : ∀ w, Pipeline.arrRef spec0 w ≠ b) (h2 : ∀ w, Pipeline.arrRef spec2 w ≠ b) (hs : b ≠ main_v25) :
    WD m c (Proc.devRef .tc b) = m ((c : Thread nD τ).loc b) := by
  unfold WD
  rw [StableHlo.after_of_writes_sub hostD _ hostD_writes hD, WR1_of_ne m c b h2]
  unfold WC
  rw [StableHlo.after_of_writes_sub hostC _ hostC_writes hC]
  unfold WS
  rw [Function.update_of_ne (fun e => hs (Proc.devRef_injective _ e))]
  unfold WB
  rw [StableHlo.after_of_writes_sub hostB _ hostB_writes hB, WR0_of_ne m c b h0]
  unfold WA
  rw [StableHlo.after_of_writes_sub hostA _ hostA_writes hA]
  rfl

/-! ## What the TensorCore owes around a region -/

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => dat0 (VA m) c
  | ⟨1, _⟩ => fun c => dat2 (VC m) c

/-- What the TensorCore owes before call `n`, its recorded waits at or below that call's levels. -/
def R (n : ℕ) (c : Dev nD) : sProp 𝕄 :=
  iprop(∃ W, ⌜(K (F := F)).WBelow (T c) W (8 * n)⌝ ∗ owes (T c) ((K (F := F)).Otc c n) W)

theorem Otc_none (c : Dev nD) (n : ℕ) (g : GSem nD τ sig) : (K (F := F)).Otc c n g none = 0 := by
  rw [SparseCore.Cfg.Otc, Finset.sum_apply, Finsupp.finset_sum_apply]
  refine Finset.sum_eq_zero fun q _ => ?_
  split
  · rw [Finset.sum_apply, Finsupp.finset_sum_apply]
    exact Finset.sum_eq_zero fun x _ => by rw [tallyAt_apply]; exact if_neg fun h => nomatch h.2
  · rfl

theorem R_eq (n : ℕ) (c : Dev nD) (ps : Set (SemLoc sig × HIx 1)) (h : ∀ p ∈ ps, p.2 = none) :
    (R n c : sProp 𝕄) ⊢ Pipeline.owesWithin c ((K (F := F)).Otc c n) (below (F := F) n c ∪ ps) := by
  unfold R Pipeline.owesWithin
  iintro ⟨%W, %hW, HO⟩
  iexists W; isplitr
  · ipureintro; exact fun p hp => Or.inl (hW p hp)
  iexact HO

theorem eq_R (n : ℕ) (c : Dev nD) (ps : Set (SemLoc sig × HIx 1)) (h : ∀ p ∈ ps, p.2 = none) :
    Pipeline.owesWithin c ((K (F := F)).Otc c n) (below (F := F) n c ∪ ps) ⊢ (R n c : sProp 𝕄) := by
  unfold R Pipeline.owesWithin
  iintro ⟨%W, %hW, HO⟩
  iexists W; isplitr
  · ipureintro
    intro p hp
    rcases hW hp with h' | h'
    · exact h'
    · have e := h p h'
      obtain ⟨a, b⟩ := p
      cases e
      exact Nat.zero_le _
  iexact HO

/-! ## The regions as segments -/

set_option backward.isDefEq.respectTransparency.types false in
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VA m) c).loose
  hwaits c := Pipeline.cellsWaits_intro _ _ _ _ _ fun w s t => (K (F := F)).mayWait_none _ (Otc_none c 0)
  pre c := iprop(StableHlo.held (c : Thread nD τ) (Pipeline.ucRefs τ sig) (WA m c) ∗ R 0 c)
  post c := iprop(StableHlo.held (c : Thread nD τ) (Pipeline.ucRefs τ sig) (WR0 m c) ∗ R 0 c)
  X c := iprop(emp)
  Y c := iprop(emp)
  Z c := Pipeline.unscopedRest (Ix := HIx 1) (Name := ℕ) (U := UU) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) (A_eq0 (VA m) c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hw : ∀ p ∈ cfg0.waitPairs (none : HIx 1), p.2 = none := by rintro p ⟨w, s, rfl⟩; rfl
      ihave HO := (R_eq 0 c _ hw) $$ HO
      iexact HO
    isplitr; · iempintro
    iexact Hrest
  hin c := by
    rw [show (pdats m 0 c).Φ 0 = Pipeline.scopedRest spec0 c from rfl]
    iintro ⟨-, -, Hr⟩
    iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (VA m c) (VR0 m c) ((pdats m 0 c).arrAt · cfg0.N) (fun w => (WR0_arr m c w).symm)
      (fun b hb => WR0_of_ne m c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    have hw : ∀ p ∈ cfg0.waitPairs (none : HIx 1), p.2 = none := by rintro p ⟨w, s, rfl⟩; rfl
    iapply (eq_R 0 c _ hw)
    iexact HO

set_option backward.isDefEq.respectTransparency.types false in
def reg1 : Pipeline.RegionSeg (pcfgs (F := F)) adm (pdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (VC m) c).loose
  hwaits c := Pipeline.cellsWaits_intro _ _ _ _ _ fun w s t => (K (F := F)).mayWait_none _ (Otc_none c 1)
  pre c := iprop(StableHlo.held (c : Thread nD τ) (Pipeline.ucRefs τ sig) (WC m c) ∗ R 1 c)
  post c := iprop(StableHlo.held (c : Thread nD τ) (Pipeline.ucRefs τ sig) (WR1 m c) ∗ R 1 c)
  X c := iprop(emp)
  Y c := iprop(emp)
  Z c := Pipeline.unscopedRest (Ix := HIx 1) (Name := ℕ) (U := UU) (Lvl := ℕ) spec2 c (VC m c)
  hentry c := by
    rw [Pipeline.ownSems0_none]
    have hsplit := Pipeline.arrays_of_unscopedBufs (p := 1) (pcfgs (F := F)) adm (pdats m) launch2.win launch2.arr_whole c
      ((pdats m 1 c).share_full fun _ => rfl) (VC m c) (A_eq2 (VC m) c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hw : ∀ p ∈ cfg2.waitPairs (none : HIx 1), p.2 = none := by rintro p ⟨w, s, rfl⟩; rfl
      ihave HO := (R_eq 1 c _ hw) $$ HO
      iexact HO
    isplitr; · iempintro
    iexact Hrest
  hin c := by
    rw [show (pdats m 1 c).Φ 0 = Pipeline.scopedRest spec2 c from rfl]
    iintro ⟨-, -, Hr⟩
    iexact Hr
  hout c := by
    rw [Pipeline.ownSems0_none, show (pdats m 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (VC m c) (VR1 m c) ((pdats m 1 c).arrAt · cfg2.N) (fun w => (WR1_arr m c w).symm)
      (fun b hb => WR1_of_ne m c b fun w e => hb (Finset.mem_image.mpr ⟨w, Finset.mem_univ _, e⟩))
    rw [Pipeline.unscopedBufs_held] at hjoin
    iintro ⟨Ha, HO, -, Hrest⟩
    imodintro
    isplitl [Ha Hrest]
    · iapply hjoin; isplitl [Ha] <;> iassumption
    have hw : ∀ p ∈ cfg2.waitPairs (none : HIx 1), p.2 = none := by rintro p ⟨w, s, rfl⟩; rfl
    iapply (eq_R 1 c _ hw)
    iexact HO

end Cert.KernelIdeal.Segments

end
-- ==== Proof.KI.Launch.lean ====
/- The kernel's run: @main on the TensorCore from its segments, the launch of the thirty-five threads, and what every final
   state holds. -/
module

public import proofs.«01_k».proof.Proof.KI.Segments
public import Idealize.ShloMosaic.Lib.SparseCore.Quiescent

@[expose] public section

set_option maxRecDepth 16384

noncomputable section

namespace Cert.KernelIdeal.Launch

open Cert.KernelIdeal Cert.KernelIdeal.Gen Cert.KernelIdeal.Setup Cert.KernelIdeal.Host Cert.KernelIdeal.Regions Cert.KernelIdeal.Views Cert.KernelIdeal.Segments
open Idealize.ShloMosaic Idealize.ShloMosaic.TcCoe Idealize.ShloMosaic.ValueIdx Idealize.ShloMosaic.Tactic
open Idealize.ShloMosaic.SparseCore (T)
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The call's payloads at this run's list and table. -/
abbrev PP : (K (F := F)).Pay (nD := nD) (Val := Elt F) (U := UU) (Name := ℕ) := Tile.P (LIN m) (FA m)

/-! ## The SparseCore call's three arrays among the buffers -/

def scRefs : Finset (DevRef τ sig) := {Proc.devRef .tc main_v23, Proc.devRef .tc main_v24, Proc.devRef .tc main_v25}

theorem scRefs_sub : scRefs ⊆ Pipeline.ucRefs τ sig := by
  intro b hb
  simp only [scRefs, Finset.mem_insert, Finset.mem_singleton] at hb
  rcases hb with rfl | rfl | rfl <;> exact Finset.mem_filter.mpr ⟨StableHlo.devRef_mem_tcRefs _, by decide⟩

theorem held_scRefs (d : Dev nD) (V : Valuation τ sig (Elt F)) :
    (StableHlo.held (d : Thread nD τ) scRefs V : sProp 𝕄)
      = iprop((lLoc d ↦{fullShare} V (Proc.devRef .tc main_v23)) ∗ (tLoc d ↦{fullShare} V (Proc.devRef .tc main_v24))
          ∗ (oLoc d ↦{fullShare} V (Proc.devRef .tc main_v25))) := by
  unfold StableHlo.held scRefs
  rw [SparseCore.bigSep_insert' (by decide), SparseCore.bigSep_insert' (by decide), bigSep_singleton]

theorem held_rest (d : Dev nD) :
    (StableHlo.held (d : Thread nD τ) (Pipeline.ucRefs τ sig \ scRefs) (WB m d) : sProp 𝕄)
      = StableHlo.held (d : Thread nD τ) (Pipeline.ucRefs τ sig \ scRefs) (WS m d) := by
  unfold StableHlo.held
  refine bigSep_congr fun b hb => ?_
  have hne : b ≠ Proc.devRef .tc main_v25 := fun e => (Finset.mem_sdiff.mp hb).2 (e ▸ by decide)
  unfold WS
  rw [Function.update_of_ne hne]

theorem call_in (d : Dev nD) :
    (StableHlo.held (d : Thread nD τ) (Pipeline.ucRefs τ sig) (WB m d) : sProp 𝕄)
      ⊢ iprop((bigSep Finset.univ fun c : Fin ((K (F := F)).nCore 0) => (PP m).st 0 d c)
          ∗ StableHlo.held (d : Thread nD τ) (Pipeline.ucRefs τ sig \ scRefs) (WS m d)) := by
  rw [StableHlo.held_sub_split _ scRefs_sub, held_rest, held_scRefs]
  exact sep_mono_left (Tile.st_of (LIN m) (FA m) d _)

theorem call_out (d : Dev nD) :
    iprop((bigSep Finset.univ fun c : Fin ((K (F := F)).nCore 0) => (PP m).dn 0 d c)
        ∗ StableHlo.held (d : Thread nD τ) (Pipeline.ucRefs τ sig \ scRefs) (WS m d))
      ⊢ (StableHlo.held (d : Thread nD τ) (Pipeline.ucRefs τ sig) (WS m d) : sProp 𝕄) := by
  rw [StableHlo.held_sub_split _ scRefs_sub, held_scRefs]
  refine sep_mono_left ((Tile.dn_to (LIN m) (FA m) d).trans (Entails.of_eq ?_))
  have e23 : WS m d (Proc.devRef .tc main_v23) = LIN m d := by unfold WS; exact Function.update_of_ne (by decide) _ _
  have e24 : WS m d (Proc.devRef .tc main_v24) = FA m d := by unfold WS; exact Function.update_of_ne (by decide) _ _
  have e25 : WS m d (Proc.devRef .tc main_v25) = outArr (LIN m d) (FA m d) := by unfold WS; exact Function.update_self _ _ _
  rw [e23, e24, e25]

/-! ## The launch's ghost state -/

def u₀ : UU := (initOf (K (F := F)).hsCells (K (F := F)).hsToks,
  (initOf (Pipeline.cells cfgs cellOf_inj) (Pipeline.launchToks cfgs cellOf_inj), 1))

/-- What the launch deals device `d`'s TensorCore: the ghost state of both regions' cells. -/
def G (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

theorem G_eq (d : Dev nD) : (G d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} from rfl, SparseCore.bigSep_insert' (by decide), bigSep_singleton]

theorem fund : (BI.own ((EP : Emb UP 𝕄) (initOf (Pipeline.cells cfgs cellOf_inj) (Pipeline.launchToks cfgs cellOf_inj))) : sProp 𝕄)
    ⊢ iprop(|==> bigSep Finset.univ fun d : Dev nD => (G d : sProp 𝕄)) := by
  have h := Pipeline.fund_ghost (Pipeline.pin (pcfgs (F := F)) adm) (EP : Emb UP 𝕄) cellOf_inj
  have e : iprop((bigSep Finset.univ fun c : Dev nD => bigSep Finset.univ fun p => Pipeline.cellsGhost (Pipeline.pin (pcfgs (F := F)) adm) (EP : Emb UP 𝕄) p c)
      ∗ (bigSep Finset.univ fun c : Dev nD => bigSep Finset.univ fun p => Pipeline.toksInit (Pipeline.pin (pcfgs (F := F)) adm) (EP : Emb UP 𝕄) p c))
      = bigSep Finset.univ fun d : Dev nD => (G d : sProp 𝕄) := by
    unfold G
    rw [← bigSep_sep']
    exact bigSep_congr fun d _ => (bigSep_sep' _ _ _).symm
  iintro H
  imod (h) $$ H with H
  imodintro
  iapply (Entails.of_eq e)
  iexact H

theorem hu₀ : (ownU (u₀ (F := F)) : sProp 𝕄)
    ⊢ |={Set.univ}=> iprop(BI.own (EH (initOf (K (F := F)).hsCells (K (F := F)).hsToks)) ∗ (bigSep Finset.univ fun d : Dev nD => (G d : sProp 𝕄))
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (fund (F := F)) $$ HP with HG
  imodintro
  isplitl [HH]; · iexact HH
  isplitl [HG]; · iexact HG
  rw [show (bigSep Finset.univ fun thr : Thread nD τ => bigSep Finset.univ fun q : Fin 1 => (PP m).x q thr) = (bigSep Finset.univ fun _ : Thread nD τ => (BI.emp : sProp 𝕄)) from
    bigSep_congr fun _ _ => bigSep_univ_of_subsingleton (0 : Fin 1), bigSep_emp_const]
  iempintro

/-! ## @main on the TensorCore -/

abbrev FIN (d : Dev nD) : sProp 𝕄 := StableHlo.held (d : Thread nD τ) (Pipeline.ucRefs τ sig) (WD m d)

/-- The TensorCore's state around call `n` is what it owes there beside the rest of its standing. -/
theorem tcSt_R (d : Dev nD) (n : ℕ) :
    ∃ X : sProp 𝕄, (K (F := F)).tcSt EH d n = iprop(R n d ∗ X) := ⟨_, rfl⟩

/-- A region's call, as the pipelines' program has it. -/
def enter (p : Fin 2) : Prog (TpuEff nD τ sig (Elt F) (ΛP (F := F)) .tc) PUnit := .op (.customCall (Pipeline.entry p) ()) fun _ => .ret ⟨⟩

set_option backward.isDefEq.respectTransparency.types false in
theorem region0 (d : Dev nD) (Q : PUnit → sProp 𝕄) :
    iprop((iprop(boundary (d : Thread nD τ) ∗ StableHlo.held (d : Thread nD τ) (Pipeline.ucRefs τ sig) (WR0 m d) ∗ R 0 d) -∗ Q ⟨⟩)
        ∗ boundary (d : Thread nD τ) ∗ (StableHlo.held (d : Thread nD τ) (Pipeline.ucRefs τ sig) (WA m d) ∗ R 0 d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q := by
  iintro ⟨HQ, H⟩
  iapply ((K (F := F)).wp_liftProg (D (F := F)) 𝒱 (T d) Set.univ none (enter 0) Q)
  unfold enter
  iapply (Pipeline.RegionSeg.wp pcfgs adm (pdats m) none cellOf_inj EP defs₀ 𝒱₀ _ _ (reg0 m) d none (fun _ h => nomatch h) (fun _ => .ret ⟨⟩) Q)
  isplitl [HQ]
  · iintro Hp
    rw [wp_ret]
    imodintro
    iapply HQ; iexact Hp
  iexact H

set_option backward.isDefEq.respectTransparency.types false in
theorem region1 (d : Dev nD) (Q : PUnit → sProp 𝕄) :
    iprop((iprop(boundary (d : Thread nD τ) ∗ StableHlo.held (d : Thread nD τ) (Pipeline.ucRefs τ sig) (WR1 m d) ∗ R 1 d) -∗ Q ⟨⟩)
        ∗ boundary (d : Thread nD τ) ∗ (StableHlo.held (d : Thread nD τ) (Pipeline.ucRefs τ sig) (WC m d) ∗ R 1 d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Q := by
  iintro ⟨HQ, H⟩
  iapply ((K (F := F)).wp_liftProg (D (F := F)) 𝒱 (T d) Set.univ none (enter 1) Q)
  unfold enter
  iapply (Pipeline.RegionSeg.wp pcfgs adm (pdats m) none cellOf_inj EP defs₀ 𝒱₀ _ _ (reg1 m) d none (fun _ h => nomatch h) (fun _ => .ret ⟨⟩) Q)
  isplitl [HQ]
  · iintro Hp
    rw [wp_ret]
    imodintro
    iapply HQ; iexact Hp
  iexact H

theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  obtain ⟨X0, h0⟩ := tcSt_R (F := F) d 0
  obtain ⟨X1, h1⟩ := tcSt_R (F := F) d 1
  have hub : (unscopedBufs d (fun b => m ((T d : Thread nD τ).loc b)) : sProp 𝕄) = StableHlo.held (d : Thread nD τ) (Pipeline.ucRefs τ sig) (W0 m d) :=
    Pipeline.unscopedBufs_held d (W0 m d)
  have subA : ∀ op ∈ (hostA : List (HloOp τ sig (Elt F))), op.bufs ⊆ Pipeline.ucRefs τ sig := fun op h => Pipeline.sub_ucRefs op ((List.forall_iff_forall_mem.mp hostA_sub) op h)
  have subB : ∀ op ∈ (hostB : List (HloOp τ sig (Elt F))), op.bufs ⊆ Pipeline.ucRefs τ sig := fun op h => Pipeline.sub_ucRefs op ((List.forall_iff_forall_mem.mp hostB_sub) op h)
  have subC : ∀ op ∈ (hostC : List (HloOp τ sig (Elt F))), op.bufs ⊆ Pipeline.ucRefs τ sig := fun op h => Pipeline.sub_ucRefs op ((List.forall_iff_forall_mem.mp hostC_sub) op h)
  have subD : ∀ op ∈ (hostD : List (HloOp τ sig (Elt F))), op.bufs ⊆ Pipeline.ucRefs τ sig := fun op h => Pipeline.sub_ucRefs op ((List.forall_iff_forall_mem.mp hostD_sub) op h)
  rw [main_eq]
  unfold SparseCore.Cfg.tcRes SparseCore.Cfg.tcEnd
  rw [hub, h0, G_eq]
  iintro ⟨#Hctx, ⟨HO, HX⟩, ⟨Hb, Hh, Hts, -⟩, HG0, HG1⟩
  ihave #Hlev := (SparseCore.Cfg.ctx_levAts κ) $$ Hctx
  iapply (StableHlo.wp_seq 𝒱 none Set.univ d (Pipeline.ucRefs τ sig) _ hostA subA (List.forall_iff_forall_mem.mp hostA_fresh) (W0 m d)) $$ [Hb Hh]
  · isplitl [Hb] <;> iassumption
  rw [show StableHlo.after hostA (W0 m d) = WA m d from rfl]
  iintro ⟨Hb, Hh⟩
  rw [wp_bind]
  iapply (region0 m d)
  isplitr [Hb Hh HO HG0]
  rotate_left
  · isplitl [Hb]; · iexact Hb
    isplitl [Hh HO]
    · isplitl [Hh] <;> iassumption
    isplitr; · iexact Hlev
    iexact HG0
  iintro ⟨Hb, Hh, HO⟩
  iapply (StableHlo.wp_seq 𝒱 none Set.univ d (Pipeline.ucRefs τ sig) _ hostB subB (List.forall_iff_forall_mem.mp hostB_fresh) (WR0 m d)) $$ [Hb Hh]
  · isplitl [Hb] <;> iassumption
  rw [show StableHlo.after hostB (WR0 m d) = WB m d from rfl]
  iintro ⟨Hb, Hh⟩
  ihave Hh := (call_in m d) $$ Hh
  icases Hh with ⟨Hst, Hrest⟩
  rw [wp_bind]
  iapply ((K (F := F)).wp_run (D (F := F)) 𝒱 (EH := EH) (P := PP m) κ d 0)
  isplitr; · iexact Hctx
  isplitl [HO HX]
  · ihave HS := (Entails.of_eq h0.symm) $$ [HO HX]
    · isplitl [HO] <;> iassumption
    iexact HS
  isplitl [Hst]; · iexact Hst
  iintro ⟨HS, Hdn⟩
  ihave HS := (Entails.of_eq (show (K (F := F)).tcSt EH d ((0 : Fin 1).val + 1) = iprop(R 1 d ∗ X1) from h1)) $$ HS
  icases HS with ⟨HO, HX⟩
  ihave Hh := (call_out m d) $$ [Hdn Hrest]
  · isplitl [Hdn] <;> iassumption
  iapply (StableHlo.wp_seq 𝒱 none Set.univ d (Pipeline.ucRefs τ sig) _ hostC subC (List.forall_iff_forall_mem.mp hostC_fresh) (WS m d)) $$ [Hb Hh]
  · isplitl [Hb] <;> iassumption
  rw [show StableHlo.after hostC (WS m d) = WC m d from rfl]
  iintro ⟨Hb, Hh⟩
  rw [wp_bind]
  iapply (region1 m d)
  isplitr [Hb Hh HO HG1]
  rotate_left
  · isplitl [Hb]; · iexact Hb
    isplitl [Hh HO]
    · isplitl [Hh] <;> iassumption
    isplitr; · iexact Hlev
    iexact HG1
  iintro ⟨Hb, Hh, HO⟩
  rw [← bind_pure (StableHlo.seq hostD)]
  iapply (StableHlo.wp_seq 𝒱 none Set.univ d (Pipeline.ucRefs τ sig) _ hostD subD (List.forall_iff_forall_mem.mp hostD_fresh) (WR1 m d)) $$ [Hb Hh]
  · isplitl [Hb] <;> iassumption
  rw [show StableHlo.after hostD (WR1 m d) = WD m d from rfl]
  iintro ⟨Hb, Hh⟩
  rw [wp_pure]
  imodintro
  isplitl [HO HX]
  · ihave HS := (Entails.of_eq h1.symm) $$ [HO HX]
    · isplitl [HO] <;> iassumption
    iexact HS
  isplitl [Hh]; · iexact Hh
  isplitl [Hb] <;> iassumption

def fq (d : Dev nD) (s' : Phys nD τ sig (Elt F)) : Prop := ∀ b ∈ Pipeline.ucRefs τ sig, s'.mem.mem (d, b) = WD m d b

theorem hfin (d : Dev nD) (s' : Phys nD τ sig (Elt F)) : iprop(FIN m d ∗ SI s') ⊢ (⌜fq m d s'⌝ : sProp 𝕄) := by
  iintro ⟨Hh, HSI⟩
  unfold FIN StableHlo.held
  ihave H := (pointsTo_read_all (Pipeline.ucRefs τ sig) (fun b => (d, b)) (WD m d) s') $$ [Hh HSI]
  · isplitl [Hh] <;> iassumption
  icases H with ⟨%h, -⟩
  ipureintro
  exact h

/-- Every run of the kernel ends; each buffer of the TensorCore then holds what the chain of steps leaves, and every semaphore
    is at zero. -/
theorem run_main [∀ e, Nonempty (Elt F e)] (hlt : ∀ d x, (LIN m d x : BitVec 32).toNat < 884736) :
    θ_run (defs (F := F)) (threads (F := F)) ⟨m, fun _ => 0, ρ⟩
      (fun r => (∀ d : Dev nD, ∀ b ∈ Pipeline.ucRefs τ sig, r.2.mem (d, b) = WD m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => Tile.tileObl (LIN m) (FA m) facts hlt)
    (fun q _ => match q with | 0 => SparseCore.Cfg.VecSplit.of_plain (Tile.vecSplit (LIN m) (FA m)))
    m ρ main (fun d => G d) (FIN m) (u₀ (F := F)) (sep_elim_left.trans (hu₀ m)) (hmain m ρ) (fq m) (hfin m) _ (fun _ h hz => ⟨h, hz⟩)

end Cert.KernelIdeal.Launch

end
-- ==== Proof.KI.Arrays.lean ====
/- What the two pipelined regions leave in the arrays they write: each array named whole, from the arrays the region reads. -/
module

public import proofs.«01_k».proof.Proof.KI.Segments
public import Idealize.ShloMosaic.Lib.Pipeline.ValueKit

@[expose] public section

set_option maxRecDepth 16384

noncomputable section

namespace Cert.KernelIdeal.Arrays

open Cert.KernelIdeal Cert.KernelIdeal.Gen Cert.KernelIdeal.Setup Cert.KernelIdeal.Host Cert.KernelIdeal.Regions
open Idealize.ShloMosaic hiding ix1 ix2 ix3
open Idealize.ShloMosaic.TcCoe Idealize.ShloMosaic.ValueIdx Idealize.ShloMosaic.Tactic
open Idealize.ShloMosaic.Pipeline (Dat Cfg Window BodyObligation cellOf)
open Idealize.SL Idealize.SL.Sem

variable {F : FTy → Type} [FloatOps F]

variable (V : (c : Dev nD) → (b : Ref sig .tc) → Buf (Elt F) ((c : Thread nD τ).loc b)) (c : Dev nD)

/-- The point whose block holds track `n`, and the track's lane there. -/
def pt (n : Fin 1024) : Fin cfg0.N := ⟨n.val / 128, by have := n.isLt; show _ < grid0.N; rw [N_0]; omega⟩
def ln (n : Fin 1024) : Fin 128 := ⟨n.val % 128, Nat.mod_lt _ (by decide)⟩

def qFull : Vec F S64x3x1024 .f32 := fun y =>
  Traj.qArr (iblk0 V c 0 (pt (y 2))) (iblk0 V c 1 (pt (y 2))) (iblk0 V c 2 (pt (y 2))) (iblk0 V c 3 (pt (y 2))) (iblk0 V c 4 (pt (y 2))) (iblk0 V c 5 (pt (y 2)))
    (ix3 (y 0) (y 1) (ln (y 2)))
def dotFull : Vec F S64x1x1024 .f32 := fun y =>
  Traj.dotArr (iblk0 V c 0 (pt (y 2))) (iblk0 V c 1 (pt (y 2))) (iblk0 V c 2 (pt (y 2))) (iblk0 V c 3 (pt (y 2))) (iblk0 V c 4 (pt (y 2))) (iblk0 V c 5 (pt (y 2)))
    (ix3 (y 0) (y 1) (ln (y 2)))
def linFull : Vec F S64x1x1024 .i32 := fun y =>
  Traj.linArr (iblk0 V c 0 (pt (y 2))) (iblk0 V c 1 (pt (y 2))) (iblk0 V c 2 (pt (y 2))) (iblk0 V c 3 (pt (y 2))) (iblk0 V c 4 (pt (y 2))) (iblk0 V c 5 (pt (y 2)))
    (ix3 (y 0) (y 1) (ln (y 2)))

theorem after6 (t : Fin cfg0.N) : (dat0 V c).after 6 t =
    Traj.qArr (iblk0 V c 0 t) (iblk0 V c 1 t) (iblk0 V c 2 t) (iblk0 V c 3 t) (iblk0 V c 4 t) (iblk0 V c 5 t) := by dsimp only [dat0]
theorem after7 (t : Fin cfg0.N) : (dat0 V c).after 7 t =
    Traj.dotArr (iblk0 V c 0 t) (iblk0 V c 1 t) (iblk0 V c 2 t) (iblk0 V c 3 t) (iblk0 V c 4 t) (iblk0 V c 5 t) := by dsimp only [dat0]
theorem after8 (t : Fin cfg0.N) : (dat0 V c).after 8 t =
    Traj.linArr (iblk0 V c 0 t) (iblk0 V c 1 t) (iblk0 V c 2 t) (iblk0 V c 3 t) (iblk0 V c 4 t) (iblk0 V c 5 t) := by dsimp only [dat0]

/-! ## Where the blocks lie -/

theorem idx0_0 : ∀ t : Fin cfg0.N, win0_0.index t = ![0, t.val] := by decide +kernel
theorem idx0_1 : ∀ t : Fin cfg0.N, win0_1.index t = ![0, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![0, 0, t.val] := by decide +kernel
theorem idx0_7 : ∀ t : Fin cfg0.N, win0_7.index t = ![0, 0, t.val] := by decide +kernel
theorem idx0_8 : ∀ t : Fin cfg0.N, win0_8.index t = ![0, 0, t.val] := by decide +kernel

theorem lt_1024 (t : Fin cfg0.N) (l : Fin 128) : 128 * t.val + l.val < 1024 := by
  have h : t.val < grid0.N := t.isLt
  rw [N_0] at h
  have := l.isLt
  omega

/-- Track `l` of block `t`. -/
def trk (t : Fin cfg0.N) (l : Fin 128) : Fin 1024 := ⟨128 * t.val + l.val, lt_1024 t l⟩

theorem pt_trk (t : Fin cfg0.N) (l : Fin 128) : pt (trk t l) = t := by
  have := l.isLt
  apply Fin.ext
  simp only [pt, trk]
  omega

theorem ln_trk (t : Fin cfg0.N) (l : Fin 128) : ln (trk t l) = l := by
  have := l.isLt
  apply Fin.ext
  simp only [ln, trk]
  omega

/-- An index in block `t`, split at `pt` and `ln`. -/
theorem at_trk {n0 n1 : Nat} {α : Type} (g : Fin cfg0.N → (⟨3, ![n0, n1, 128]⟩ : Shape).Idx → α) (t : Fin cfg0.N)
    (y : (⟨3, ![n0, n1, 128]⟩ : Shape).Idx) : g (pt (trk t (y 2))) (ix3 (y 0) (y 1) (ln (trk t (y 2)))) = g t y := by
  have h : ∀ (t' : Fin cfg0.N) (l : Fin 128), t' = t → l = y 2 → g t' (ix3 (y 0) (y 1) l) = g t y := by
    rintro _ _ rfl rfl
    exact congrArg (g _) (ValueIdx.eq_ix3 y).symm
  exact h _ _ (pt_trk t (y 2)) (ln_trk t (y 2))

theorem arr6 : (dat0 V c).arrAt 6 cfg0.N = qFull V c := by
  refine (dat0 V c).arrAt_eq_of_covers 6 _ (by decide +kernel) fun t hf y => ?_
  blk_simp
  rw [after6]
  have h2 : (win0_6.blk t).view.emb y = ix3 (y 0) (y 1) (trk t (y 2)) := by
    blk_ext <;> blk_simp [idx0_6 t]
    simp [trk, Nat.mul_comm]
  rw [h2]
  exact (at_trk (fun t => Traj.qArr (iblk0 V c 0 t) (iblk0 V c 1 t) (iblk0 V c 2 t) (iblk0 V c 3 t) (iblk0 V c 4 t) (iblk0 V c 5 t)) t y).symm

theorem arr7 : (dat0 V c).arrAt 7 cfg0.N = dotFull V c := by
  refine (dat0 V c).arrAt_eq_of_covers 7 _ (by decide +kernel) fun t hf y => ?_
  blk_simp
  rw [after7]
  have h2 : (win0_7.blk t).view.emb y = ix3 (y 0) (y 1) (trk t (y 2)) := by
    blk_ext <;> blk_simp [idx0_7 t]
    simp [trk, Nat.mul_comm]
  rw [h2]
  exact (at_trk (fun t => Traj.dotArr (iblk0 V c 0 t) (iblk0 V c 1 t) (iblk0 V c 2 t) (iblk0 V c 3 t) (iblk0 V c 4 t) (iblk0 V c 5 t)) t y).symm

theorem arr8 : (dat0 V c).arrAt 8 cfg0.N = linFull V c := by
  refine (dat0 V c).arrAt_eq_of_covers 8 _ (by decide +kernel) fun t hf y => ?_
  blk_simp
  rw [after8]
  have h2 : (win0_8.blk t).view.emb y = ix3 (y 0) (y 1) (trk t (y 2)) := by
    blk_ext <;> blk_simp [idx0_8 t]
    simp [trk, Nat.mul_comm]
  rw [h2]
  exact (at_trk (fun t => Traj.linArr (iblk0 V c 0 t) (iblk0 V c 1 t) (iblk0 V c 2 t) (iblk0 V c 3 t) (iblk0 V c 4 t) (iblk0 V c 5 t)) t y).symm

theorem in0_0 (t : Fin cfg0.N) (y : S3x128.Idx) : (iblk0 V c 0 t : Vec F S3x128 .f32) y = (V c main_v2 : Vec F S3x1024 .f32) (ix2 (y 0) (trk t (y 1))) := by
  blk_simp [iblk0]
  congr 1
  blk_ext <;> blk_simp [idx0_0 t]
  simp [trk, Nat.mul_comm]

theorem in0_1 (t : Fin cfg0.N) : (iblk0 V c 1 t : Vec F S64x3 .f32) = (V c main_v3 : Vec F S64x3 .f32) := by
  funext y
  blk_simp [iblk0]
  congr 1
  blk_ext <;> blk_simp [idx0_1 t]
theorem in0_2 (t : Fin cfg0.N) : (iblk0 V c 2 t : Vec F S64x1 .f32) = (V c main_v4 : Vec F S64x1 .f32) := by
  funext y
  blk_simp [iblk0]
  congr 1
  blk_ext <;> blk_simp [idx0_2 t]
theorem in0_3 (t : Fin cfg0.N) : (iblk0 V c 3 t : Vec F S768x64 .f32) = (V c main_v8 : Vec F S768x64 .f32) := by
  funext y
  blk_simp [iblk0]
  congr 1
  blk_ext <;> blk_simp [idx0_3 t]
theorem in0_4 (t : Fin cfg0.N) : (iblk0 V c 4 t : Vec F S768x1 .f32) = (V c main_v14 : Vec F S768x1 .f32) := by
  funext y
  blk_simp [iblk0]
  congr 1
  blk_ext <;> blk_simp [idx0_4 t]
theorem in0_5 (t : Fin cfg0.N) : (iblk0 V c 5 t : Vec F S3x768 .f32) = (V c main_v18 : Vec F S3x768 .f32) := by
  funext y
  blk_simp [iblk0]
  congr 1
  blk_ext <;> blk_simp [idx0_5 t]

/-! ## The finishing region: one point, whole arrays -/

theorem idx2_0 : ∀ t : Fin cfg2.N, win2_0.index t = ![0, 0] := by decide +kernel
theorem idx2_1 : ∀ t : Fin cfg2.N, win2_1.index t = ![0, 0, 0] := by decide +kernel
theorem idx2_2 : ∀ t : Fin cfg2.N, win2_2.index t = ![0, 0] := by decide +kernel
theorem idx2_3 : ∀ t : Fin cfg2.N, win2_3.index t = ![0, 0] := by decide +kernel
theorem idx2_4 : ∀ t : Fin cfg2.N, win2_4.index t = ![0, 0, 0] := by decide +kernel
theorem idx2_5 : ∀ t : Fin cfg2.N, win2_5.index t = ![0, 0] := by decide +kernel

theorem in2_0 (t : Fin cfg2.N) : (iblk2 V c 0 t : Vec F S1x1 .f32) = (V c main_v21 : Vec F S1x1 .f32) := by
  funext y
  blk_simp [iblk2]
  congr 1
  blk_ext <;> blk_simp [idx2_0 t]
theorem in2_1 (t : Fin cfg2.N) : (iblk2 V c 1 t : Vec F S64x3x1024 .f32) = (V c main_v22_0 : Vec F S64x3x1024 .f32) := by
  funext y
  blk_simp [iblk2]
  congr 1
  blk_ext <;> blk_simp [idx2_1 t]
theorem in2_2 (t : Fin cfg2.N) : (iblk2 V c 2 t : Vec F S64x1024 .f32) = (V c main_v27 : Vec F S64x1024 .f32) := by
  funext y
  blk_simp [iblk2]
  congr 1
  blk_ext <;> blk_simp [idx2_2 t]
theorem in2_3 (t : Fin cfg2.N) : (iblk2 V c 3 t : Vec F S64x1024 .f32) = (V c main_v26 : Vec F S64x1024 .f32) := by
  funext y
  blk_simp [iblk2]
  congr 1
  blk_ext <;> blk_simp [idx2_3 t]

theorem after4 (t : Fin cfg2.N) : (dat2 V c).after 4 t = Finish.finQ (iblk2 V c 3 t) (iblk2 V c 2 t) ((iblk2 V c 0 t : Vec F S1x1 .f32) (ix2 0 0)) (iblk2 V c 1 t) := by dsimp only [dat2]
theorem after5 (t : Fin cfg2.N) : (dat2 V c).after 5 t = k2_pay2 (iblk2 V c 3 t) (iblk2 V c 2 t) ((iblk2 V c 0 t : Vec F S1x1 .f32) (ix2 0 0)) := by dsimp only [dat2]

theorem fin4 : (dat2 V c).arrAt 4 cfg2.N = Finish.finQ (V c main_v26 : Vec F S64x1024 .f32) (V c main_v27 : Vec F S64x1024 .f32) ((V c main_v21 : Vec F S1x1 .f32) (ix2 0 0)) (V c main_v22_0 : Vec F S64x3x1024 .f32) := by
  refine (dat2 V c).arrAt_eq_of_covers 4 _ (by decide +kernel) fun t hf y => ?_
  blk_simp
  rw [after4, in2_0, in2_1, in2_2, in2_3]
  congr 1
  blk_ext <;> blk_simp [idx2_4 t]

theorem fin5 : (dat2 V c).arrAt 5 cfg2.N = k2_pay2 (V c main_v26 : Vec F S64x1024 .f32) (V c main_v27 : Vec F S64x1024 .f32) ((V c main_v21 : Vec F S1x1 .f32) (ix2 0 0)) := by
  refine (dat2 V c).arrAt_eq_of_covers 5 _ (by decide +kernel) fun t hf y => ?_
  blk_simp
  rw [after5, in2_0, in2_2, in2_3]
  congr 1
  blk_ext <;> blk_simp [idx2_5 t]

/-! ## The gathered positions are inside the map -/

/-- A coordinate's voxel: rounded to the nearest whole number and clipped to 0 … 95. -/
def vx (x : F .f32) : BitVec 32 := IntOp.minsi 95#32 (IntOp.maxsi 0#32 (FloatOps.fptosi 32 (FloatOps.roundeven x)))

/-- The flat number of the voxel nearest to a position. -/
def voxel (a b d : F .f32) : BitVec 32 := vx a * 9216#32 + vx b * 96#32 + vx d

theorem vx_le (x : F .f32) : (vx x).toNat ≤ 95 := by
  unfold vx IntOp.minsi IntOp.maxsi
  generalize (FloatOps.fptosi 32 (FloatOps.roundeven x) : BitVec 32) = w
  simp only [BitVec.slt_eq_decide, decide_eq_true_eq]
  split
  · decide
  · split
    · decide
    · rename_i h2 h1
      have e1 : (95#32 : BitVec 32).toInt = 95 := by decide
      have e0 : (0#32 : BitVec 32).toInt = 0 := by decide
      rw [e1] at h1
      rw [e0] at h2
      have := BitVec.toInt_eq_toNat_cond w
      split at this <;> omega

theorem voxel_lt (a b d : F .f32) : (voxel a b d).toNat < 884736 := by
  have ha := vx_le a
  have hb := vx_le b
  have hd := vx_le d
  unfold voxel
  have e1 : (vx a * 9216#32).toNat = (vx a).toNat * 9216 := by
    rw [BitVec.toNat_mul]; exact Nat.mod_eq_of_lt (by simp only [BitVec.toNat_ofNat]; omega)
  have e2 : (vx b * 96#32).toNat = (vx b).toNat * 96 := by
    rw [BitVec.toNat_mul]; exact Nat.mod_eq_of_lt (by simp only [BitVec.toNat_ofNat]; omega)
  have e3 : (vx a * 9216#32 + vx b * 96#32).toNat = (vx a).toNat * 9216 + (vx b).toNat * 96 := by
    rw [BitVec.toNat_add, e1, e2]; exact Nat.mod_eq_of_lt (by omega)
  rw [BitVec.toNat_add, e3, Nat.mod_eq_of_lt (by omega)]
  omega

theorem pay6_apply (p : FVec F S3x128 .f32) (l : Fin 128) :
    k0_pay6 p (ix3 0 0 l) = voxel (p (ix2 0 l)) (p (ix2 1 l)) (p (ix2 2 l)) := by
  unfold k0_pay6
  rw [shapeCast_ab_1ab_apply]
  unfold addi muli
  rw [slice2_axis0_apply 0 _ _ 0 l 0 rfl, slice2_axis0_apply 1 _ _ 0 l 1 rfl, slice2_axis0_apply 2 _ _ 0 l 2 rfl]
  rfl

theorem pay3_apply (l : Fin 128) : k0_pay3 (ix3 0 0 l) = 0#32 := by
  unfold k0_pay3
  rw [shapeCast_ab_1ab_apply]
  rfl

theorem lin_lt (y : S64x1x1024.Idx) : (linFull V c y : BitVec 32).toNat < 884736 := by
  unfold linFull Traj.linArr
  simp only [pay3_apply, pay6_apply]
  split
  · decide
  · exact voxel_lt _ _ _

end Cert.KernelIdeal.Arrays

end
-- ==== Proof.KI.Frame.lean ====
/- The kernel's run leaves its arguments and its semaphores as they were: the gathered positions are inside the map, so
   the whole run goes through. -/
module

public import proofs.«01_k».proof.Proof.KI.Launch
public import proofs.«01_k».proof.Proof.KI.Arrays

@[expose] public section

set_option maxRecDepth 16384

noncomputable section

namespace Cert.KernelIdeal.Frame

open Cert.KernelIdeal Cert.KernelIdeal.Gen Cert.KernelIdeal.Setup Cert.KernelIdeal.Host Cert.KernelIdeal.Regions Cert.KernelIdeal.Segments
open Idealize.ShloMosaic
open Idealize.ShloMosaic.TcCoe
open Idealize.SL Idealize.SL.Sem

variable {F : FTy → Type} [FloatOps F]
variable (m : (ℓ : Loc nD τ sig) → Buf (Elt F) ℓ) (c : Dev nD)

/-- The positions the SparseCore call gathers at: the first region's, laid out by tile. -/
theorem LIN_eq : LIN m c = shapeCast S32x16x128 (Arrays.linFull (VA m) c) shapeCasts_S64x1x1024_S32x16x128 := by
  have h := WR0_arr m c 8
  rw [Arrays.arr8] at h
  unfold LIN WB
  after_results
  rw [show WR0 m c (Proc.devRef .tc main_v22_2) = Arrays.linFull (VA m) c from h]
  rfl

theorem LIN_lt (x : S32x16x128.Idx) : (LIN m c x : BitVec 32).toNat < 884736 := by
  rw [LIN_eq]
  exact Arrays.lin_lt (VA m) c _

theorem mem_uc (b : Ref sig .tc) (hb : (Proc.devRef (τ := τ) .tc b).isScoped = false) : Proc.devRef (τ := τ) .tc b ∈ Pipeline.ucRefs τ sig :=
  Finset.mem_filter.mpr ⟨StableHlo.devRef_mem_tcRefs _, by simpa using hb⟩

theorem run [∀ e, Nonempty (Elt F e)] (ρ : Dev nD → PrngReg) :
    θ_run (defs (F := F)) (threads (F := F)) ⟨m, fun _ => 0, ρ⟩ (fun r =>
      (∀ d, ∀ b ∈ Pipeline.ucRefs τ sig, r.2.mem (d, b) = WD m d b) ∧ r.2.sem = fun _ => 0) :=
  Launch.run_main m ρ fun d x => LIN_lt m d x

/-- The argument arrays, none of which any step writes. -/
theorem args_kept (b : Ref sig .tc) (hb : b ∈ [main_arg0, main_arg1, main_arg2, main_arg3, main_arg4, main_arg5]) :
    WD m c (Proc.devRef .tc b) = m ((c.tc : Thread nD τ).loc b) := by
  simp only [List.mem_cons, List.not_mem_nil, or_false] at hb
  rcases hb with rfl | rfl | rfl | rfl | rfl | rfl <;>
    exact WD_kept m c _ (by decide) (by decide) (by decide) (by decide) (by decide) (by decide) (by decide)

theorem frame [∀ e, Nonempty (Elt F e)] (ρ : Dev nD → PrngReg) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine θ_run_mono (run m ρ) fun r hr => ⟨fun c => ?_, hr.2⟩
  have h : ∀ b ∈ [main_arg0, main_arg1, main_arg2, main_arg3, main_arg4, main_arg5], (Proc.devRef (τ := τ) .tc b).isScoped = false →
      r.2.mem ((c.tc : Thread nD τ).loc b) = m ((c.tc : Thread nD τ).loc b) :=
    fun b hb hs => (hr.1 c _ (mem_uc b hs)).trans (args_kept m c b hb)
  exact ⟨h _ (by decide) (by decide), h _ (by decide) (by decide), h _ (by decide) (by decide), h _ (by decide) (by decide),
    h _ (by decide) (by decide), h _ (by decide) (by decide)⟩

end Cert.KernelIdeal.Frame

end
-- ==== Proof.Ref.Frame.lean ====
/- The reference's run leaves its arguments and its semaphores as they were. -/
module

public import proofs.«01_k».proof.Proof.Gen.ReferenceIdeal.Run
public import Idealize.ShloMosaic.Lib.StableHlo.RunHlo

@[expose] public section

set_option maxRecDepth 16384

noncomputable section

namespace Cert.ReferenceIdeal.Frame

open Cert.ReferenceIdeal Cert.ReferenceIdeal.Gen Cert.ReferenceIdeal.Value
open Idealize.ShloMosaic
open Idealize.ShloMosaic.TcCoe
open Idealize.ShloMosaic.StableHlo
open Idealize.SL Idealize.SL.Sem

variable {F : FTy → Type} [FloatOps F]
variable (m : (ℓ : Loc nD τ sig) → Buf (Elt F) ℓ) (c : Dev nD)

/-- What the stretches of one trip write. -/
abbrev bodyW : List (List (Ref sig .tc)) :=
  [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W, while0Ops0_18_W, while0Ops0_19_W]

/-- A buffer no operation of a trip writes passes through it. -/
theorem body_kept (V : Valuation τ sig (Elt F)) (b : Ref sig .tc) (h : ∀ W ∈ bodyW, b ∉ W) :
    afterL bodyI V (Proc.devRef .tc b) = V (Proc.devRef .tc b) := by
  simp only [afterL_cons, afterL_nil]
  rw [after_of_writes_sub _ _ while0Ops0_19_writes (h _ (by simp)), after_of_writes_sub _ _ while0Ops0_18_writes (h _ (by simp)), after_of_writes_sub _ _ while0Ops0_17_writes (h _ (by simp)), after_of_writes_sub _ _ while0Ops0_16_writes (h _ (by simp)), after_of_writes_sub _ _ while0Ops0_15_writes (h _ (by simp)), after_of_writes_sub _ _ while0Ops0_14_writes (h _ (by simp)), after_of_writes_sub _ _ while0Ops0_13_writes (h _ (by simp)), after_of_writes_sub _ _ while0Ops0_12_writes (h _ (by simp)), after_of_writes_sub _ _ while0Ops0_11_writes (h _ (by simp)), after_of_writes_sub _ _ while0Ops0_10_writes (h _ (by simp)), after_of_writes_sub _ _ while0Ops0_9_writes (h _ (by simp)), after_of_writes_sub _ _ while0Ops0_8_writes (h _ (by simp)), after_of_writes_sub _ _ while0Ops0_7_writes (h _ (by simp)), after_of_writes_sub _ _ while0Ops0_6_writes (h _ (by simp)), after_of_writes_sub _ _ while0Ops0_5_writes (h _ (by simp)), after_of_writes_sub _ _ while0Ops0_4_writes (h _ (by simp)), after_of_writes_sub _ _ while0Ops0_3_writes (h _ (by simp)), after_of_writes_sub _ _ while0Ops0_2_writes (h _ (by simp)), after_of_writes_sub _ _ while0Ops0_1_writes (h _ (by simp)), after_of_writes_sub _ _ while0Ops0_writes (h _ (by simp))]

/-- … and stands, after every trip, at its contents at the loop's entry. -/
theorem atK_kept (k : ℕ) (b : Ref sig .tc) (h : ∀ W ∈ bodyW, b ∉ W) (hc : b ∉ condOps_W) :
    atK m k c (Proc.devRef .tc b) = entryContents preI m c (Proc.devRef .tc b) := by
  induction k with
  | zero => rfl
  | succ k ih =>
    rw [show atK m (k + 1) c = afterL bodyI (after condOps (atK m k c)) from rfl, body_kept _ b h,
      after_of_writes_sub _ _ condOps_writes hc, ih]

/-- An array no operation of the program writes ends as it was launched. -/
theorem final_kept (b : Ref sig .tc) (h : ∀ W ∈ bodyW, b ∉ W) (hc : b ∉ condOps_W) (h0 : b ∉ hostOps0_W) (h1 : b ∉ hostOps0_1_W) :
    finalContents condOps preI bodyI postI 63 m c (Proc.devRef .tc b) = m ((c.tc : Thread nD τ).loc b) := by
  simp only [finalContents, afterL_cons, afterL_nil]
  rw [after_of_writes_sub _ _ hostOps0_1_writes h1, after_of_writes_sub _ _ condOps_writes hc]
  refine (atK_kept m c 63 b h hc).trans ?_
  simp only [entryContents, afterL_cons, afterL_nil]
  rw [after_of_writes_sub _ _ hostOps0_writes h0]

/-- No semaphore is declared, so any two semaphore states are one. -/
theorem sem_eq (f g : GSem nD τ sig → ℤ) : f = g := by
  funext x
  rcases x with ⟨t, s⟩
  cases s with
  | reg i => exact i.elim0
  | dma i => exact i.elim0

theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine θ_run_mono (run_fold m ρ) fun r hr => ⟨fun c => ?_, sem_eq _ _⟩
  have h : ∀ b ∈ [main_arg0, main_arg1, main_arg2, main_arg3, main_arg4, main_arg5],
      r.2.mem ((c.tc : Thread nD τ).loc b) = m ((c.tc : Thread nD τ).loc b) := by
    intro b hb
    simp only [List.mem_cons, List.not_mem_nil, or_false] at hb
    rcases hb with rfl | rfl | rfl | rfl | rfl | rfl <;>
      exact (hr c _ (by decide)).trans (final_kept m c _ (by decide) (by decide) (by decide) (by decide))
  exact ⟨h _ (by decide), h _ (by decide), h _ (by decide), h _ (by decide), h _ (by decide), h _ (by decide)⟩

end Cert.ReferenceIdeal.Frame

end
-- ==== Proof.Alg.Model.lean ====
module

public import Idealize.ShloMosaic.Lib.Pointwise

/-!
  The mathematics of one track, over the extended reals: a two-layer score of every direction at a
  position, the first best direction, the walk it makes, and when the walk ends.
-/

@[expose] public section

noncomputable section

namespace Cert.Alg

open Idealize.ShloMosaic

/-- What every track reads: the directions, the two layers, the value at a position, and the least
    cosine between successive directions. -/
structure Par where
  sph : Fin 724 → Fin 3 → EReal
  W1 : Fin 3 → Fin 64 → EReal
  b1 : Fin 64 → EReal
  W2 : Fin 64 → Fin 724 → EReal
  vox : (Fin 3 → EReal) → EReal
  cth : EReal

/-- A position's voxel coordinate along one axis: the nearest whole number, held between 0 and 95. -/
def vx (x : EReal) : BitVec 32 := IntOp.minsi 95#32 (IntOp.maxsi 0#32 (FloatOps.fptosi (F := Ideal) (φ := .f32) 32 (FloatOps.roundeven (F := Ideal) (φ := .f32) x)))

theorem vx_lt (x : EReal) : (vx x).toNat < 96 := by
  unfold vx
  generalize FloatOps.fptosi (F := Ideal) (φ := .f32) 32 _ = w
  unfold IntOp.minsi IntOp.maxsi
  split <;> split <;> simp_all [BitVec.sle, BitVec.slt, BitVec.toInt_eq_toNat_cond] <;> omega

/-- The same as a number. -/
def vi (x : EReal) : Fin 96 := ⟨(vx x).toNat, vx_lt x⟩

/-- What every track reads, from the argument arrays. -/
def parOf (sph : (⟨2, ![724, 3]⟩ : Shape).Idx → EReal) (w1 : (⟨2, ![3, 64]⟩ : Shape).Idx → EReal) (b1 : (⟨1, ![64]⟩ : Shape).Idx → EReal) (w2 : (⟨2, ![64, 724]⟩ : Shape).Idx → EReal)
    (fa : (⟨3, ![96, 96, 96]⟩ : Shape).Idx → EReal) (ct : EReal) : Par where
  sph s d := sph (ix2 s d)
  W1 i j := w1 (ix2 i j)
  b1 j := b1 (ix1 j)
  W2 j s := w2 (ix2 j s)
  vox p := fa (ix3 (vi (p 0)) (vi (p 1)) (vi (p 2)))
  cth := ct

/-- The least cosine between successive directions, that of sixty degrees. -/
def ctV : FVec Ideal ⟨0, ![]⟩ .f32 := Host.cos (mulf (constant ⟨0, ![]⟩ .f32 0x42700000#32) (constant ⟨0, ![]⟩ .f32 0x3C8EFA35#32))

def ct : EReal := ctV ix0

/-- `i` is the first index at which `f` is greatest. -/
def IsBest {n : Nat} (f : Fin n → EReal) (i : Fin n) : Prop :=
  (∀ s, f s ≤ f i) ∧ ∀ s, s < i → f s < f i

theorem IsBest.unique {n : Nat} {f : Fin n → EReal} {i j : Fin n} (hi : IsBest f i) (hj : IsBest f j) : i = j := by
  rcases lt_trichotomy i j with h | h | h
  · exact absurd (hi.1 j) (not_le.2 (hj.2 i h))
  · exact h
  · exact absurd (hj.1 i) (not_le.2 (hi.2 j h))

theorem exists_isBest {n : Nat} (f : Fin (n + 1) → EReal) : ∃ i, IsBest f i := by
  obtain ⟨m, -, hm⟩ := Finset.exists_max_image (Finset.univ : Finset (Fin (n + 1))) f ⟨0, Finset.mem_univ _⟩
  let S := (Finset.univ : Finset (Fin (n + 1))).filter fun i => f i = f m
  have hS : S.Nonempty := ⟨m, by simp [S]⟩
  have hmem := S.min'_mem hS
  have hval : f (S.min' hS) = f m := (Finset.mem_filter.1 hmem).2
  refine ⟨S.min' hS, fun s => hval ▸ hm s (Finset.mem_univ _), fun s hs => ?_⟩
  rw [hval]
  refine lt_of_le_of_ne (hm s (Finset.mem_univ _)) fun he => ?_
  exact absurd (S.min'_le s (by simp [S, he])) (not_le.2 hs)

/-- The first best index. -/
def best (f : Fin 724 → EReal) : Fin 724 := (exists_isBest f).choose

theorem best_spec (f : Fin 724 → EReal) : IsBest f (best f) := (exists_isBest f).choose_spec

namespace Par

variable (P : Par) (sd : Fin 3 → EReal)

/-- The hidden layer at a position. -/
def hid (p : Fin 3 → EReal) (j : Fin 64) : EReal := max ((∑ i, p i * P.W1 i j) + P.b1 j) 0

/-- The score of direction `s` at a position. -/
def score (p : Fin 3 → EReal) (s : Fin 724) : EReal := ∑ j, P.hid p j * P.W2 j s

/-- The direction taken at a position. -/
def nd (p : Fin 3 → EReal) (d : Fin 3) : EReal := P.sph (best (P.score p)) d

/-- The position after `t` steps from the seed `sd`. -/
def pos : Nat → Fin 3 → EReal
  | 0 => sd
  | t + 1 => fun d => pos t d + Ideal.ofBits .f32 0x3F000000#32 * P.nd (pos t) d

/-- The direction that led to the position after `t` steps; none before the first. -/
def prev : Nat → Fin 3 → EReal
  | 0 => fun _ => 0
  | t + 1 => P.nd (P.pos sd t)

/-- The walk ends at step `t`: the value there is too low, or the turn too sharp. -/
def term (t : Nat) : Prop :=
  P.vox (P.pos sd t) < Ideal.ofBits .f32 0x3E19999A#32 ∨ ((∑ d, P.nd (P.pos sd t) d * P.prev sd t d) < P.cth ∧ 0 < t)

/-- The walk reaches step `t`. -/
def alive (t : Nat) : Prop := ∀ s, s < t → ¬ P.term sd s

theorem alive_zero : P.alive sd 0 := fun _ h => absurd h (Nat.not_lt_zero _)

theorem alive_succ (t : Nat) : P.alive sd (t + 1) ↔ P.alive sd t ∧ ¬ P.term sd t :=
  ⟨fun h => ⟨fun s hs => h s (hs.trans t.lt_succ_self), h t t.lt_succ_self⟩,
   fun h s hs => (Nat.lt_succ_iff_lt_or_eq.1 hs).elim (h.1 s) fun e => e ▸ h.2⟩

theorem alive_mono {s t : Nat} (h : s ≤ t) (ht : P.alive sd t) : P.alive sd s := fun r hr => ht r (hr.trans_le h)

open Classical in
/-- The streamline at step `t`: the position while the walk goes on, zero after. -/
def line (t : Nat) (d : Fin 3) : EReal := if P.alive sd t then P.pos sd t d else 0

open Classical in
/-- How many of the 64 steps the walk reaches. -/
def len : Nat := ((Finset.univ : Finset (Fin 64)).filter fun t => P.alive sd t.val).card

/-- If the walk reaches exactly the steps up to `m`, it reaches `m + 1` of them. -/
theorem len_eq {m : Nat} (hm : m < 64) (h : ∀ t : Fin 64, P.alive sd t.val ↔ t.val ≤ m) : P.len sd = m + 1 := by
  classical
  have : (Finset.univ : Finset (Fin 64)).filter (fun t => P.alive sd t.val) = Finset.Iic ⟨m, hm⟩ := by
    ext t; simp [h, Fin.le_def]
  unfold len
  convert (congrArg Finset.card this).trans (Fin.card_Iic _) using 2

end Par

open Classical in
/-- The one-bit word of a proposition. -/
def bit (p : Prop) : BitVec 1 := if p then 1#1 else 0#1

theorem ofBool_decide (p : Prop) [inst : Decidable p] : BitVec.ofBool (decide p) = bit p := by
  unfold bit
  by_cases h : p <;> simp [h]

theorem bit_true {p : Prop} (h : p) : bit p = 1#1 := if_pos h
theorem bit_false {p : Prop} (h : ¬ p) : bit p = 0#1 := if_neg h

theorem bit_congr {p q : Prop} (h : p ↔ q) : bit p = bit q := by rw [propext h]

theorem andi_bit (p q : Prop) : IntOp.andi (bit p) (bit q) = bit (p ∧ q) := by
  by_cases hp : p <;> by_cases hq : q <;> simp [bit, hp, hq, IntOp.andi]

theorem ori_bit (p q : Prop) : IntOp.ori (bit p) (bit q) = bit (p ∨ q) := by
  by_cases hp : p <;> by_cases hq : q <;> simp [bit, hp, hq, IntOp.ori]

open Classical in
theorem select_bit {α : Type} (p : Prop) (a b : α) : Scalar.select (bit p) a b = if p then a else b := by
  by_cases hp : p <;> simp [bit, hp, Scalar.select]

end Cert.Alg
-- ==== Proof.Alg.Words.lean ====
/- Greatest and least of a family, as the kernel's reductions compute them. -/
module

public import proofs.«01_k».proof.Proof.Alg.Model
public import Idealize.ShloMosaic.Lib.DynamicIndex

@[expose] public section

noncomputable section

namespace Cert.Alg

open Idealize.ShloMosaic

/-- The greatest of a family, started from the least value, is the member none exceeds. -/
theorem fold_max {n : Nat} (op : EReal → EReal → EReal) [Std.Commutative op] [Std.Associative op] (hop : ∀ a b, op a b = max a b) (f : Fin n → EReal) (i : Fin n)
    (h : ∀ s, f s ≤ f i) : Finset.fold op ⊥ f Finset.univ = f i := by
  have key : ∀ S : Finset (Fin n), (∀ s ∈ S, f s ≤ Finset.fold op ⊥ f S) ∧ Finset.fold op ⊥ f S ≤ f i := by
    intro S
    classical
    induction S using Finset.induction_on with
    | empty => exact ⟨fun s hs => absurd hs (Finset.notMem_empty s), bot_le⟩
    | insert a S ha ih =>
      rw [Finset.fold_insert ha, hop]
      refine ⟨fun s hs => ?_, max_le (h a) ih.2⟩
      rcases Finset.mem_insert.1 hs with rfl | hs
      · exact le_max_left _ _
      · exact (ih.1 s hs).trans (le_max_right _ _)
  exact le_antisymm (key _).2 ((key _).1 i (Finset.mem_univ i))

theorem minsi_spec (a b : BitVec 32) : (IntOp.minsi a b = a ∨ IntOp.minsi a b = b) ∧ (IntOp.minsi a b).toInt ≤ a.toInt ∧ (IntOp.minsi a b).toInt ≤ b.toInt := by
  unfold IntOp.minsi
  by_cases h : a.slt b
  · rw [if_pos h]
    have : a.toInt < b.toInt := by simpa [BitVec.slt] using h
    exact ⟨Or.inl rfl, le_refl _, this.le⟩
  · rw [if_neg h]
    have : ¬ a.toInt < b.toInt := by simpa [BitVec.slt] using h
    exact ⟨Or.inr rfl, not_lt.1 this, le_refl _⟩

/-- The least of a family of words, started from the greatest, is a member none is below. -/
theorem fold_minsi {n : Nat} (f : Fin n → BitVec 32) (i : Fin n) (v : Nat) (hv : v < 2147483647) (hi : f i = BitVec.ofNat 32 v)
    (h : ∀ s, (v : Int) ≤ (f s).toInt) : Finset.fold IntOp.minsi 2147483647#32 f Finset.univ = BitVec.ofNat 32 v := by
  have key : ∀ S : Finset (Fin n), (∀ s ∈ S, (Finset.fold IntOp.minsi 2147483647#32 f S).toInt ≤ (f s).toInt)
      ∧ (v : Int) ≤ (Finset.fold IntOp.minsi 2147483647#32 f S).toInt := by
    intro S
    classical
    induction S using Finset.induction_on with
    | empty =>
      refine ⟨fun s hs => absurd hs (Finset.notMem_empty s), ?_⟩
      have : (2147483647#32 : BitVec 32).toInt = 2147483647 := by decide
      rw [Finset.fold_empty, this]
      omega
    | insert a S ha ih =>
      rw [Finset.fold_insert ha]
      obtain ⟨hm, h1, h2⟩ := minsi_spec (f a) (Finset.fold IntOp.minsi 2147483647#32 f S)
      refine ⟨fun s hs => ?_, ?_⟩
      · rcases Finset.mem_insert.1 hs with rfl | hs
        · exact h1
        · exact h2.trans (ih.1 s hs)
      · rcases hm with e | e <;> rw [e]
        · exact h a
        · exact ih.2
  have e := (key Finset.univ).1 i (Finset.mem_univ i)
  rw [hi, toInt_ofNat_of_lt (by omega)] at e
  refine BitVec.eq_of_toInt_eq ?_
  rw [toInt_ofNat_of_lt (by omega)]
  exact le_antisymm e (key Finset.univ).2

end Cert.Alg
-- ==== Proof.Alg.KStep.lean ====
/- One step of the kernel's walk, read at a track. -/
module

public import proofs.«01_k».proof.Proof.KI.Traj
public import proofs.«01_k».proof.Proof.Alg.Words

@[expose] public section

set_option maxRecDepth 16384

noncomputable section

namespace Cert.KernelIdeal.Step

open Idealize.ShloMosaic
open Cert.KernelIdeal Cert.KernelIdeal.Gen

/-- What a padded direction scores. -/
def low : EReal := Ideal.ofBits .f32 0xF149F2CA#32

variable (P : Alg.Par) (x1 : Vec Ideal S64x3 .f32) (x2 : Vec Ideal S64x1 .f32) (x3 : Vec Ideal S768x64 .f32)
  (x4 : Vec Ideal S768x1 .f32) (x5 : Vec Ideal S3x768 .f32)

/-- The kernel's arrays hold the parameters, turned over and padded to 768 directions. -/
structure Holds : Prop where
  h1 : ∀ j i, x1 (ix2 j i) = P.W1 i j
  h2 : ∀ j, x2 (ix2 j 0) = P.b1 j
  h3 : ∀ s j, x3 (ix2 s j) = if h : s.val < 724 then P.W2 j ⟨s.val, h⟩ else (0 : EReal)
  h4 : ∀ s, x4 (ix2 s 0) = if s.val < 724 then (0 : EReal) else low
  h5 : ∀ d s, x5 (ix2 d s) = if h : s.val < 724 then P.sph ⟨s.val, h⟩ d else (0 : EReal)

/-- What direction `s` of the padded table scores. -/
def padScore (p : FVec Ideal S3x128 .f32) (l : Fin 128) (s : Fin 768) : EReal :=
  (∑ j : Fin 64, x3 (ix2 s j) * max ((∑ i : Fin 3, x1 (ix2 j i) * p (ix2 i l)) + x2 (ix2 j 0)) 0) + x4 (ix2 s 0)

theorem negInf : Ideal.ofBits .f32 0xFF800000#32 = ⊥ := by
  simp [Ideal.ofBits, Ideal.ieee]

theorem toReal_one (b : BitVec 1) (h : b = 1#1) : FloatOps.sitofp (F := Ideal) .f32 (BitVec.setWidth 32 b) = (1 : EReal) := by
  subst h
  show (((BitVec.setWidth 32 1#1 : BitVec 32).toInt : ℝ) : EReal) = 1
  have : (BitVec.setWidth 32 1#1 : BitVec 32).toInt = 1 := by decide
  rw [this]; simp

theorem toReal_zero (b : BitVec 1) (h : b = 0#1) : FloatOps.sitofp (F := Ideal) .f32 (BitVec.setWidth 32 b) = (0 : EReal) := by
  subst h
  show (((BitVec.setWidth 32 0#1 : BitVec 32).toInt : ℝ) : EReal) = 0
  have : (BitVec.setWidth 32 0#1 : BitVec 32).toInt = 0 := by decide
  rw [this]; simp

/-- The step's direction is the column of the directions table at the first best index. -/
theorem dir_at (p : FVec Ideal S3x128 .f32) (l : Fin 128) (i : Fin 768) (hi : Alg.IsBest (padScore x1 x2 x3 x4 p l) i) (d : Fin 3) :
    Traj.dir x1 x2 x3 x4 x5 p (ix2 d l) = x5 (ix2 d i) := by
  pointwise [Traj.dir, Traj.rowNo, k0_pay9]
  have hmax : Finset.fold max (Ideal.ofBits .f32 4286578688#32) (padScore x1 x2 x3 x4 p l) Finset.univ = padScore x1 x2 x3 x4 p l i := by
    rw [negInf]
    exact Alg.fold_max max (fun _ _ => rfl) _ i hi.1
  have hmin : Finset.fold IntOp.minsi 2147483647#32 (fun s : Fin 768 => if padScore x1 x2 x3 x4 p l s =
      Finset.fold max (Ideal.ofBits .f32 4286578688#32) (padScore x1 x2 x3 x4 p l) Finset.univ then BitVec.ofNat 32 s.val else 768#32) Finset.univ
      = BitVec.ofNat 32 i.val := by
    rw [hmax]
    have hlt := i.isLt
    refine Alg.fold_minsi _ i i.val (by omega) (if_pos rfl) fun s => ?_
    have hs := s.isLt
    by_cases h : padScore x1 x2 x3 x4 p l s = padScore x1 x2 x3 x4 p l i
    · rw [if_pos h, toInt_ofNat_of_lt (by omega)]
      by_contra hc
      exact absurd h (ne_of_lt (hi.2 s (Fin.lt_def.2 (by omega))))
    · rw [if_neg h]
      have : (768#32 : BitVec 32).toInt = 768 := by decide
      rw [this]; omega
  refine (Finset.sum_congr rfl fun s _ => congrArg (fun w => x5 (ix2 d s) * FloatOps.sitofp (F := Ideal) .f32
    (BitVec.setWidth 32 (IntOp.cmpi .eq (BitVec.ofNat 32 s.val) w))) hmin).trans ?_
  refine (Finset.sum_eq_single i (fun s _ hs => ?_) fun h => absurd (Finset.mem_univ i) h).trans ?_
  · rw [toReal_zero, mul_zero]
    have hne : BitVec.ofNat 32 s.val ≠ BitVec.ofNat 32 i.val := fun e => hs (Fin.ext (by
      have := congrArg BitVec.toNat e
      have hs := s.isLt
      have hlt := i.isLt
      simp only [BitVec.toNat_ofNat] at this
      omega))
    show BitVec.ofBool (BitVec.ofNat 32 s.val == BitVec.ofNat 32 i.val) = 0#1
    rw [beq_false_of_ne hne]; rfl
  · rw [toReal_one, mul_one]
    simp [IntOp.cmpi]

variable {P x1 x2 x3 x4 x5}

/-- A true direction scores what the model says. -/
theorem padScore_lt (H : Holds P x1 x2 x3 x4 x5) (p : FVec Ideal S3x128 .f32) (l : Fin 128) (s : Fin 768) (hs : s.val < 724) :
    padScore x1 x2 x3 x4 p l s = P.score (fun i => p (ix2 i l)) ⟨s.val, hs⟩ := by
  unfold padScore Alg.Par.score Alg.Par.hid
  rw [H.h4, if_pos hs, add_zero]
  refine Finset.sum_congr rfl fun j _ => ?_
  rw [H.h3, dif_pos hs, H.h2, mul_comm]
  congr 3
  exact Finset.sum_congr rfl fun i _ => by rw [H.h1, mul_comm]

/-- A padded direction scores the low value. -/
theorem padScore_ge (H : Holds P x1 x2 x3 x4 x5) (p : FVec Ideal S3x128 .f32) (l : Fin 128) (s : Fin 768) (hs : ¬ s.val < 724) :
    padScore x1 x2 x3 x4 p l s = low := by
  unfold padScore
  rw [H.h4, if_neg hs, Finset.sum_eq_zero, zero_add]
  intro j _
  rw [H.h3, dif_neg hs, zero_mul]

/-- Where every true score is above the low value, the kernel takes the model's direction. -/
theorem dir_eq (H : Holds P x1 x2 x3 x4 x5) (p : FVec Ideal S3x128 .f32) (l : Fin 128) (hlow : ∀ s, low < P.score (fun i => p (ix2 i l)) s) (d : Fin 3) :
    Traj.dir x1 x2 x3 x4 x5 p (ix2 d l) = P.nd (fun i => p (ix2 i l)) d := by
  have hb := Alg.best_spec (P.score fun i => p (ix2 i l))
  have hlt : (Alg.best (P.score fun i => p (ix2 i l))).val < 724 := Fin.isLt _
  have hval := padScore_lt H p l ⟨(Alg.best (P.score fun i => p (ix2 i l))).val, by omega⟩ hlt
  refine (dir_at x1 x2 x3 x4 x5 p l ⟨(Alg.best (P.score fun i => p (ix2 i l))).val, by omega⟩ ⟨fun s => ?_, fun s hs => ?_⟩ d).trans ?_
  · rw [hval]
    by_cases h : s.val < 724
    · rw [padScore_lt H p l s h]; exact hb.1 _
    · rw [padScore_ge H p l s h]; exact (hlow _).le
  · have h : s.val < 724 := lt_trans (Fin.lt_def.1 hs) hlt
    rw [hval, padScore_lt H p l s h]
    exact hb.2 _ (Fin.lt_def.2 (Fin.lt_def.1 hs))
  · exact (H.h5 _ _).trans (dif_pos hlt)

section Walk

variable (x0 : Vec Ideal S3x128 .f32) (l : Fin 128) (sd : Fin 3 → EReal)

/-- Lane `l` of the kernel's walk is the model's walk from the seed there. -/
theorem st_eq (H : Holds P x1 x2 x3 x4 x5) (h0 : ∀ d, x0 (ix2 d l) = sd d) (n : Nat) (hlow : ∀ t, t < n → ∀ s, low < P.score (P.pos sd t) s) :
    ∀ t, t ≤ n → ∀ d, (Traj.st x0 x1 x2 x3 x4 x5 t).1 (ix2 d l) = P.pos sd t d ∧ (Traj.st x0 x1 x2 x3 x4 x5 t).2 (ix2 d l) = P.prev sd t d := by
  intro t
  induction t with
  | zero =>
    intro _ d
    refine ⟨?_, ?_⟩
    · refine Eq.trans ?_ (h0 d)
      show k0_pay1 x0 (ix2 d l) = _
      pointwise [k0_pay1]
    · show k0_pay5 (F := Ideal) (ix2 d l) = (0 : EReal)
      pointwise [k0_pay5]
  | succ t ih =>
    intro ht d
    have hp : (fun i => (Traj.st x0 x1 x2 x3 x4 x5 t).1 (ix2 i l)) = P.pos sd t := funext fun i => (ih (by omega) i).1
    have hd := dir_eq H (Traj.st x0 x1 x2 x3 x4 x5 t).1 l (by rw [hp]; exact hlow t (by omega)) d
    rw [hp] at hd
    refine ⟨?_, hd⟩
    show k0_pay7 (Traj.st x0 x1 x2 x3 x4 x5 t).1 (Traj.dir x1 x2 x3 x4 x5 (Traj.st x0 x1 x2 x3 x4 x5 t).1) (ix2 d l) = P.pos sd t d + Ideal.ofBits .f32 0x3F000000#32 * P.nd (P.pos sd t) d
    rw [← hd, ← (ih (by omega) d).1]
    pointwise [k0_pay7]

theorem dot_eq (p q : FVec Ideal S3x128 .f32) :
    k0_pay10 Traj.rowNo p q x1 x2 x3 x4 x5 (ix3 0 0 l) = ∑ d, Traj.dir x1 x2 x3 x4 x5 p (ix2 d l) * q (ix2 d l) := by
  unfold k0_pay10
  show _ = ∑ d, (k0_pay9 Traj.rowNo p x1 x2 x3 x4 x5) (ix2 d l) * q (ix2 d l)
  generalize k0_pay9 Traj.rowNo p x1 x2 x3 x4 x5 = w
  pointwise []

end Walk

end Cert.KernelIdeal.Step
-- ==== Proof.Alg.Scatter.lean ====
/- Scatters whose one index word is zero: a column of a table, and a table inside a larger one. -/
module

public import Idealize.ShloMosaic.Lib.Pointwise
public import Idealize.ShloMosaic.Lib.Routing.OpsSet
public import Idealize.ShloMosaic.Lib.Routing.OpsPair

@[expose] public section

namespace Cert.Alg

open Idealize.ShloMosaic

theorem start_zero {s si u : Shape} {w : Nat} (d : ScatterDims s si u) (idx : IVec si w) (h : ∀ i, (idx i).toInt = 0) (k : u.Idx) (a : Fin s.rank) :
    d.start k idx a = 0 := by
  unfold ScatterDims.start
  split
  · exact h _
  · rfl

/-- Column 0 of a table, set. -/
theorem scatter_column {α : Type} {R C w : Nat} (d : ScatterDims ⟨2, ![R, C]⟩ ⟨1, ![1]⟩ ⟨1, ![R]⟩) (hiw : d.insertedWindowDims = [1])
    (idx : IVec ⟨1, ![1]⟩ w) (h : ∀ i, (idx i).toInt = 0) (x : (⟨2, ![R, C]⟩ : Shape).Idx → α) (v : α) (r : Fin R) (c : Fin C) :
    Host.scatter d (fun _ b => b) x idx (fun _ => v) (ix2 r c) = if c.val = 0 then v else x (ix2 r c) := by
  have hwin0 : ∀ k : Fin R, d.window (ix1 k) 0 = k.val := by
    intro k
    have hk : d.sKept = [0] := by
      show Shape.kept _ d.insertedWindowDims = _
      rw [hiw]
      rfl
    unfold ScatterDims.window
    rw [dif_pos (by rw [hk]; simp)]
    exact congrArg (fun t => ((ix1 k : (⟨1, ![R]⟩ : Shape).Idx) t).val) (Subsingleton.elim (α := Fin 1) _ 0)
  have hwin1 : ∀ k : Fin R, d.window (ix1 k) 1 = 0 := by
    intro k
    unfold ScatterDims.window
    rw [dif_neg fun h => (of_decide_eq_true (List.mem_filter.1 h).2) (by rw [hiw]; simp)]
  have lands : ∀ k : Fin R, d.resultIdx? (ix1 k) idx = some (ix2 r c) ↔ k = r ∧ c.val = 0 := by
    intro k
    refine (Routing.resultIdx?_eq_some d _ idx _).trans ⟨fun q => ?_, fun q a => ?_⟩
    · have q0 := q 0
      have q1 := q 1
      rw [start_zero d idx h, hwin0] at q0
      rw [start_zero d idx h, hwin1] at q1
      exact ⟨Fin.ext (by have : ((ix2 r c : (⟨2, ![R, C]⟩ : Shape).Idx) 0).val = r.val := rfl; omega), by have : ((ix2 r c : (⟨2, ![R, C]⟩ : Shape).Idx) 1).val = c.val := rfl; omega⟩
    · match a with
      | ⟨0, _⟩ => rw [start_zero d idx h]; refine (congrArg (fun t : Nat => (0 : Int) + t) (hwin0 k)).trans ?_; rw [q.1]; exact zero_add _
      | ⟨1, _⟩ => rw [start_zero d idx h]; refine (congrArg (fun t : Nat => (0 : Int) + t) (hwin1 k)).trans ?_; show (0 : Int) + (0 : Nat) = (c.val : Int); omega
  by_cases hc : c.val = 0
  · rw [if_pos hc]
    exact Routing.scatter_set_hit d x idx _ _ v (fun _ _ => rfl) (ix1 r) ((lands r).2 ⟨rfl, hc⟩)
  · rw [if_neg hc]
    refine Routing.scatter_set_miss d x idx _ _ fun k hk => hc ?_
    rw [eq_ix1 k] at hk
    exact ((lands _).1 hk).2

/-- A table laid into the corner of a larger one. -/
theorem scatter_corner {α : Type} {R C R' C' w : Nat} (d : ScatterDims ⟨2, ![R, C]⟩ ⟨1, ![1]⟩ ⟨2, ![R', C']⟩) (hiw : d.insertedWindowDims = [])
    (huw : d.updateWindowDims = [0, 1])
    (idx : IVec ⟨1, ![1]⟩ w) (h : ∀ i, (idx i).toInt = 0) (x : (⟨2, ![R, C]⟩ : Shape).Idx → α) (u : (⟨2, ![R', C']⟩ : Shape).Idx → α) (r : Fin R) (c : Fin C) :
    Host.scatter d (fun _ b => b) x idx u (ix2 r c) = if h : r.val < R' ∧ c.val < C' then u (ix2 ⟨r.val, h.1⟩ ⟨c.val, h.2⟩) else x (ix2 r c) := by
  have hk : d.sKept = [0, 1] := by
    show Shape.kept _ d.insertedWindowDims = _
    rw [hiw]
    rfl
  have hwin0 : ∀ (k : Fin R') (l : Fin C'), d.window (ix2 k l) 0 = k.val := by
    intro k l
    unfold ScatterDims.window
    rw [dif_pos (by rw [hk]; simp)]
    refine congrArg (fun t => ((ix2 k l : (⟨2, ![R', C']⟩ : Shape).Idx) t).val) (a₂ := (0 : Fin 2)) ?_
    simp [huw, hk]
  have hwin1 : ∀ (k : Fin R') (l : Fin C'), d.window (ix2 k l) 1 = l.val := by
    intro k l
    unfold ScatterDims.window
    rw [dif_pos (by rw [hk]; simp)]
    refine congrArg (fun t => ((ix2 k l : (⟨2, ![R', C']⟩ : Shape).Idx) t).val) (a₂ := (1 : Fin 2)) ?_
    simp [huw, hk]
  have lands : ∀ (k : Fin R') (l : Fin C'), d.resultIdx? (ix2 k l) idx = some (ix2 r c) ↔ k.val = r.val ∧ l.val = c.val := by
    intro k l
    refine (Routing.resultIdx?_eq_some d _ idx _).trans ⟨fun q => ?_, fun q a => ?_⟩
    · have q0 := q 0
      have q1 := q 1
      rw [start_zero d idx h, hwin0] at q0
      rw [start_zero d idx h, hwin1] at q1
      exact ⟨by have : ((ix2 r c : (⟨2, ![R, C]⟩ : Shape).Idx) 0).val = r.val := rfl; omega, by have : ((ix2 r c : (⟨2, ![R, C]⟩ : Shape).Idx) 1).val = c.val := rfl; omega⟩
    · match a with
      | ⟨0, _⟩ => rw [start_zero d idx h]; refine (congrArg (fun t : Nat => (0 : Int) + t) (hwin0 k l)).trans ?_; rw [q.1]; exact zero_add _
      | ⟨1, _⟩ => rw [start_zero d idx h]; refine (congrArg (fun t : Nat => (0 : Int) + t) (hwin1 k l)).trans ?_; rw [q.2]; exact zero_add _
  by_cases hc : r.val < R' ∧ c.val < C'
  · rw [dif_pos hc]
    refine Routing.scatter_set_hit d x idx _ _ _ (fun k hk => ?_) (ix2 ⟨r.val, hc.1⟩ ⟨c.val, hc.2⟩) ((lands _ _).2 ⟨rfl, rfl⟩)
    rw [eq_ix2 k] at hk ⊢
    obtain ⟨e0, e1⟩ := (lands _ _).1 hk
    exact congrArg u (congrArg₂ ix2 (Fin.ext e0) (Fin.ext e1))
  · rw [dif_neg hc]
    refine Routing.scatter_set_miss d x idx _ _ fun k hk => hc ?_
    rw [eq_ix2 k] at hk
    obtain ⟨e0, e1⟩ := (lands _ _).1 hk
    exact ⟨e0 ▸ (k 0).isLt, e1 ▸ (k 1).isLt⟩

end Cert.Alg
-- ==== Proof.Alg.KHost.lean ====
/- What the kernel's host operations lay out, read at an index. -/
module

public import proofs.«01_k».proof.Proof.KI.Arrays
public import proofs.«01_k».proof.Proof.Alg.KStep
public import proofs.«01_k».proof.Proof.Alg.Scatter
public import Idealize.ShloMosaic.Lib.StableHlo.RunClose

@[expose] public section

set_option maxRecDepth 16384

noncomputable section

namespace Cert.KernelIdeal.Laid

open Idealize.ShloMosaic Idealize.ShloMosaic.TcCoe Idealize.ShloMosaic.StableHlo
open Cert.KernelIdeal Cert.KernelIdeal.Gen Cert.KernelIdeal.Host

variable {V : Valuation τ sig (Elt Ideal)}

theorem seeds {x : FVec Ideal S1024x64x3 .f32} (hx : V main_arg0 = x) :
    after hostA V main_v2 = fun y : S3x1024.Idx => x (ix3 (y 1) 0 (y 0)) := by
  have e : after hostA V main_v2 = transpose S3x1024 [1, 0] (shapeCast S1024x3 (extractStridedSlice S1024x1x3 ![0, 0, 0] x slices_S1024x64x3_S1024x1x3_0_0_0) shapeCasts_S1024x1x3_S1024x3) transposes_S1024x3_S3x1024_1_0 := by after_results_entrywise [hx]
  refine e.trans (funext fun y => ?_)
  obtain ⟨a, b, rfl⟩ : ∃ a b, y = ix2 a b := ⟨y 0, y 1, eq_ix2 y⟩
  pointwise []

theorem layer1 {x : FVec Ideal S3x64 .f32} (hx : V main_arg2 = x) :
    after hostA V main_v3 = fun y : S64x3.Idx => x (ix2 (y 1) (y 0)) := by
  have e : after hostA V main_v3 = transpose S64x3 [1, 0] x transposes_S3x64_S64x3_1_0 := by after_results_entrywise [hx]
  refine e.trans (funext fun y => ?_)
  obtain ⟨a, b, rfl⟩ : ∃ a b, y = ix2 a b := ⟨y 0, y 1, eq_ix2 y⟩
  pointwise []

theorem bias {x : FVec Ideal S64 .f32} (hx : V main_arg3 = x) :
    after hostA V main_v4 = fun y : S64x1.Idx => x (ix1 (y 0)) := by
  have e : after hostA V main_v4 = shapeCast S64x1 x shapeCasts_S64_S64x1 := by after_results_entrywise [hx]
  refine e.trans (funext fun y => ?_)
  obtain ⟨a, b, rfl⟩ : ∃ a b, y = ix2 a b := ⟨y 0, y 1, eq_ix2 y⟩
  pointwise []

theorem mask :
    after hostA V main_v14 = fun y : S768x1.Idx => if (y 0).val < 724 then (0 : EReal) else Step.low := by
  have e : after hostA V main_v14 = shapeCast S768x1 (select (cmpi .slt (iotaInDim S768 32 0) (broadcastInDim S768 ![] bcast_S_S768 (constantI S_ 32 724#32)))
      (broadcastInDim S768 ![] bcast_S_S768 (constant (F := Ideal) S_ .f32 0x00000000#32)) (broadcastInDim S768 ![] bcast_S_S768 (constant (F := Ideal) S_ .f32 0xF149F2CA#32))) shapeCasts_S768_S768x1 := by
    after_results_simp_entrywise
    rfl
  refine e.trans (funext fun y => ?_)
  obtain ⟨a, b, rfl⟩ : ∃ a b, y = ix2 a b := ⟨y 0, y 1, eq_ix2 y⟩
  pointwise []
  have ha := a.isLt
  have e7 : (724#32 : BitVec 32).toInt = 724 := by decide
  have hb : IntOp.cmpi CmpIPredicate.slt (BitVec.ofNat 32 a.val) 724#32 = Alg.bit (a.val < 724) := by
    refine Eq.trans ?_ (Alg.ofBool_decide _)
    show BitVec.ofBool ((BitVec.ofNat 32 a.val).slt 724#32) = _
    congr 1
    unfold BitVec.slt
    rw [e7, toInt_ofNat_of_lt (by omega)]
    exact decide_eq_decide.2 (by omega)
  rw [hb]
  by_cases h : a.val < 724
  · rw [Alg.bit_true h]; exact (if_pos h).symm
  · rw [Alg.bit_false h]; exact (if_neg h).symm

theorem cosine : after hostA V main_v21 = fun _ : S1x1.Idx => Alg.ct := by
  have e : after hostA V main_v21 = shapeCast S1x1 Alg.ctV shapeCasts_S_S1x1 := by
    after_results_simp_entrywise
    rfl
  refine e.trans (funext fun y => ?_)
  obtain ⟨a, b, rfl⟩ : ∃ a b, y = ix2 a b := ⟨y 0, y 1, eq_ix2 y⟩
  unfold Alg.ct
  pointwise []

theorem layer2 {x : FVec Ideal S64x724 .f32} (hx : V main_arg4 = x) :
    after hostA V main_v8 = fun y : S768x64.Idx => if h : (y 0).val < 724 then x (ix2 (y 1) ⟨(y 0).val, h⟩) else (0 : EReal) := by
  have e : after hostA V main_v8 = Host.scatter scatter_S768x64_S1_S724x64_01_n_0_0 (fun _ b => b) (broadcastInDim S768x64 ![] bcast_S_S768x64 (constant (F := Ideal) S_ .f32 0x00000000#32))
      (broadcastInDim S1 ![] bcast_S_S1 (constantI S_ 32 0#32)) (transpose S724x64 [1, 0] x transposes_S64x724_S724x64_1_0) := by
    subst hx
    after_results_simp_entrywise
  refine e.trans (funext fun y => ?_)
  obtain ⟨a, b, rfl⟩ : ∃ a b, y = ix2 a b := ⟨y 0, y 1, eq_ix2 y⟩
  refine (Alg.scatter_corner scatter_S768x64_S1_S724x64_01_n_0_0 rfl rfl _ (fun _ => rfl) _ _ a b).trans ?_
  have hb := b.isLt
  by_cases h : a.val < 724
  · refine (dif_pos ⟨h, hb⟩).trans (Eq.trans ?_ (dif_pos h).symm)
    pointwise []
  · refine (dif_neg fun h' => h h'.1).trans (Eq.trans ?_ (dif_neg h).symm)
    pointwise []

theorem table {x : FVec Ideal S724x3 .f32} (hx : V main_arg1 = x) :
    after hostA V main_v18 = fun y : S3x768.Idx => if h : (y 1).val < 724 then x (ix2 ⟨(y 1).val, h⟩ (y 0)) else (0 : EReal) := by
  have e : after hostA V main_v18 = Host.scatter scatter_S3x768_S1_S3x724_01_n_1_0 (fun _ b => b) (broadcastInDim S3x768 ![] bcast_S_S3x768 (constant (F := Ideal) S_ .f32 0x00000000#32))
      (broadcastInDim S1 ![] bcast_S_S1 (constantI S_ 32 0#32)) (transpose S3x724 [1, 0] x transposes_S724x3_S3x724_1_0) := by
    subst hx
    after_results_simp_entrywise
  refine e.trans (funext fun y => ?_)
  obtain ⟨a, b, rfl⟩ : ∃ a b, y = ix2 a b := ⟨y 0, y 1, eq_ix2 y⟩
  refine (Alg.scatter_corner scatter_S3x768_S1_S3x724_01_n_1_0 rfl rfl _ (fun _ => rfl) _ _ a b).trans ?_
  have ha := a.isLt
  by_cases h : b.val < 724
  · refine (dif_pos ⟨ha, h⟩).trans (Eq.trans ?_ (dif_pos h).symm)
    pointwise []
  · refine (dif_neg fun h' => h h'.2).trans (Eq.trans ?_ (dif_neg h).symm)
    pointwise []

theorem listed {x : IVec S64x1x1024 32} (hx : V main_v22_2 = x) :
    after hostB V main_v23 = shapeCast S32x16x128 x shapeCasts_S64x1x1024_S32x16x128 := by
  after_results_entrywise [hx]

theorem flat {x : FVec Ideal S96x96x96 .f32} (hx : V main_arg5 = x) :
    after hostB V main_v24 = shapeCast S884736 x shapeCasts_S96x96x96_S884736 := by
  after_results_entrywise [hx]

theorem gathered {x : FVec Ideal S32x16x128 .f32} (hx : V main_v25 = x) :
    after hostC V main_v26 = shapeCast S64x1024 x shapeCasts_S32x16x128_S64x1024 := by
  after_results_entrywise [hx]

theorem dots {x : FVec Ideal S64x1x1024 .f32} (hx : V main_v22_1 = x) :
    after hostC V main_v27 = fun y : S64x1024.Idx => x (ix3 (y 0) 0 (y 1)) := by
  have e : after hostC V main_v27 = shapeCast S64x1024 x shapeCasts_S64x1x1024_S64x1024 := by after_results_entrywise [hx]
  refine e.trans (funext fun y => ?_)
  obtain ⟨a, b, rfl⟩ : ∃ a b, y = ix2 a b := ⟨y 0, y 1, eq_ix2 y⟩
  pointwise []

theorem lines {x : FVec Ideal S64x3x1024 .f32} (hx : V main_v28_0 = x) :
    after hostD V main_v29 = fun y : S1024x64x3.Idx => x (ix3 (y 1) (y 2) (y 0)) := by
  have e : after hostD V main_v29 = transpose S1024x64x3 [2, 0, 1] x transposes_S64x3x1024_S1024x64x3_2_0_1 := by after_results_entrywise [hx]
  refine e.trans (funext fun y => ?_)
  obtain ⟨a, b, d, rfl⟩ : ∃ a b d, y = ix3 a b d := ⟨y 0, y 1, y 2, eq_ix3 y⟩
  pointwise []

theorem lengths {x : IVec S1x1024 32} (hx : V main_v28_1 = x) :
    after hostD V main_v30 = fun y : S1024.Idx => x (ix2 0 (y 0)) := by
  have e : after hostD V main_v30 = shapeCast S1024 x shapeCasts_S1x1024_S1024 := by after_results_entrywise [hx]
  refine e.trans (funext fun y => ?_)
  obtain ⟨a, rfl⟩ : ∃ a, y = ix1 a := ⟨y 0, eq_ix1 y⟩
  pointwise []

end Cert.KernelIdeal.Laid
-- ==== Proof.Alg.KFinish.lean ====
/- The finishing kernel, read at a track: how many steps the walk reaches, and its line. -/
module

public import proofs.«01_k».proof.Proof.KI.Finish
public import proofs.«01_k».proof.Proof.Alg.Words

@[expose] public section

set_option maxRecDepth 16384

noncomputable section

namespace Cert.KernelIdeal.Last

open Idealize.ShloMosaic
open Cert.KernelIdeal Cert.KernelIdeal.Gen

variable {P : Alg.Par} {sd : Fin 3 → EReal}

/-- The last of the 64 steps the walk reaches. -/
theorem exists_last (P : Alg.Par) (sd : Fin 3 → EReal) : ∃ m, m < 64 ∧ (∀ t : Fin 64, P.alive sd t.val ↔ t.val ≤ m) ∧ (m < 63 → P.term sd m) ∧ ∀ t, t < m → ¬ P.term sd t := by
  classical
  have hm := Nat.findGreatest_le (P := P.alive sd) 63
  have ha : P.alive sd (Nat.findGreatest (P.alive sd) 63) := Nat.findGreatest_spec (Nat.zero_le 63) (P.alive_zero sd)
  refine ⟨Nat.findGreatest (P.alive sd) 63, by omega, fun t => ⟨fun h => Nat.le_findGreatest (by omega) h, fun h => P.alive_mono sd h ha⟩, fun h => ?_, ha⟩
  by_contra hc
  have := Nat.le_findGreatest (P := P.alive sd) (n := 63) (by omega) ((P.alive_succ sd _).2 ⟨ha, hc⟩)
  omega

theorem sgt_bit (x : Fin 64) : IntOp.cmpi .sgt (BitVec.ofNat 32 x.val) 0#32 = Alg.bit (0 < x.val) := by
  have hx := x.isLt
  refine Eq.trans ?_ (Alg.ofBool_decide _)
  show BitVec.ofBool ((0#32 : BitVec 32).slt (BitVec.ofNat 32 x.val)) = _
  congr 1
  have h0 : (0#32 : BitVec 32).toInt = 0 := by decide
  unfold BitVec.slt
  rw [h0, toInt_ofNat_of_lt (by omega)]
  exact decide_eq_decide.2 (by omega)

theorem slt_bit (x : Fin 64) : IntOp.cmpi .slt (BitVec.ofNat 32 x.val) 63#32 = Alg.bit (x.val < 63) := by
  have hx := x.isLt
  refine Eq.trans ?_ (Alg.ofBool_decide _)
  show BitVec.ofBool ((BitVec.ofNat 32 x.val).slt 63#32) = _
  congr 1
  have h0 : (63#32 : BitVec 32).toInt = 63 := by decide
  unfold BitVec.slt
  rw [h0, toInt_ofNat_of_lt (by omega)]
  exact decide_eq_decide.2 (by omega)

theorem sge_bit (m t : Nat) (hm : m < 64) (ht : t < 64) : IntOp.cmpi .sge (BitVec.ofNat 32 m) (Scf.iv 0#32 1#32 t) = Alg.bit (t ≤ m) := by
  refine Eq.trans ?_ (Alg.ofBool_decide _)
  have hi : Scf.iv 0#32 1#32 t = BitVec.ofNat 32 t := by
    refine BitVec.eq_of_toNat_eq ?_
    simp [Scf.iv]
  rw [hi]
  show BitVec.ofBool ((BitVec.ofNat 32 t).sle (BitVec.ofNat 32 m)) = _
  congr 1
  unfold BitVec.sle
  rw [toInt_ofNat_of_lt (by omega), toInt_ofNat_of_lt (by omega)]
  exact decide_eq_decide.2 (by omega)

variable {v1 v5 : Vec Ideal S64x1024 .f32} {v7 : EReal} {n : Fin 1024}

/-- The kernel's first ending step is the last step the walk reaches. -/
theorem first_at (h1 : ∀ t : Fin 64, t.val < 63 → v1 (ix2 t n) = P.vox (P.pos sd t.val))
    (h5 : ∀ t : Fin 64, t.val < 63 → v5 (ix2 t n) = ∑ d, P.nd (P.pos sd t.val) d * P.prev sd t.val d) (h7 : v7 = P.cth)
    {m : Nat} (hm : m < 64) (hlast : m < 63 → P.term sd m) (hbefore : ∀ t, t < m → ¬ P.term sd t) :
    k2_pay1 (F := Ideal) v1 v5 v7 (ix2 0 n) = BitVec.ofNat 32 m := by
  pointwise [k2_pay1]
  have hf : ∀ x : Fin 64, Scalar.select (IntOp.andi (IntOp.ori (BitVec.ofBool (decide (v1 (ix2 x n) < Ideal.ofBits FTy.f32 1041865114#32)))
      (IntOp.andi (BitVec.ofBool (decide (v5 (ix2 x n) < v7))) (IntOp.cmpi .sgt (BitVec.ofNat 32 x.val) 0#32)))
      (IntOp.cmpi .slt (BitVec.ofNat 32 x.val) 63#32)) (BitVec.ofNat 32 x.val) 63#32
      = Scalar.select (Alg.bit (P.term sd x.val ∧ x.val < 63)) (BitVec.ofNat 32 x.val) 63#32 := by
    intro x
    rw [Alg.ofBool_decide, Alg.ofBool_decide, sgt_bit, slt_bit, Alg.andi_bit, Alg.ori_bit, Alg.andi_bit]
    refine congrArg (fun b => Scalar.select b (BitVec.ofNat 32 x.val) 63#32) (Alg.bit_congr (and_congr_left fun hx => ?_))
    rw [h1 x hx, h5 x hx, h7]
    rfl
  have h63 : (63#32 : BitVec 32).toInt = 63 := by decide
  refine Alg.fold_minsi _ ⟨m, hm⟩ m (by omega) ((hf _).trans ?_) fun s => ?_
  · by_cases h : m < 63
    · rw [Alg.bit_true ⟨hlast h, h⟩]; rfl
    · obtain rfl : m = 63 := by omega
      rw [Alg.bit_false fun h' => h h'.2]; rfl
  · have hs := s.isLt
    refine le_of_le_of_eq ?_ (congrArg BitVec.toInt (hf s)).symm
    by_cases h : P.term sd s.val ∧ s.val < 63
    · rw [Alg.bit_true h]
      show (m : Int) ≤ (BitVec.ofNat 32 s.val).toInt
      rw [toInt_ofNat_of_lt (by omega)]
      by_contra hc
      exact hbefore s.val (by omega) h.1
    · rw [Alg.bit_false h]
      show (m : Int) ≤ (63#32 : BitVec 32).toInt
      rw [h63]
      omega

/-- The length the kernel writes is the model's. -/
theorem len_at (h1 : ∀ t : Fin 64, t.val < 63 → v1 (ix2 t n) = P.vox (P.pos sd t.val))
    (h5 : ∀ t : Fin 64, t.val < 63 → v5 (ix2 t n) = ∑ d, P.nd (P.pos sd t.val) d * P.prev sd t.val d) (h7 : v7 = P.cth) :
    k2_pay2 (F := Ideal) v1 v5 v7 (ix2 0 n) = BitVec.ofNat 32 (P.len sd) := by
  obtain ⟨m, hm, ha, hl, hb⟩ := exists_last P sd
  rw [P.len_eq sd hm ha]
  have e : k2_pay2 (F := Ideal) v1 v5 v7 (ix2 0 n) = IntOp.addi (k2_pay1 (F := Ideal) v1 v5 v7 (ix2 0 n)) 1#32 := by
    pointwise [k2_pay2]
  rw [e, first_at h1 h5 h7 hm hl hb]
  refine BitVec.eq_of_toNat_eq ?_
  simp [IntOp.addi]

/-- The line the kernel writes is the model's. -/
theorem line_at (h1 : ∀ t : Fin 64, t.val < 63 → v1 (ix2 t n) = P.vox (P.pos sd t.val))
    (h5 : ∀ t : Fin 64, t.val < 63 → v5 (ix2 t n) = ∑ d, P.nd (P.pos sd t.val) d * P.prev sd t.val d) (h7 : v7 = P.cth)
    {x1 : Vec Ideal S64x3x1024 .f32} (t : Fin 64) (d : Fin 3) (hx : x1 (ix3 t d n) = P.pos sd t.val d) :
    Finish.finQ v1 v5 v7 x1 (ix3 t d n) = P.line sd t.val d := by
  obtain ⟨m, hm, ha, hl, hb⟩ := exists_last P sd
  have e : Finish.finQ v1 v5 v7 x1 (ix3 t d n) = Scalar.select (IntOp.cmpi .sge (k2_pay1 (F := Ideal) v1 v5 v7 (ix2 0 n)) (Scf.iv 0#32 1#32 t.val)) (x1 (ix3 t d n)) (0 : EReal) := by
    pointwise [Finish.finQ, k2_pay3]
    rfl
  rw [e, first_at h1 h5 h7 hm hl hb, sge_bit m t.val hm t.isLt, Alg.bit_congr (ha t).symm, hx]
  unfold Alg.Par.line
  by_cases h : P.alive sd t.val
  · rw [Alg.bit_true h, if_pos h]; rfl
  · rw [Alg.bit_false h, if_neg h]; rfl

end Cert.KernelIdeal.Last
-- ==== Proof.Alg.Bounds.lean ====
/- How far a walk goes and how low a score falls when every input is of ordinary size. -/
module

public import proofs.«01_k».proof.Proof.Alg.Model

@[expose] public section

noncomputable section

namespace Cert.Alg

open Idealize.ShloMosaic

/-- `x` is a real number of size at most `c`. -/
def Bd (c : ℝ) (x : EReal) : Prop := ∃ r : ℝ, x = (r : EReal) ∧ |r| ≤ c

namespace Bd

variable {a b : ℝ} {x y : EReal}

theorem mono (hab : a ≤ b) (h : Bd a x) : Bd b x := by
  obtain ⟨r, e, hr⟩ := h
  exact ⟨r, e, hr.trans hab⟩

theorem add (hx : Bd a x) (hy : Bd b y) : Bd (a + b) (x + y) := by
  obtain ⟨r, rfl, hr⟩ := hx
  obtain ⟨q, rfl, hq⟩ := hy
  exact ⟨r + q, (EReal.coe_add r q).symm, (abs_add_le r q).trans (add_le_add hr hq)⟩

theorem mul (hx : Bd a x) (hy : Bd b y) : Bd (a * b) (x * y) := by
  obtain ⟨r, rfl, hr⟩ := hx
  obtain ⟨q, rfl, hq⟩ := hy
  exact ⟨r * q, (EReal.coe_mul r q).symm, by
    rw [abs_mul]; exact mul_le_mul hr hq (abs_nonneg q) ((abs_nonneg r).trans hr)⟩

theorem maxZero (hx : Bd a x) : Bd a (max x 0) := by
  obtain ⟨r, rfl, hr⟩ := hx
  refine ⟨max r 0, ?_, ?_⟩
  · exact (EReal.coe_strictMono.monotone.map_max (a := r) (b := 0)).symm
  · rcases max_choice r 0 with e | e <;> rw [e]
    · exact hr
    · simpa using (abs_nonneg r).trans hr

theorem sum {n : Nat} (f : Fin n → EReal) (h : ∀ i, Bd a (f i)) : Bd (n * a) (∑ i, f i) := by
  choose g hg hb using h
  refine ⟨∑ i, g i, ?_, ?_⟩
  · rw [Finset.sum_congr rfl fun i _ => hg i]
    exact (map_sum (⟨⟨Real.toEReal, EReal.coe_zero⟩, EReal.coe_add⟩ : ℝ →+ EReal) g Finset.univ).symm
  · refine (Finset.abs_sum_le_sum_abs g Finset.univ).trans ((Finset.sum_le_sum fun i _ => hb i).trans ?_)
    simp

theorem lower (hx : Bd a x) (c : ℝ) (hc : c < -a) : (c : EReal) < x := by
  obtain ⟨r, rfl, hr⟩ := hx
  exact EReal.coe_lt_coe_iff.2 (hc.trans_le (neg_le_of_abs_le hr))

/-- A value between two opposite reals is a real of that size. -/
theorem of_abs {c : ℝ} (h : max x (-x) ≤ (c : EReal)) : Bd c x := by
  have h1 := (le_max_left _ _).trans h
  have h2 := (le_max_right _ _).trans h
  induction x with
  | bot => exact absurd h2 (by simp)
  | top => exact absurd h1 (by simp)
  | coe r => exact ⟨r, rfl, abs_le'.2 ⟨EReal.coe_le_coe_iff.1 h1, EReal.coe_le_coe_iff.1 (by simpa using h2)⟩⟩

end Bd

theorem half : Ideal.ofBits .f32 0x3F000000#32 = ((1 / 2 : ℝ) : EReal) := by
  simp [Ideal.ofBits, Ideal.ieee]
  rw [← EReal.coe_mul]
  norm_num

theorem million : Ideal.ofBits .f32 0x49742400#32 = ((1000000 : ℝ) : EReal) := by
  simp [Ideal.ofBits, Ideal.ieee]
  rw [← EReal.coe_mul]
  norm_num

theorem low_lt : Ideal.ofBits .f32 0xF149F2CA#32 < ((-100000000000000000000000000000 : ℝ) : EReal) := by
  simp [Ideal.ofBits, Ideal.ieee]
  rw [← EReal.coe_pow, ← EReal.coe_mul, EReal.coe_lt_coe_iff]
  norm_num

/-- Every parameter the walk reads is at most a million in size. -/
structure Par.Small (P : Par) : Prop where
  sph : ∀ s d, Bd 1000000 (P.sph s d)
  W1 : ∀ i j, Bd 1000000 (P.W1 i j)
  b1 : ∀ j, Bd 1000000 (P.b1 j)
  W2 : ∀ j s, Bd 1000000 (P.W2 j s)

variable {P : Par} {sd : Fin 3 → EReal}

theorem pos_bd (H : P.Small) (h0 : ∀ d, Bd 1000000 (sd d)) (t : Nat) : ∀ d, Bd (1000000 + t * 1000000) (P.pos sd t d) := by
  induction t with
  | zero => exact fun d => (h0 d).mono (by norm_num)
  | succ t ih =>
    intro d
    have hh : Bd (1 / 2) (Ideal.ofBits .f32 0x3F000000#32) := ⟨1 / 2, half, by norm_num [abs_of_pos]⟩
    exact ((ih d).add (hh.mul (H.sph _ d))).mono (by push_cast; linarith)

/-- Through step 63 every true score is above what a padded direction scores. -/
theorem low_lt_score (H : P.Small) (h0 : ∀ d, Bd 1000000 (sd d)) (t : Nat) (ht : t < 64) (s : Fin 724) :
    Ideal.ofBits .f32 0xF149F2CA#32 < P.score (P.pos sd t) s := by
  have ht' : (t : ℝ) ≤ 63 := by exact_mod_cast Nat.le_of_lt_succ ht
  have hp : ∀ d, Bd 64000000 (P.pos sd t d) := fun d => (pos_bd H h0 t d).mono (by linarith)
  have hh : ∀ j, Bd (((3 : ℕ) : ℝ) * (64000000 * 1000000) + 1000000) (P.hid (P.pos sd t) j) := fun j =>
    ((Bd.sum _ fun i => (hp i).mul (H.W1 i j)).add (H.b1 j)).maxZero
  have hs : Bd _ (P.score (P.pos sd t) s) := Bd.sum _ fun j => (hh j).mul (H.W2 j s)
  exact low_lt.trans (hs.lower _ (by norm_num))

end Cert.Alg
-- ==== Proof.Alg.KValue.lean ====
/- What the kernel leaves in its two results: the model's lines and lengths, when every input is of ordinary size. -/
module

public import proofs.«01_k».proof.Proof.KI.Frame
public import proofs.«01_k».proof.Proof.Alg.KHost
public import proofs.«01_k».proof.Proof.Alg.KFinish
public import proofs.«01_k».proof.Proof.Alg.Bounds

@[expose] public section

set_option maxRecDepth 16384

noncomputable section

namespace Cert.KernelIdeal.Result

open Idealize.ShloMosaic Idealize.ShloMosaic.TcCoe Idealize.ShloMosaic.StableHlo
open Cert.KernelIdeal Cert.KernelIdeal.Gen Cert.KernelIdeal.Host Cert.KernelIdeal.Segments Cert.KernelIdeal.Regions

variable (m : (ℓ : Loc nD τ sig) → Buf (Elt Ideal) ℓ) (c : Dev nD)

/-- What every track reads, from the kernel's arguments. -/
abbrev par : Alg.Par := Alg.parOf (m ((c : Thread nD τ).loc main_arg1)) (m ((c : Thread nD τ).loc main_arg2)) (m ((c : Thread nD τ).loc main_arg3))
  (m ((c : Thread nD τ).loc main_arg4)) (m ((c : Thread nD τ).loc main_arg5)) Alg.ct

/-- The seed of track `n`. -/
def sd (n : Fin 1024) (d : Fin 3) : EReal := (m ((c : Thread nD τ).loc main_arg0) : FVec Ideal S1024x64x3 .f32) (ix3 n 0 d)

theorem holds : Step.Holds (par m c) (VA m c main_v3) (VA m c main_v4) (VA m c main_v8) (VA m c main_v14) (VA m c main_v18) where
  h1 j i := congrFun (Laid.layer1 (V := W0 m c) rfl) (ix2 j i)
  h2 j := congrFun (Laid.bias (V := W0 m c) rfl) (ix2 j 0)
  h3 s j := congrFun (Laid.layer2 (V := W0 m c) rfl) (ix2 s j)
  h4 s := congrFun (Laid.mask (V := W0 m c)) (ix2 s 0)
  h5 d s := congrFun (Laid.table (V := W0 m c) rfl) (ix2 d s)

theorem trk_pt (n : Fin 1024) : Arrays.trk (Arrays.pt n) (Arrays.ln n) = n := by
  apply Fin.ext
  simp only [Arrays.trk, Arrays.pt, Arrays.ln]
  omega

theorem seed_at (n : Fin 1024) (d : Fin 3) : (iblk0 (VA m) c 0 (Arrays.pt n) : Vec Ideal S3x128 .f32) (ix2 d (Arrays.ln n)) = sd m c n d := by
  refine (Arrays.in0_0 (VA m) c (Arrays.pt n) (ix2 d (Arrays.ln n))).trans ?_
  refine (congrFun (Laid.seeds (V := W0 m c) rfl) _).trans ?_
  show (m ((c : Thread nD τ).loc main_arg0) : FVec Ideal S1024x64x3 .f32) (ix3 (Arrays.trk (Arrays.pt n) (Arrays.ln n)) 0 d) = _
  rw [trk_pt]
  rfl

section Small

variable (hs : (par m c).Small) (h0 : ∀ n d, Alg.Bd 1000000 (sd m c n d))
include hs h0

/-- The walk of the block holding track `n`. -/
abbrev walk (n : Fin 1024) : Nat → FVec Ideal S3x128 .f32 × FVec Ideal S3x128 .f32 :=
  Traj.st (iblk0 (VA m) c 0 (Arrays.pt n)) (iblk0 (VA m) c 1 (Arrays.pt n)) (iblk0 (VA m) c 2 (Arrays.pt n)) (iblk0 (VA m) c 3 (Arrays.pt n))
    (iblk0 (VA m) c 4 (Arrays.pt n)) (iblk0 (VA m) c 5 (Arrays.pt n))

omit hs h0 in
theorem holds_at (n : Fin 1024) : Step.Holds (par m c) (iblk0 (VA m) c 1 (Arrays.pt n)) (iblk0 (VA m) c 2 (Arrays.pt n)) (iblk0 (VA m) c 3 (Arrays.pt n))
    (iblk0 (VA m) c 4 (Arrays.pt n)) (iblk0 (VA m) c 5 (Arrays.pt n)) := by
  rw [Arrays.in0_1, Arrays.in0_2, Arrays.in0_3, Arrays.in0_4, Arrays.in0_5]
  exact holds m c

theorem walk_at (n : Fin 1024) (t : Nat) (ht : t < 64) (d : Fin 3) :
    (walk m c n t).1 (ix2 d (Arrays.ln n)) = (par m c).pos (sd m c n) t d ∧ (walk m c n t).2 (ix2 d (Arrays.ln n)) = (par m c).prev (sd m c n) t d :=
  Step.st_eq _ _ _ (holds_at m c n) (seed_at m c n) 64 (fun t ht s => Alg.low_lt_score hs (h0 n) t ht s) t ht.le d

theorem q_at (t : Fin 64) (d : Fin 3) (n : Fin 1024) : Arrays.qFull (VA m) c (ix3 t d n) = (par m c).pos (sd m c n) t.val d :=
  (walk_at m c hs h0 n t.val t.isLt d).1

theorem dot_at (t : Fin 64) (ht : t.val < 63) (n : Fin 1024) :
    Arrays.dotFull (VA m) c (ix3 t 0 n) = ∑ d, (par m c).nd ((par m c).pos (sd m c n) t.val) d * (par m c).prev (sd m c n) t.val d := by
  have hp : (fun i => (walk m c n t.val).1 (ix2 i (Arrays.ln n))) = (par m c).pos (sd m c n) t.val := funext fun i => (walk_at m c hs h0 n t.val t.isLt i).1
  refine (if_neg (Nat.ne_of_lt ht)).trans ((Step.dot_eq _ _ _).trans (Finset.sum_congr rfl fun d _ => ?_))
  have := Step.dir_eq (holds_at m c n) (walk m c n t.val).1 (Arrays.ln n) (by rw [hp]; exact fun s => Alg.low_lt_score hs (h0 n) t.val t.isLt s) d
  rw [hp] at this
  exact congrArg₂ (fun a b : EReal => a * b) this (walk_at m c hs h0 n t.val t.isLt d).2

theorem lin_at (t : Fin 64) (ht : t.val < 63) (n : Fin 1024) :
    Arrays.linFull (VA m) c (ix3 t 0 n) = Arrays.voxel (F := Ideal) ((par m c).pos (sd m c n) t.val 0) ((par m c).pos (sd m c n) t.val 1) ((par m c).pos (sd m c n) t.val 2) := by
  refine (if_neg (Nat.ne_of_lt ht)).trans ((Arrays.pay6_apply _ _).trans ?_)
  rw [← (walk_at m c hs h0 n t.val t.isLt 0).1, ← (walk_at m c hs h0 n t.val t.isLt 1).1, ← (walk_at m c hs h0 n t.val t.isLt 2).1]
  rfl

end Small

/-- The flat table at a flat voxel number is the map at the voxel. -/
theorem pick_voxel (x : FVec Ideal S96x96x96 .f32) (p : Fin 3 → EReal) :
    Views.pick (F := Ideal) (shapeCast S884736 x shapeCasts_S96x96x96_S884736) (Arrays.voxel (F := Ideal) (p 0) (p 1) (p 2)) = x (ix3 (Alg.vi (p 0)) (Alg.vi (p 1)) (Alg.vi (p 2))) := by
  have hlt := Arrays.voxel_lt (F := Ideal) (p 0) (p 1) (p 2)
  have hv : (Arrays.voxel (F := Ideal) (p 0) (p 1) (p 2)).toNat = (Alg.vi (p 0)).val * 9216 + (Alg.vi (p 1)).val * 96 + (Alg.vi (p 2)).val := by
    have ha := Alg.vx_lt (p 0)
    have hb := Alg.vx_lt (p 1)
    have hd := Alg.vx_lt (p 2)
    show (Alg.vx (p 0) * 9216#32 + Alg.vx (p 1) * 96#32 + Alg.vx (p 2)).toNat = (Alg.vx (p 0)).toNat * 9216 + (Alg.vx (p 1)).toNat * 96 + (Alg.vx (p 2)).toNat
    simp only [BitVec.toNat_add, BitVec.toNat_mul, BitVec.toNat_ofNat]
    omega
  refine (dif_pos hlt).trans ?_
  have ha := (Alg.vi (p 0)).isLt
  have hb := (Alg.vi (p 1)).isLt
  have hd := (Alg.vi (p 2)).isLt
  have key : ∀ (a b d : Fin 96) (v : Fin 884736), v.val = a.val * 9216 + b.val * 96 + d.val →
      shapeCast S884736 x shapeCasts_S96x96x96_S884736 (ix1 v) = x (ix3 a b d) := by
    intro a b d v e
    have e1 : v.val / 9216 = a.val := by omega
    have e2 : v.val / 96 % 96 = b.val := by omega
    have e3 : v.val % 96 = d.val := by omega
    pointwise []
    have at_eq : ∀ i j k : Fin 96, i.val = a.val → j.val = b.val → k.val = d.val → x (ix3 i j k) = x (ix3 a b d) := fun i j k h1 h2 h3 => by
      rw [Fin.ext h1, Fin.ext h2, Fin.ext h3]
    exact at_eq _ _ _ e1 e2 e3
  exact key _ _ _ ⟨_, hlt⟩ hv

theorem table_eq : FA m c = shapeCast S884736 (m ((c : Thread nD τ).loc main_arg5)) shapeCasts_S96x96x96_S884736 := by
  refine Laid.flat (V := WR0 m c) ?_
  rw [WR0_of_ne m c main_arg5 (by decide)]
  unfold WA
  rw [after_of_writes_sub hostA _ hostA_writes (by decide)]
  rfl

theorem gathered_eq :
    WC m c (Proc.devRef .tc main_v26) = fun y : S64x1024.Idx => Views.pick (FA m c) (Arrays.linFull (VA m) c (ix3 (y 0) 0 (y 1))) := by
  have e : WC m c (Proc.devRef .tc main_v26) = shapeCast S64x1024 (Views.outArr (LIN m c) (FA m c)) shapeCasts_S32x16x128_S64x1024 :=
    Laid.gathered (V := WS m c) (by unfold WS; exact Function.update_self ..)
  refine e.trans ?_
  rw [Frame.LIN_eq]
  funext y
  show Views.pick (FA m c) (shapeCast S64x1024 (shapeCast S32x16x128 (Arrays.linFull (VA m) c) shapeCasts_S64x1x1024_S32x16x128) shapeCasts_S32x16x128_S64x1024 y) = _
  congr 1
  generalize Arrays.linFull (VA m) c = x
  obtain ⟨a, b, rfl⟩ : ∃ a b, y = ix2 a b := ⟨y 0, y 1, eq_ix2 y⟩
  pointwise []

theorem dots_eq : WC m c (Proc.devRef .tc main_v27) = fun y : S64x1024.Idx => Arrays.dotFull (VA m) c (ix3 (y 0) 0 (y 1)) := by
  refine Laid.dots (V := WS m c) ?_
  unfold WS
  rw [Function.update_of_ne (fun e => by exact absurd (Proc.devRef_injective _ e) (by decide))]
  unfold WB
  rw [after_of_writes_sub hostB _ hostB_writes (by decide)]
  exact (WR0_arr m c 7).trans (Arrays.arr7 (VA m) c)

theorem q_eq : WC m c (Proc.devRef .tc main_v22_0) = Arrays.qFull (VA m) c := by
  unfold WC
  rw [after_of_writes_sub hostC _ hostC_writes (by decide)]
  unfold WS
  rw [Function.update_of_ne (fun e => by exact absurd (Proc.devRef_injective _ e) (by decide))]
  unfold WB
  rw [after_of_writes_sub hostB _ hostB_writes (by decide)]
  exact (WR0_arr m c 6).trans (Arrays.arr6 (VA m) c)

theorem cos_eq : WC m c (Proc.devRef .tc main_v21) = fun _ : S1x1.Idx => Alg.ct := by
  unfold WC
  rw [after_of_writes_sub hostC _ hostC_writes (by decide)]
  unfold WS
  rw [Function.update_of_ne (fun e => by exact absurd (Proc.devRef_injective _ e) (by decide))]
  unfold WB
  rw [after_of_writes_sub hostB _ hostB_writes (by decide), WR0_of_ne m c main_v21 (by decide)]
  exact Laid.cosine

section Small

variable (hs : (par m c).Small) (h0 : ∀ n d, Alg.Bd 1000000 (sd m c n d))
include hs h0

theorem map_at (n : Fin 1024) (t : Fin 64) (ht : t.val < 63) :
    (VC m c main_v26 : FVec Ideal S64x1024 .f32) (ix2 t n) = (par m c).vox ((par m c).pos (sd m c n) t.val) := by
  refine (congrFun (gathered_eq m c) (ix2 t n)).trans ?_
  refine (congrArg (Views.pick (F := Ideal) (FA m c)) (lin_at m c hs h0 t ht n)).trans ?_
  rw [table_eq]
  exact pick_voxel _ ((par m c).pos (sd m c n) t.val)

theorem turn_at (n : Fin 1024) (t : Fin 64) (ht : t.val < 63) :
    (VC m c main_v27 : FVec Ideal S64x1024 .f32) (ix2 t n) = ∑ d, (par m c).nd ((par m c).pos (sd m c n) t.val) d * (par m c).prev (sd m c n) t.val d :=
  (congrFun (dots_eq m c) (ix2 t n)).trans (dot_at m c hs h0 t ht n)

/-- The kernel's first result. -/
theorem lines_eq : WD m c (Proc.devRef .tc main_v29) = fun y : S1024x64x3.Idx => (par m c).line (sd m c (y 0)) (y 1).val (y 2) := by
  refine (Laid.lines (V := WR1 m c) ((WR1_arr m c 4).trans (Arrays.fin4 (VC m) c))).trans (funext fun y => ?_)
  obtain ⟨n, t, d, rfl⟩ : ∃ a b d, y = ix3 a b d := ⟨y 0, y 1, y 2, eq_ix3 y⟩
  exact Last.line_at (map_at m c hs h0 n) (turn_at m c hs h0 n) (congrFun (cos_eq m c) (ix2 0 0)) t d
    ((congrFun (q_eq m c) (ix3 t d n)).trans (q_at m c hs h0 t d n))

/-- The kernel's second result. -/
theorem lengths_eq : WD m c (Proc.devRef .tc main_v30) = fun y : S1024.Idx => BitVec.ofNat 32 ((par m c).len (sd m c (y 0))) := by
  refine (Laid.lengths (V := WR1 m c) ((WR1_arr m c 5).trans (Arrays.fin5 (VC m) c))).trans (funext fun y => ?_)
  obtain ⟨n, rfl⟩ : ∃ a, y = ix1 a := ⟨y 0, eq_ix1 y⟩
  exact Last.len_at (map_at m c hs h0 n) (turn_at m c hs h0 n) (congrFun (cos_eq m c) (ix2 0 0))

end Small

end Cert.KernelIdeal.Result
-- ==== Proof.Alg.Pre.lean ====
/- What the precondition says of the inputs, read back from its one result bit. -/
module

public import proofs.«01_k».proof.Pre_ordinary_inputs
public import proofs.«01_k».proof.Proof.Alg.Bounds
public import Idealize.ShloMosaic.Lib.ReduceAll

@[expose] public section

noncomputable section

namespace Cert.Pre_ordinary_inputs.Read

open Idealize.ShloMosaic
open Cert.Pre_ordinary_inputs

instance facts : Cert.Pre_ordinary_inputs.Facts where
  slices_S1024x64x3_S1024x63x3_0_1_0 := by decide
  bcast_S_S1024x63x3 := by decide
  reducesTo_S1024x63x3_S_d0_1_2 := by decide
  h_S_ := by decide
  slices_S1024x64x3_S1024x1x3_0_0_0 := by decide
  shapeCasts_S1024x1x3_S1024x3 := by decide
  bcast_S_S1024x3 := by decide
  reducesTo_S1024x3_S_d0_1 := by decide
  bcast_S_S724x3 := by decide
  reducesTo_S724x3_S_d0_1 := by decide
  bcast_S_S3x64 := by decide
  reducesTo_S3x64_S_d0_1 := by decide
  bcast_S_S64 := by decide
  reducesTo_S64_S_d0 := by decide
  bcast_S_S64x724 := by decide
  reducesTo_S64x724_S_d0_1 := by decide

open Facts

instance : Subsingleton S_.Idx := ⟨fun _ _ => funext fun i => i.elim0⟩

/-- A bit that compares a size with a million and came out one. -/
theorem bd_of {x : EReal} (h : FloatOps.cmpf (F := Ideal) (φ := .f32) .ole (FloatOps.absf (F := Ideal) (φ := .f32) x) (Ideal.ofBits .f32 0x49742400#32) = 1#1) : Alg.Bd 1000000 x := by
  rw [Alg.million] at h
  refine Alg.Bd.of_abs ?_
  by_contra hc
  have e : FloatOps.cmpf (F := Ideal) (φ := .f32) .ole (FloatOps.absf (F := Ideal) (φ := .f32) x) (((1000000 : ℝ) : EReal)) = 0#1 := by
    show BitVec.ofBool (decide (max x (-x) ≤ ((1000000 : ℝ) : EReal))) = 0#1
    rw [decide_eq_false hc]; rfl
  rw [e] at h
  exact absurd h (by decide)

/-- An array all of whose sizes compare at most a million. -/
theorem all_bd {s : Shape} {axes : List (Fin s.rank)} (x : FVec Ideal s .f32) (hb : S_.BroadcastsInDim s (![] : Fin 0 → Fin s.rank)) (hr : s.ReducesTo axes S_)
    (h : Host.reduce IntOp.andi (cmpf .ole (Host.absf x) (broadcastInDim s ![] hb (constant S_ .f32 0x49742400#32))) (constantI S_ 1 1#1) hr h_S_ ix0 = 1#1) (i : s.Idx) :
    Alg.Bd 1000000 (x i) :=
  bd_of (Host.reduce_andi_all _ _ hr h_S_ ix0 h i)

theorem read {a0 : FVec Ideal S1024x64x3 .f32} {a1 : FVec Ideal S724x3 .f32} {a2 : FVec Ideal S3x64 .f32} {a3 : FVec Ideal S64 .f32}
    {a4 : FVec Ideal S64x724 .f32} {a5 : FVec Ideal S96x96x96 .f32} (h : fn (F := Ideal) a0 a1 a2 a3 a4 a5 = fun _ => 1#1) :
    (∀ n (t : Fin 64) d, t ≠ 0 → a0 (ix3 n t d) = (0 : EReal)) ∧ (∀ n d, Alg.Bd 1000000 (a0 (ix3 n 0 d))) ∧ (∀ i, Alg.Bd 1000000 (a1 i))
      ∧ (∀ i, Alg.Bd 1000000 (a2 i)) ∧ (∀ i, Alg.Bd 1000000 (a3 i)) ∧ ∀ i, Alg.Bd 1000000 (a4 i) := by
  have h' := congrFun h ix0
  simp only [fn, fn_part1] at h'
  obtain ⟨hz, h'⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  refine ⟨fun n t d ht => ?_, fun n d => ?_, all_bd a1 _ _ h1, all_bd a2 _ _ h2, all_bd a3 _ _ h3, all_bd a4 _ _ h4⟩
  · have ht0 : 1 ≤ t.val := Nat.one_le_iff_ne_zero.2 fun e => ht (Fin.ext e)
    have htl := t.isLt
    have hb := Host.reduce_andi_all _ _ _ h_S_ ix0 hz (ix3 n ⟨t.val - 1, by omega⟩ d)
    have he : extractStridedSlice S1024x63x3 ![0, 1, 0] a0 slices_S1024x64x3_S1024x63x3_0_1_0 (ix3 n ⟨t.val - 1, by omega⟩ d) = a0 (ix3 n t d) := by
      pointwise []
      have at_eq : ∀ s : Fin 64, s.val = t.val → a0 (ix3 n s d) = a0 (ix3 n t d) := fun s h => by rw [Fin.ext h]
      exact at_eq _ (by show 1 + (t.val - 1) = t.val; omega)
    by_contra hc
    have hf : cmpf .oeq (extractStridedSlice S1024x63x3 ![0, 1, 0] a0 slices_S1024x64x3_S1024x63x3_0_1_0) (broadcastInDim S1024x63x3 ![] bcast_S_S1024x63x3 (constant S_ .f32 0x00000000#32))
        (ix3 n ⟨t.val - 1, by omega⟩ d) = 0#1 := by
      show BitVec.ofBool (decide (extractStridedSlice S1024x63x3 ![0, 1, 0] a0 slices_S1024x64x3_S1024x63x3_0_1_0 (ix3 n ⟨t.val - 1, by omega⟩ d) = Ideal.ofBits .f32 0x00000000#32)) = 0#1
      rw [he, Ideal.ofBits_zero_f32, decide_eq_false hc]; rfl
    rw [hf] at hb
    exact absurd hb (by decide)
  · have hb := all_bd _ _ _ h0 (ix2 n d)
    have he : shapeCast S1024x3 (extractStridedSlice S1024x1x3 ![0, 0, 0] a0 slices_S1024x64x3_S1024x1x3_0_0_0) shapeCasts_S1024x1x3_S1024x3 (ix2 n d) = a0 (ix3 n 0 d) := by
      pointwise []
    rwa [he] at hb

end Cert.Pre_ordinary_inputs.Read
-- ==== Proof.Ref.Body.lean ====
/- What one trip of the reference's loop writes, read at an index. -/
module

public import proofs.«01_k».proof.Proof.Ref.Frame
public import proofs.«01_k».proof.Proof.Alg.Model
public import Idealize.ShloMosaic.Lib.DynamicIndex
public import Idealize.ShloMosaic.Lib.Routing.Ops
public import Idealize.ShloMosaic.Lib.StableHlo.RunClose

@[expose] public section

set_option maxRecDepth 16384

noncomputable section

namespace Cert.ReferenceIdeal.Body

open Cert.ReferenceIdeal Cert.ReferenceIdeal.Gen Cert.ReferenceIdeal.Value
open Idealize.ShloMosaic
open Idealize.ShloMosaic.TcCoe
open Idealize.ShloMosaic.StableHlo
open Idealize.SL Idealize.SL.Sem

variable (V : Valuation τ sig (Elt Ideal))

theorem s2 {p : FVec Ideal S1024x3 .f32} {w1 : FVec Ideal S3x64 .f32} {b1 : FVec Ideal S64 .f32} {w2 : FVec Ideal S64x724 .f32}
    (hp : V main_while0b_v13 = p) (h1 : V main_v8_0 = w1) (hb : V main_v8_1 = b1) (h2 : V main_v8_2 = w2) :
    after while0Ops0_2 V main_while0b_v20
      = fun y : S1024x724.Idx => ∑ j : Fin 64, max ((∑ i : Fin 3, p (ix2 (y 0) i) * w1 (ix2 i j)) + b1 (ix1 j)) 0 * w2 (ix2 j (y 1)) := by
  have e : after while0Ops0_2 V main_while0b_v20
    = Host.dotGeneral dot_S1024x64_S64x724_S1024x724_1_0_0_1_n_n none
        (maximumf (addf (Host.dotGeneral dot_S1024x3_S3x64_S1024x64_1_0_0_1_n_n none p w1)
            (broadcastInDim S1024x64 ![0, 1] bcast_S1x64_S1024x64_0_1 (broadcastInDim S1x64 ![1] bcast_S64_S1x64_1 b1)))
          (broadcastInDim S1024x64 ![] bcast_S_S1024x64 (constant S_ .f32 0x00000000#32)))
        w2 := by
    after_results_entrywise [hp, h1, hb, h2]
  rw [e]
  funext y
  idx_vars y
  pointwise

/-- Row `k` of the streamlines. -/
theorem s1 {x : FVec Ideal S1024x64x3 .f32} {k : Nat} (hk : k < 64) (hx : V main_v8_8 = x)
    (hc : V main_v8_7 = fun _ : S_.Idx => BitVec.ofNat 32 k) :
    after while0Ops0_1 V main_while0b_v13 = fun y : S1024x3.Idx => x (ix3 (y 0) ⟨k, hk⟩ (y 1)) := by
  have e : after while0Ops0_1 V main_while0b_v13 = shapeCast S1024x3 (Host.dynamicSlice S1024x1x3 x
      (fun a => ((![(constantI S_ 32 0#32 : IVec S_ 32), select (cmpi .slt (constantI S_ 32 (BitVec.ofNat 32 k)) (constantI S_ 32 0#32)) (addi (constantI S_ 32 (BitVec.ofNat 32 k)) (constantI S_ 32 64#32)) (constantI S_ 32 (BitVec.ofNat 32 k)), constantI S_ 32 0#32] : Fin 3 → IVec S_ 32) a (Shape.Idx.first h_S_)).toInt)
        sliceFits_S1024x64x3_S1024x1x3) shapeCasts_S1024x1x3_S1024x3 := by
    after_results_entrywise [hx, hc]
  rw [e, Host.dynamicSlice_eq_extractStridedSlice S1024x1x3 x _ ![0, k, 0] _ ⟨rfl, by intro a; fin_cases a <;> simp <;> omega⟩]
  · funext y
    idx_vars y
    pointwise
  · intro a
    match a with
    | 0 => rfl
    | 1 => exact toInt_wrap_ofNat k (by omega)
    | 2 => rfl

/-- The pair order of the arg-max: the greater value, and among equal values the smaller index. -/
def Lex (p r : EReal × BitVec 32) : Prop := p.1 < r.1 ∨ (p.1 = r.1 ∧ r.2.toInt ≤ p.2.toInt)

theorem Lex.trans {p q r : EReal × BitVec 32} (h : Lex p q) (h' : Lex q r) : Lex p r := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

theorem Lex.refl (p : EReal × BitVec 32) : Lex p p := Or.inr ⟨rfl, le_refl _⟩

/-- The reducer keeps one of its two pairs, the one above the other. -/
theorem red_spec (a b : EReal × BitVec 32) : ((reducer_argmax_f32_i32 (F := Ideal) a b : EReal × BitVec 32) = a ∨ (reducer_argmax_f32_i32 (F := Ideal) a b : EReal × BitVec 32) = b)
    ∧ Lex a (reducer_argmax_f32_i32 (F := Ideal) a b) ∧ Lex b (reducer_argmax_f32_i32 (F := Ideal) a b) := by
  obtain ⟨av, ai⟩ := a
  obtain ⟨bv, bi⟩ := b
  rcases lt_trichotomy av bv with h | h | h
  · have e : reducer_argmax_f32_i32 (F := Ideal) (av, ai) (bv, bi) = (bv, bi) := by
      simp [reducer_argmax_f32_i32, Ideal.cmpf_def, Ideal.cmp, h, h.le, h.ne, not_lt.2 h.le, IntOp.ori, IntOp.andi, Scalar.select]
    rw [e]
    exact ⟨Or.inr rfl, Or.inl h, Lex.refl _⟩
  · subst h
    by_cases hi : ai.toInt < bi.toInt
    · have e : reducer_argmax_f32_i32 (F := Ideal) (av, ai) (av, bi) = (av, ai) := by
        simp [reducer_argmax_f32_i32, Ideal.cmpf_def, Ideal.cmp, IntOp.ori, IntOp.andi, Scalar.select, IntOp.cmpi, BitVec.slt, hi]
      rw [e]
      exact ⟨Or.inl rfl, Lex.refl _, Or.inr ⟨rfl, hi.le⟩⟩
    · have e : reducer_argmax_f32_i32 (F := Ideal) (av, ai) (av, bi) = (av, bi) := by
        simp [reducer_argmax_f32_i32, Ideal.cmpf_def, Ideal.cmp, IntOp.ori, IntOp.andi, Scalar.select, IntOp.cmpi, BitVec.slt, hi]
      rw [e]
      exact ⟨Or.inr rfl, Or.inr ⟨rfl, not_lt.1 hi⟩, Lex.refl _⟩
  · have e : reducer_argmax_f32_i32 (F := Ideal) (av, ai) (bv, bi) = (av, ai) := by
      simp [reducer_argmax_f32_i32, Ideal.cmpf_def, Ideal.cmp, h, h.le, h.ne', IntOp.ori, IntOp.andi, Scalar.select]
    rw [e]
    exact ⟨Or.inl rfl, Lex.refl _, Or.inl h⟩

/-- Folded over a list, it keeps the pair above all others. -/
theorem foldl_red (L : List (EReal × BitVec 32)) (z : EReal × BitVec 32) :
    (L.foldl (reducer_argmax_f32_i32 (F := Ideal)) z : EReal × BitVec 32) ∈ z :: L
      ∧ ∀ p ∈ z :: L, Lex p (L.foldl (reducer_argmax_f32_i32 (F := Ideal)) z) := by
  induction L generalizing z with
  | nil => exact ⟨List.mem_singleton.2 rfl, fun p hp => List.mem_singleton.1 hp ▸ Lex.refl _⟩
  | cons b L ih =>
    obtain ⟨hm, hl⟩ := ih (reducer_argmax_f32_i32 (F := Ideal) z b)
    obtain ⟨hr, ha, hb⟩ := red_spec z b
    have h0 := hl _ List.mem_cons_self
    refine ⟨?_, fun p hp => ?_⟩
    · rcases List.mem_cons.1 hm with h | h
      · rw [List.foldl_cons, h]
        rcases hr with e | e <;> rw [e] <;> simp
      · exact List.mem_cons_of_mem _ (List.mem_cons_of_mem _ h)
    · rcases List.mem_cons.1 hp with rfl | hp
      · exact ha.trans h0
      · rcases List.mem_cons.1 hp with rfl | hp
        · exact hb.trans h0
        · exact hl p (List.mem_cons_of_mem _ hp)

theorem negInf : Ideal.ofBits .f32 0xFF800000#32 = ⊥ := by
  simp [Ideal.ofBits, Ideal.ieee]

/-- The first best direction's number. -/
theorem s3 {x : FVec Ideal S1024x724 .f32} (hx : V main_while0b_v20 = x) :
    after while0Ops0_3 V main_while0b_v21 = fun y : S1024.Idx => BitVec.ofNat 32 (Alg.best fun s => x (ix2 (y 0) s)).val := by
  have e : after while0Ops0_3 V main_while0b_v21 = fun j => (Host.argReduce (reducer_argmax_f32_i32 (F := Ideal)) x (iotaInDim S1024x724 32 1)
      (constant S_ .f32 0xFF800000#32) (constantI S_ 32 0#32) reducesTo_S1024x724_S1024_d1 h_S_ j).2 := by
    after_results_entrywise [hx]
  rw [e, Ideal.argReduce_eq_reduce2]
  funext j
  obtain ⟨n, rfl⟩ : ∃ n : Fin 1024, j = ix1 n := ⟨j 0, eq_ix1 j⟩
  rw [Host.reduce2_eq_foldl_fiber]
  have hmem : ∀ p : EReal × BitVec 32, p ∈ Host.argReduceFiber x (iotaInDim S1024x724 32 1) reducesTo_S1024x724_S1024_d1 (ix1 n)
      ↔ ∃ s : Fin 724, p = (x (ix2 n s), BitVec.ofNat 32 s.val) := by
    intro p
    have hd : ∀ i : S1024x724.Idx, Shape.ReducesTo.drop reducesTo_S1024x724_S1024_d1 i = ix1 (i 0) := fun i => by
      funext b
      obtain rfl : b = 0 := Subsingleton.elim _ _
      exact Fin.ext (Shape.ReducesTo.drop_apply_val_of_eq _ i 0 0)
    simp only [Host.argReduceFiber, List.mem_map, List.mem_filter, List.mem_finRange, true_and, decide_eq_true_eq]
    constructor
    · rintro ⟨r, hr, rfl⟩
      have h0 : (S1024x724.rowMajor.symm r) 0 = n := congrFun ((hd _).symm.trans hr) 0
      have : S1024x724.rowMajor.symm r = ix2 n ((S1024x724.rowMajor.symm r) 1) := (eq_ix2 _).trans (congrArg (fun q => ix2 q _) h0)
      exact ⟨(S1024x724.rowMajor.symm r) 1, Prod.ext (congrArg x this) rfl⟩
    · rintro ⟨s, rfl⟩
      exact ⟨S1024x724.rowMajor (ix2 n s), by rw [Equiv.symm_apply_apply]; exact hd _, by rw [Equiv.symm_apply_apply]; rfl⟩
  have hz : ((constant S_ .f32 0xFF800000#32 : FVec Ideal S_ .f32) (Shape.Idx.first h_S_), (constantI S_ 32 0#32 : IVec S_ 32) (Shape.Idx.first h_S_)) = ((⊥, 0#32) : EReal × BitVec 32) :=
    Prod.ext negInf rfl
  rw [hz]
  obtain ⟨hm, hl⟩ := foldl_red (Host.argReduceFiber x (iotaInDim S1024x724 32 1) reducesTo_S1024x724_S1024_d1 (ix1 n)) (⊥, 0#32)
  generalize List.foldl (reducer_argmax_f32_i32 (F := Ideal)) ((⊥, 0#32) : EReal × BitVec 32) _ = r at hm hl
  have hI : ∀ s : Fin 724, (BitVec.ofNat 32 s.val).toInt = s.val := fun s => toInt_ofNat_of_lt (by omega)
  have key : ∀ s : Fin 724, r = (x (ix2 n s), BitVec.ofNat 32 s.val) → r.2 = BitVec.ofNat 32 (Alg.best fun s => x (ix2 n s)).val := by
    intro s hs
    have hb : Alg.IsBest (fun s => x (ix2 n s)) s := by
      refine ⟨fun q => ?_, fun q hq => ?_⟩ <;>
        have h := hl _ (List.mem_cons_of_mem _ ((hmem _).2 ⟨q, rfl⟩)) <;> rw [hs] at h <;> rcases h with h | ⟨h, h'⟩
      · exact h.le
      · exact h.le
      · exact h
      · rw [hI, hI] at h'
        exact absurd hq (by simp only [Fin.lt_def]; omega)
    rw [hs, (Alg.best_spec _).unique hb]
  rcases List.mem_cons.1 hm with h | h
  · have h0 := hl _ (List.mem_cons_of_mem _ ((hmem _).2 ⟨0, rfl⟩))
    rw [h] at h0
    refine key 0 (h.trans (Prod.ext ?_ rfl))
    rcases h0 with h0 | h0
    · exact absurd h0 not_lt_bot
    · exact h0.1.symm
  · obtain ⟨s, hs⟩ := (hmem r).1 h
    exact key s hs

/-- An index that is not negative is not wrapped. -/
theorem wrap_nonneg (w v : BitVec 32) (h : 0 ≤ w.toInt) : Scalar.select (IntOp.cmpi .slt w 0#32) v w = w := by
  have : IntOp.cmpi .slt w 0#32 = 0#1 := by simp [IntOp.cmpi, BitVec.slt, not_lt.2 h]
  rw [this]; rfl

/-- The row numbers as a column, a negative one counted from the end. -/
def wrap724 (i : IVec S1024 32) : IVec S1024x1 32 :=
  broadcastInDim S1024x1 ![0] bcast_S1024_S1024x1_0 (select (cmpi .slt i (broadcastInDim S1024 ![] bcast_S_S1024 (constantI S_ 32 0#32)))
    (addi i (broadcastInDim S1024 ![] bcast_S_S1024 (constantI S_ 32 724#32))) i)

/-- Rows of the table by their numbers, not a number where one is out of range. -/
def take724 (sph : FVec Ideal S724x3 .f32) (i : IVec S1024 32) : FVec Ideal S1024x3 .f32 :=
  select (broadcastInDim S1024x3 ![0] bcast_S1024_S1024x3_0
      (Host.reduce IntOp.andi (andi (cmpi .sge (wrap724 i) (broadcastInDim S1024x1 ![] bcast_S_S1024x1 (constantI S_ 32 0#32)))
        (cmpi .sle (wrap724 i) (broadcastInDim S1024x1 ![0, 1] bcast_S1x1_S1024x1_0_1 (broadcastInDim S1x1 ![1] bcast_S1_S1x1_1 (constantI S1 32 723#32)))))
        (constantI S_ 1 1#1) reducesTo_S1024x1_S1024_d1 h_S_))
    (Host.gather gather_S724x3_S1024x1_S1024x3_1_0_n_n_0_1_13 sph (wrap724 i))
    (broadcastInDim S1024x3 ![] bcast_S_S1024x3 (constant S_ .f32 0x7FC00000#32))

/-- The direction taken, by its number. -/
theorem s4 {sph : FVec Ideal S724x3 .f32} {bi : Fin 1024 → Fin 724} (hs : V main_v8_3 = sph)
    (hb : V main_while0b_v21 = fun y : S1024.Idx => BitVec.ofNat 32 (bi (y 0)).val) :
    after while0Ops0_4 V main_while0b_v22 = fun y : S1024x3.Idx => sph (ix2 (bi (y 0)) (y 1)) := by
  have e : after while0Ops0_4 V main_while0b_v22 = take724 sph (fun y : S1024.Idx => BitVec.ofNat 32 (bi (y 0)).val) := by
    after_results_entrywise [hs, hb]
  rw [e]
  funext y
  obtain ⟨n, d, rfl⟩ : ∃ (n : Fin 1024) (d : Fin 3), y = ix2 n d := ⟨y 0, y 1, eq_ix2 y⟩
  have hw : wrap724 (fun y : S1024.Idx => BitVec.ofNat 32 (bi (y 0)).val) = fun y : S1024x1.Idx => BitVec.ofNat 32 (bi (y 0)).val := by
    funext y
    idx_vars y
    pointwise [wrap724]
    exact wrap_nonneg _ _ (by rw [toInt_ofNat_of_lt (by omega)]; omega)
  unfold take724
  rw [hw]
  pointwise
  have hge : IntOp.cmpi .sge (BitVec.ofNat 32 (bi n).val) 0#32 = 1#1 := by
    simp [IntOp.cmpi, BitVec.sle, toInt_ofNat_of_lt (show (bi n).val < 2 ^ 31 by omega)]
  have hle : IntOp.cmpi .sle (BitVec.ofNat 32 (bi n).val) 723#32 = 1#1 := by
    have := (bi n).isLt
    have h723 : (723#32 : BitVec 32).toInt = 723 := rfl
    show BitVec.ofBool (BitVec.sle _ _) = 1#1
    rw [show BitVec.sle (BitVec.ofNat 32 (bi n).val) 723#32 = true by
      simp only [BitVec.sle, toInt_ofNat_of_lt (show (bi n).val < 2 ^ 31 by omega), h723, decide_eq_true_eq]; omega]
    rfl
  rw [hge, hle]
  have hf : Finset.fold IntOp.andi (1#1) (fun _ : Fin 1 => IntOp.andi (1#1) (1#1)) Finset.univ = 1#1 := by decide
  rw [hf]
  exact Routing.gather_row (nb := 724) (B := 3) (n := 1024) gather_S724x3_S1024x1_S1024x3_1_0_n_n_0_1_13 rfl rfl rfl rfl rfl sph _ n d (bi n) rfl (by norm_num)

/-- The turn is too sharp: the cosine with the last direction is below the least, past the first step. -/
theorem s5 {d pd : FVec Ideal S1024x3 .f32} {cth : FVec Ideal S_ .f32} {k : Nat} (hk : k < 64) (hd : V main_while0b_v22 = d) (hp : V main_v8_11 = pd)
    (ht : V main_v8_4 = cth) (hc : V main_v8_7 = fun _ : S_.Idx => BitVec.ofNat 32 k) :
    after while0Ops0_5 V main_while0b_v32 = fun y : S1024.Idx => Alg.bit ((∑ i : Fin 3, d (ix2 (y 0) i) * pd (ix2 (y 0) i)) < cth ix0 ∧ 0 < k) := by
  have e : after while0Ops0_5 V main_while0b_v32 = andi (cmpf .olt (Host.reduceAdd (mulf d pd) (constant S_ .f32 0x00000000#32) reducesTo_S1024x3_S1024_d1 h_S_)
        (broadcastInDim S1024 ![] bcast_S_S1024 cth))
      (broadcastInDim S1024 ![] bcast_S_S1024 (cmpi .ne (cmpi .sgt (constantI S_ 32 (BitVec.ofNat 32 k)) (constantI S_ 32 0#32)) (broadcastInDim S_ ![] bcast_S_S_ (constantI S_ 1 0#1)))) := by
    after_results_entrywise [hd, hp, ht, hc]
  rw [e]
  funext y
  idx_vars y
  pointwise
  have hg : IntOp.cmpi .ne (IntOp.cmpi .sgt (BitVec.ofNat 32 k) 0#32) 0#1 = BitVec.ofBool (decide (0 < k)) := by
    have : (BitVec.ofNat 32 k).toInt = k := toInt_ofNat_of_lt (by omega)
    rcases Nat.eq_zero_or_pos k with rfl | h
    · rfl
    · simp [IntOp.cmpi, BitVec.slt, this, h]
  rw [hg, Alg.ofBool_decide, Alg.ofBool_decide, Alg.andi_bit]

/-- The voxel coordinates of the positions. -/
theorem s6 {p : FVec Ideal S1024x3 .f32} (hp : V main_while0b_v13 = p) :
    after while0Ops0_8 (after while0Ops0_7 (after while0Ops0_6 V)) main_while0b_v35 = fun y : S1024x3.Idx => Alg.vx (p y) := by
  have e : after while0Ops0_8 (after while0Ops0_7 (after while0Ops0_6 V)) main_while0b_v35 =
      minsi (broadcastInDim S1024x3 ![] bcast_S_S1024x3 (constantI S_ 32 95#32)) (maxsi (broadcastInDim S1024x3 ![] bcast_S_S1024x3 (constantI S_ 32 0#32)) (fptosi 32 (Host.roundeven p))) := by
    after_results_entrywise [hp]
  rw [e]
  funext y
  idx_vars y
  pointwise [Alg.vx]

end Cert.ReferenceIdeal.Body
-- ==== Proof.Ref.Step.lean ====
/- What one trip of the reference's loop carries on, read at an index. -/
module

public import proofs.«01_k».proof.Proof.Ref.Body
public import Idealize.ShloMosaic.Lib.Pipeline.Value

@[expose] public section

set_option maxRecDepth 16384

noncomputable section

namespace Cert.ReferenceIdeal.Body

open Cert.ReferenceIdeal Cert.ReferenceIdeal.Gen Cert.ReferenceIdeal.Value
open Idealize.ShloMosaic
open Idealize.ShloMosaic.TcCoe
open Idealize.ShloMosaic.StableHlo
open Idealize.SL Idealize.SL.Sem

variable (V : Valuation τ sig (Elt Ideal))

/-- Column `a` of the voxel coordinates, a negative one counted from the end. -/
def wrapCol (g : IVec S1024x1 32) : IVec S1024x1 32 :=
  broadcastInDim S1024x1 ![0] bcast_S1024_S1024x1_0
    (select (cmpi .slt (shapeCast S1024 g shapeCasts_S1024x1_S1024) (broadcastInDim S1024 ![] bcast_S_S1024 (constantI S_ 32 0#32)))
      (addi (shapeCast S1024 g shapeCasts_S1024x1_S1024) (broadcastInDim S1024 ![] bcast_S_S1024 (constantI S_ 32 96#32))) (shapeCast S1024 g shapeCasts_S1024x1_S1024))

/-- The three columns side by side again. -/
def wrap96 (g : IVec S1024x3 32) : IVec S1024x3 32 :=
  concatenate S1024x3 1 [⟨S1024x1, wrapCol (extractStridedSlice S1024x1 ![0, 0] g slices_S1024x3_S1024x1_0_0)⟩,
    ⟨S1024x1, wrapCol (extractStridedSlice S1024x1 ![0, 1] g slices_S1024x3_S1024x1_0_1)⟩,
    ⟨S1024x1, wrapCol (extractStridedSlice S1024x1 ![0, 2] g slices_S1024x3_S1024x1_0_2)⟩] concatenates_S1024x1_S1024x1_S1024x1_S1024x3_d1

theorem wrap96_eq (g : IVec S1024x3 32) (hg : ∀ y, 0 ≤ (g y).toInt) : wrap96 g = g := by
  funext y
  idx_vars y
  pointwise [wrap96, wrapCol]
  have hw : ∀ i, Scalar.select (IntOp.cmpi .slt (g i) 0#32) (IntOp.addi (g i) 96#32) (g i) = g i := fun i => wrap_nonneg _ _ (hg i)
  simp only [hw]
  fin_vals y1 with hk
  all_goals (simp only [hk]; first | rfl | (refine congrArg g (congrArg (ix2 y0) (Fin.ext ?_)); simp [hk]))

/-- The three-coordinate lookup at coordinates in range. -/
theorem gather96 (x : FVec Ideal S96x96x96 .f32) (g : IVec S1024x3 32) (v : Fin 1024 → Fin 3 → Fin 96)
    (hg : g = fun y => BitVec.ofNat 32 (v (y 0) (y 1)).val) (n : Fin 1024) :
    Host.gather gather_S96x96x96_S1024x3_S1024_n_012_n_n_012_1_111 x g (ix1 n) = x (ix3 (v n 0) (v n 1) (v n 2)) := by
  subst hg
  unfold Host.gather
  refine congrArg x (funext fun a => Fin.ext ?_)
  have hm : a ∈ gather_S96x96x96_S1024x3_S1024_n_012_n_n_012_1_111.startIndexMap := by
    show a ∈ ([0, 1, 2] : List (Fin 3))
    revert a; decide
  have hk : a ∉ gather_S96x96x96_S1024x3_S1024_n_012_n_n_012_1_111.sKept := fun h => ((GatherDims.mem_sKept _ _).1 h).1 hm
  show gather_S96x96x96_S1024x3_S1024_n_012_n_n_012_1_111.start _ _ a + GatherDims.batchCoord _ _ a + GatherDims.offCoord _ _ a = _
  rw [GatherDims.batchCoord_eq_zero _ _ _ List.not_mem_nil, GatherDims.offCoord_eq_zero _ _ _ hk]
  simp only [Nat.add_zero]
  unfold GatherDims.start
  rw [dif_pos hm]
  have hmin : ∀ w : Fin 96, min (BitVec.ofNat 32 w.val).toInt.toNat (96 - 1) = w.val := fun w => by
    rw [toInt_ofNat_of_lt (by omega)]; omega
  have hsi : ∀ (c : Fin 3) (h : c.val < gather_S96x96x96_S1024x3_S1024_n_012_n_n_012_1_111.startIndexMap.length),
      GatherDims.siIdx gather_S96x96x96_S1024x3_S1024_n_012_n_n_012_1_111 (ix1 n) ⟨c.val, h⟩ = ix2 n c := fun c h => by
    funext b
    match b with
    | ⟨0, _⟩ => rfl
    | ⟨1, _⟩ => rfl
  match a with
  | ⟨0, _⟩ => exact (congrArg (fun i => min (BitVec.ofNat 32 (v (i 0) (i 1)).val).toInt.toNat (96 - 1)) (hsi 0 _)).trans (hmin _)
  | ⟨1, _⟩ => exact (congrArg (fun i => min (BitVec.ofNat 32 (v (i 0) (i 1)).val).toInt.toNat (96 - 1)) (hsi 1 _)).trans (hmin _)
  | ⟨2, _⟩ => exact (congrArg (fun i => min (BitVec.ofNat 32 (v (i 0) (i 1)).val).toInt.toNat (96 - 1)) (hsi 2 _)).trans (hmin _)

/-- Whether the walk has ended, and where it goes next. -/
theorem s9 {g : IVec S1024x3 32} {x : FVec Ideal S96x96x96 .f32} {tm v32 : IVec S1024 1} {p d : FVec Ideal S1024x3 .f32} {k : Nat}
    (hg : V main_while0b_v35 = g) (hx : V main_v8_5 = x) (ht : V main_v8_10 = tm) (h32 : V main_while0b_v32 = v32) (hp : V main_while0b_v13 = p) (hd : V main_while0b_v22 = d)
    (hc : V main_v8_7 = fun _ : S_.Idx => BitVec.ofNat 32 k) :
    after while0Ops0_9 V main_while0b_v65 = ori (ori tm v32) (cmpf .olt (Host.gather gather_S96x96x96_S1024x3_S1024_n_012_n_n_012_1_111 x (wrap96 g))
        (broadcastInDim S1024 ![] bcast_S_S1024 (constant S_ .f32 0x3E19999A#32)))
      ∧ after while0Ops0_9 V main_while0b_v68 = addf p (mulf (broadcastInDim S1024x3 ![] bcast_S_S1024x3 (constant S_ .f32 0x3F000000#32)) d)
      ∧ after while0Ops0_9 V main_while0b_v69 = fun _ : S_.Idx => BitVec.ofNat 32 (k + 1) := by
  have hs : ∀ b, after while0Ops0_9 V b = after ((while0Ops0_9 (F := Ideal)).drop 30) (after ((while0Ops0_9 (F := Ideal)).take 30) V) b := fun _ => rfl
  have h57 : after ((while0Ops0_9 (F := Ideal)).take 30) V main_while0b_v57 = wrapCol (extractStridedSlice S1024x1 ![0, 0] g slices_S1024x3_S1024x1_0_0) := by
    simp only [List.take]
    after_results_entrywise [hg]
  have h58 : after ((while0Ops0_9 (F := Ideal)).take 30) V main_while0b_v58 = wrapCol (extractStridedSlice S1024x1 ![0, 1] g slices_S1024x3_S1024x1_0_1) := by
    simp only [List.take]
    after_results_entrywise [hg]
  have h59 : after ((while0Ops0_9 (F := Ideal)).take 30) V main_while0b_v59 = wrapCol (extractStridedSlice S1024x1 ![0, 2] g slices_S1024x3_S1024x1_0_2) := by
    simp only [List.take]
    after_results_entrywise [hg]
  have hx' : after ((while0Ops0_9 (F := Ideal)).take 30) V main_v8_5 = x := by
    simp only [List.take]
    after_results_entrywise [hx]
  have ht' : after ((while0Ops0_9 (F := Ideal)).take 30) V main_v8_10 = tm := by
    simp only [List.take]
    after_results_entrywise [ht]
  have h32' : after ((while0Ops0_9 (F := Ideal)).take 30) V main_while0b_v32 = v32 := by
    simp only [List.take]
    after_results_entrywise [h32]
  generalize after ((while0Ops0_9 (F := Ideal)).take 30) V = W at *
  refine ⟨?_, ?_, ?_⟩
  · rw [hs]
    simp only [List.drop]
    after_results_simp_entrywise
    rw [hx', ht', h32', wrap96, ← h57, ← h58, ← h59]
    rfl
  · clear hs
    after_results_entrywise [hp, hd]
  · clear hs
    refine Eq.trans (b := addi (fun _ : S_.Idx => BitVec.ofNat 32 k) (constantI S_ 32 1#32)) (by after_results_entrywise [hc]) ?_
    funext y
    exact (BitVec.ofNat_add k 1).symm

/-- Row `k + 1` of the streamlines as it stands. -/
theorem s10 {x : FVec Ideal S1024x64x3 .f32} {k : Nat} (hk : k < 64) (hx : V main_v8_8 = x)
    (hc : V main_while0b_v69 = fun _ : S_.Idx => BitVec.ofNat 32 k) :
    after while0Ops0_10 V main_while0b_v70 = fun y : S1024x3.Idx => x (ix3 (y 0) ⟨k, hk⟩ (y 1)) := by
  have e : after while0Ops0_10 V main_while0b_v70 = shapeCast S1024x3 (Host.dynamicSlice S1024x1x3 x
      (fun a => ((![(constantI S_ 32 0#32 : IVec S_ 32), select (cmpi .slt (constantI S_ 32 (BitVec.ofNat 32 k)) (constantI S_ 32 0#32)) (addi (constantI S_ 32 (BitVec.ofNat 32 k)) (constantI S_ 32 64#32)) (constantI S_ 32 (BitVec.ofNat 32 k)), constantI S_ 32 0#32] : Fin 3 → IVec S_ 32) a (Shape.Idx.first h_S_)).toInt)
        sliceFits_S1024x64x3_S1024x1x3) shapeCasts_S1024x1x3_S1024x3 := by
    after_results_entrywise [hx, hc]
  rw [e, Host.dynamicSlice_eq_extractStridedSlice S1024x1x3 x _ ![0, k, 0] _ ⟨rfl, by intro a; fin_cases a <;> simp <;> omega⟩]
  · funext y
    idx_vars y
    pointwise
  · intro a
    match a with
    | 0 => rfl
    | 1 => exact toInt_wrap_ofNat k (by omega)
    | 2 => rfl

open Classical in
/-- The next row: as it stands once the walk has ended, else the next position. -/
theorem s12 {b : S1024.Idx → Prop} {r q : FVec Ideal S1024x3 .f32} (hb : V main_while0b_v65 = fun y => Alg.bit (b y)) (hr : V main_while0b_v70 = r) (hq : V main_while0b_v68 = q) :
    after while0Ops0_12 (after while0Ops0_11 V) main_while0b_v72 = fun y : S1024x3.Idx => if b (ix1 (y 0)) then r y else q y := by
  have e : after while0Ops0_12 (after while0Ops0_11 V) main_while0b_v72 = select (broadcastInDim S1024x3 ![0, 1] bcast_S1024x1_S1024x3_0_1
      (broadcastInDim S1024x1 ![0] bcast_S1024_S1024x1_0 (fun y => Alg.bit (b y)))) r q := by
    after_results_entrywise [hb, hr, hq]
  rw [e]
  funext y
  idx_vars y
  pointwise
  rw [Alg.select_bit]
  exact if_congr Iff.rfl rfl rfl

open Classical in
/-- The direction carried on: the last one once the walk has ended, else the one taken. -/
theorem s18 {b : S1024.Idx → Prop} {r q : FVec Ideal S1024x3 .f32} (hb : V main_while0b_v65 = fun y => Alg.bit (b y)) (hr : V main_v8_11 = r) (hq : V main_while0b_v22 = q) :
    after while0Ops0_18 (after while0Ops0_17 V) main_while0b_v78 = fun y : S1024x3.Idx => if b (ix1 (y 0)) then r y else q y := by
  have e : after while0Ops0_18 (after while0Ops0_17 V) main_while0b_v78 = select (broadcastInDim S1024x3 ![0, 1] bcast_S1024x1_S1024x3_0_1
      (broadcastInDim S1024x1 ![0] bcast_S1024_S1024x1_0 (fun y => Alg.bit (b y)))) r q := by
    after_results_entrywise [hb, hr, hq]
  rw [e]
  funext y
  idx_vars y
  pointwise
  rw [Alg.select_bit]
  exact if_congr Iff.rfl rfl rfl

/-- A block of one row, written at row `k`. -/
theorem dus3 {α : Type} (x : S1024x64x3.Idx → α) (u : S1024x1x3.Idx → α) (start : Fin 3 → Int) (k : Nat) (hk : k < 64)
    (h0 : start 0 = 0) (h1 : start 1 = k) (h2 : start 2 = 0) (y : S1024x64x3.Idx) :
    Host.dynamicUpdateSlice x u start updateFits_S1024x64x3_S1024x1x3 y = if (y 1).val = k then u (ix3 (y 0) 0 (y 2)) else x y := by
  rw [Host.dynamicUpdateSlice_eq_updateSlice x u start _ ![0, k, 0] (fun a => by
    match a with
    | 0 => rw [h0]; rfl
    | 1 => rw [h1]; show (min (max (k : Int) 0) ((64 - 1 : Nat) : Int)).toNat = k; omega
    | 2 => rw [h2]; rfl) ⟨rfl, by intro a; fin_cases a <;> simp <;> omega⟩]
  idx_vars y
  pointwise
  by_cases h : y1.val = k
  · rw [dif_pos (by omega)]
    exact (congrArg u (congrArg (fun q => ix3 y0 q y2) (Subsingleton.elim _ _))).trans (if_pos h).symm
  · rw [dif_neg (by omega)]
    exact (if_neg h).symm

/-- A block of one column, written at column `k`. -/
theorem dus2 {α : Type} (x : S1024x64.Idx → α) (u : S1024x1.Idx → α) (start : Fin 2 → Int) (k : Nat) (hk : k < 64)
    (h0 : start 0 = 0) (h1 : start 1 = k) (y : S1024x64.Idx) :
    Host.dynamicUpdateSlice x u start updateFits_S1024x64_S1024x1 y = if (y 1).val = k then u (ix2 (y 0) 0) else x y := by
  rw [Host.dynamicUpdateSlice_eq_updateSlice x u start _ ![0, k] (fun a => by
    match a with
    | 0 => rw [h0]; rfl
    | 1 => rw [h1]; show (min (max (k : Int) 0) ((64 - 1 : Nat) : Int)).toNat = k; omega) ⟨rfl, by intro a; fin_cases a <;> simp <;> omega⟩]
  idx_vars y
  pointwise
  by_cases h : y1.val = k
  · rw [dif_pos (by omega)]
    exact (congrArg u (congrArg (fun q => ix2 y0 q) (Subsingleton.elim _ _))).trans (if_pos h).symm
  · rw [dif_neg (by omega)]
    exact (if_neg h).symm

/-- The streamlines with the next row written. -/
theorem s14 {x : FVec Ideal S1024x64x3 .f32} {u : FVec Ideal S1024x3 .f32} {k : Nat} (hk : k + 1 < 64) (hx : V main_v8_8 = x) (hu : V main_while0b_v72 = u)
    (hc : V main_v8_7 = fun _ : S_.Idx => BitVec.ofNat 32 k) :
    after while0Ops0_14 (after while0Ops0_13 V) main_while0b_v74 = fun y : S1024x64x3.Idx => if (y 1).val = k + 1 then u (ix2 (y 0) (y 2)) else x y := by
  have e : after while0Ops0_14 (after while0Ops0_13 V) main_while0b_v74 = Host.dynamicUpdateSlice x (broadcastInDim S1024x1x3 ![0, 2] bcast_S1024x3_S1024x1x3_0_2 u)
      (fun a => ((![(constantI S_ 32 0#32 : IVec S_ 32), select (cmpi .slt (constantI S_ 32 (BitVec.ofNat 32 k + 1#32)) (constantI S_ 32 0#32)) (addi (constantI S_ 32 (BitVec.ofNat 32 k + 1#32)) (constantI S_ 32 64#32)) (constantI S_ 32 (BitVec.ofNat 32 k + 1#32)), constantI S_ 32 0#32] : Fin 3 → IVec S_ 32) a (Shape.Idx.first h_S_)).toInt)
        updateFits_S1024x64x3_S1024x1x3 := by
    after_results_entrywise [hx, hc, hu]
  rw [show BitVec.ofNat 32 k + 1#32 = BitVec.ofNat 32 (k + 1) from (BitVec.ofNat_add k 1).symm] at e
  refine e.trans (funext fun y => (dus3 _ _ _ (k + 1) hk rfl (toInt_wrap_ofNat (k + 1) (by omega)) rfl y).trans ?_)
  idx_vars y
  pointwise

/-- The mask with the next column written. -/
theorem s16 {x : IVec S1024x64 1} {u : IVec S1024 1} {k : Nat} (hk : k + 1 < 64) (hx : V main_v8_9 = x) (hu : V main_while0b_v65 = u)
    (hc : V main_v8_7 = fun _ : S_.Idx => BitVec.ofNat 32 k) :
    after while0Ops0_16 (after while0Ops0_15 V) main_while0b_v76 = fun y : S1024x64.Idx => if (y 1).val = k + 1 then u (ix1 (y 0)) else x y := by
  have e : after while0Ops0_16 (after while0Ops0_15 V) main_while0b_v76 = Host.dynamicUpdateSlice x (broadcastInDim S1024x1 ![0] bcast_S1024_S1024x1_0 u)
      (fun a => ((![(constantI S_ 32 0#32 : IVec S_ 32), select (cmpi .slt (constantI S_ 32 (BitVec.ofNat 32 k + 1#32)) (constantI S_ 32 0#32)) (addi (constantI S_ 32 (BitVec.ofNat 32 k + 1#32)) (constantI S_ 32 64#32)) (constantI S_ 32 (BitVec.ofNat 32 k + 1#32))] : Fin 2 → IVec S_ 32) a (Shape.Idx.first h_S_)).toInt)
        updateFits_S1024x64_S1024x1 := by
    after_results_entrywise [hx, hc, hu]
  rw [show BitVec.ofNat 32 k + 1#32 = BitVec.ofNat 32 (k + 1) from (BitVec.ofNat_add k 1).symm] at e
  refine e.trans (funext fun y => (dus2 _ _ _ (k + 1) hk rfl (toInt_wrap_ofNat (k + 1) (by omega)) y).trans ?_)
  idx_vars y
  pointwise

end Cert.ReferenceIdeal.Body
-- ==== Proof.Ref.Trip.lean ====
/- One trip of the reference's loop carries the tracks one step on. -/
module

public import proofs.«01_k».proof.Proof.Ref.Step

@[expose] public section

set_option maxRecDepth 16384

noncomputable section

namespace Cert.ReferenceIdeal.Body

open Cert.ReferenceIdeal Cert.ReferenceIdeal.Gen Cert.ReferenceIdeal.Value
open Idealize.ShloMosaic
open Idealize.ShloMosaic.TcCoe
open Idealize.ShloMosaic.StableHlo
open Idealize.SL Idealize.SL.Sem

variable (V : Valuation τ sig (Elt Ideal))

theorem s0 {k : Nat} (hc : V main_v8_7 = fun _ : S_.Idx => BitVec.ofNat 32 k) :
    after while0Ops0 V main_while0b_v12 = fun _ : S_.Idx => BitVec.ofNat 32 (k + 1) := by
  refine Eq.trans (b := addi (fun _ : S_.Idx => BitVec.ofNat 32 k) (constantI S_ 32 1#32)) (by after_results_entrywise [hc]) ?_
  funext y
  exact (BitVec.ofNat_add k 1).symm

theorem s19 : after while0Ops0_19 V main_v8_7 = V main_while0b_v12 ∧ after while0Ops0_19 V main_v8_8 = V main_while0b_v74 ∧ after while0Ops0_19 V main_v8_9 = V main_while0b_v76
    ∧ after while0Ops0_19 V main_v8_10 = V main_while0b_v65 ∧ after while0Ops0_19 V main_v8_11 = V main_while0b_v78 := by
  refine ⟨?_, ?_, ?_, ?_, ?_⟩ <;> after_results_entrywise []

variable (sph : FVec Ideal S724x3 .f32) (w1 : FVec Ideal S3x64 .f32) (b1 : FVec Ideal S64 .f32) (w2 : FVec Ideal S64x724 .f32)
  (fa : FVec Ideal S96x96x96 .f32) (ct : EReal) (seed : FVec Ideal S1024x64x3 .f32)

/-- The seed of track `n`. -/
def sd (n : Fin 1024) (d : Fin 3) : EReal := seed (ix3 n 0 d)

/-- What the loop carries at trip `k`. -/
structure Inv (k : Nat) : Prop where
  hw1 : V main_v8_0 = w1
  hb1 : V main_v8_1 = b1
  hw2 : V main_v8_2 = w2
  hsph : V main_v8_3 = sph
  hct : V main_v8_4 = fun _ : S_.Idx => ct
  hfa : V main_v8_5 = fa
  cnt : V main_v8_7 = fun _ : S_.Idx => BitVec.ofNat 32 k
  row : ∃ x : FVec Ideal S1024x64x3 .f32, V main_v8_8 = x ∧ ∀ n t d,
    ((t.val ≤ k ∧ (Alg.parOf sph w1 b1 w2 fa ct).alive (sd seed n) t.val) → x (ix3 n t d) = (Alg.parOf sph w1 b1 w2 fa ct).pos (sd seed n) t.val d)
    ∧ (¬ (t.val ≤ k ∧ (Alg.parOf sph w1 b1 w2 fa ct).alive (sd seed n) t.val) → x (ix3 n t d) = seed (ix3 n t d))
  msk : V main_v8_9 = fun y : S1024x64.Idx => Alg.bit (¬ ((y 1).val ≤ k ∧ (Alg.parOf sph w1 b1 w2 fa ct).alive (sd seed (y 0)) (y 1).val))
  dead : V main_v8_10 = fun y : S1024.Idx => Alg.bit (¬ (Alg.parOf sph w1 b1 w2 fa ct).alive (sd seed (y 0)) k)
  dir : ∃ x : FVec Ideal S1024x3 .f32, V main_v8_11 = x ∧ ∀ n d, (Alg.parOf sph w1 b1 w2 fa ct).alive (sd seed n) k →
    x (ix2 n d) = (Alg.parOf sph w1 b1 w2 fa ct).prev (sd seed n) k d

theorem ofNat_vi (x : EReal) : Alg.vx x = BitVec.ofNat 32 (Alg.vi x).val := by
  show Alg.vx x = BitVec.ofNat 32 (Alg.vx x).toNat
  rw [BitVec.ofNat_toNat, BitVec.setWidth_eq]

/-- Whether the walk has ended after this step, from what the step computes. -/
theorem ended {P : Alg.Par} {s p pd : Fin 3 → EReal} {k : Nat} (hp : P.alive s k → p = P.pos s k) (hd : P.alive s k → pd = P.prev s k) :
    IntOp.ori (IntOp.ori (Alg.bit (¬ P.alive s k)) (Alg.bit ((∑ i : Fin 3, P.nd p i * pd i) < P.cth ∧ 0 < k)))
      (Alg.bit (P.vox p < Ideal.ofBits .f32 0x3E19999A#32)) = Alg.bit (¬ P.alive s (k + 1)) := by
  rw [Alg.ori_bit, Alg.ori_bit]
  refine Alg.bit_congr ?_
  rw [Alg.Par.alive_succ]
  by_cases h : P.alive s k
  · rw [hp h, hd h, Alg.Par.term]
    tauto
  · tauto

open Classical in
theorem trip {k : Nat} (hk : k + 1 < 64) (H : Inv V sph w1 b1 w2 fa ct seed k) : Inv (afterL bodyI V) sph w1 b1 w2 fa ct seed (k + 1) := by
  have hkept : ∀ b : Ref sig .tc, (∀ W ∈ Frame.bodyW, b ∉ W) → afterL bodyI V b = V b := fun b h => Frame.body_kept V b h
  obtain ⟨hw1, hb1, hw2, hsph, hct, hfa, cnt, ⟨x, hx, hx'⟩, msk, dead, ⟨pd, hpd, hpd'⟩⟩ := H
  have key : afterL bodyI V main_v8_7 = (fun _ : S_.Idx => BitVec.ofNat 32 (k + 1))
      ∧ (∃ x : FVec Ideal S1024x64x3 .f32, afterL bodyI V main_v8_8 = x ∧ ∀ n t d,
        ((t.val ≤ k + 1 ∧ (Alg.parOf sph w1 b1 w2 fa ct).alive (sd seed n) t.val) → x (ix3 n t d) = (Alg.parOf sph w1 b1 w2 fa ct).pos (sd seed n) t.val d)
        ∧ (¬ (t.val ≤ k + 1 ∧ (Alg.parOf sph w1 b1 w2 fa ct).alive (sd seed n) t.val) → x (ix3 n t d) = seed (ix3 n t d)))
      ∧ afterL bodyI V main_v8_9 = (fun y : S1024x64.Idx => Alg.bit (¬ ((y 1).val ≤ k + 1 ∧ (Alg.parOf sph w1 b1 w2 fa ct).alive (sd seed (y 0)) (y 1).val)))
      ∧ afterL bodyI V main_v8_10 = (fun y : S1024.Idx => Alg.bit (¬ (Alg.parOf sph w1 b1 w2 fa ct).alive (sd seed (y 0)) (k + 1)))
      ∧ (∃ x : FVec Ideal S1024x3 .f32, afterL bodyI V main_v8_11 = x ∧ ∀ n d, (Alg.parOf sph w1 b1 w2 fa ct).alive (sd seed n) (k + 1) →
        x (ix2 n d) = (Alg.parOf sph w1 b1 w2 fa ct).prev (sd seed n) (k + 1) d) := by
    clear hkept
    simp only [afterL_cons, afterL_nil]
    -- the twenty stretches, one after another
    have k0 : ∀ b : Ref sig .tc, b ∉ while0Ops0_W → after while0Ops0 V b = V b := fun b hb => after_of_writes_sub _ _ while0Ops0_writes hb
    have e0 := s0 V cnt
    generalize after while0Ops0 V = V0 at *
    have k1 : ∀ b : Ref sig .tc, b ∉ while0Ops0_1_W → after while0Ops0_1 V0 b = V0 b := fun b hb => after_of_writes_sub _ _ while0Ops0_1_writes hb
    have e1 := s1 V0 (x := x) (k := k) (by omega) (by simp (disch := decide) only [k0, hx]) (by simp (disch := decide) only [k0, cnt])
    generalize after while0Ops0_1 V0 = V1 at *
    have k2 : ∀ b : Ref sig .tc, b ∉ while0Ops0_2_W → after while0Ops0_2 V1 b = V1 b := fun b hb => after_of_writes_sub _ _ while0Ops0_2_writes hb
    have e2 := s2 V1 e1 (w1 := w1) (b1 := b1) (w2 := w2) (by simp (disch := decide) only [k1, k0, hw1]) (by simp (disch := decide) only [k1, k0, hb1])
      (by simp (disch := decide) only [k1, k0, hw2])
    generalize after while0Ops0_2 V1 = V2 at *
    have k3 : ∀ b : Ref sig .tc, b ∉ while0Ops0_3_W → after while0Ops0_3 V2 b = V2 b := fun b hb => after_of_writes_sub _ _ while0Ops0_3_writes hb
    have e3 := s3 V2 e2
    generalize after while0Ops0_3 V2 = V3 at *
    have k4 : ∀ b : Ref sig .tc, b ∉ while0Ops0_4_W → after while0Ops0_4 V3 b = V3 b := fun b hb => after_of_writes_sub _ _ while0Ops0_4_writes hb
    have e4 := s4 V3 (sph := sph) (bi := fun n => Alg.best ((Alg.parOf sph w1 b1 w2 fa ct).score fun i => x (ix3 n ⟨k, by omega⟩ i)))
      (by simp (disch := decide) only [k3, k2, k1, k0, hsph]) e3
    generalize after while0Ops0_4 V3 = V4 at *
    have k5 : ∀ b : Ref sig .tc, b ∉ while0Ops0_5_W → after while0Ops0_5 V4 b = V4 b := fun b hb => after_of_writes_sub _ _ while0Ops0_5_writes hb
    have e5 := s5 V4 (k := k) (by omega) e4 (pd := pd) (cth := fun _ : S_.Idx => ct) (by simp (disch := decide) only [k4, k3, k2, k1, k0, hpd])
      (by simp (disch := decide) only [k4, k3, k2, k1, k0, hct]) (by simp (disch := decide) only [k4, k3, k2, k1, k0, cnt])
    generalize after while0Ops0_5 V4 = V5 at *
    have k8 : ∀ b : Ref sig .tc, b ∉ while0Ops0_6_W → b ∉ while0Ops0_7_W → b ∉ while0Ops0_8_W → after while0Ops0_8 (after while0Ops0_7 (after while0Ops0_6 V5)) b = V5 b :=
      fun b h6 h7 h8 => (after_of_writes_sub _ _ while0Ops0_8_writes h8).trans ((after_of_writes_sub _ _ while0Ops0_7_writes h7).trans (after_of_writes_sub _ _ while0Ops0_6_writes h6))
    have p5 : V5 main_while0b_v13 = V1 main_while0b_v13 := by simp (disch := decide) only [k5, k4, k3, k2]
    have e8 := s6 V5 (p5.trans e1)
    generalize after while0Ops0_8 (after while0Ops0_7 (after while0Ops0_6 V5)) = V8 at *
    have k9 : ∀ b : Ref sig .tc, b ∉ while0Ops0_9_W → after while0Ops0_9 V8 b = V8 b := fun b hb => after_of_writes_sub _ _ while0Ops0_9_writes hb
    have e9 := s9 V8 e8 (tm := V main_v8_10) (x := fa) (k := k) (by simp (disch := decide) only [k8, k5, k4, k3, k2, k1, k0, hfa]) (by simp (disch := decide) only [k8, k5, k4, k3, k2, k1, k0]) ((k8 _ (by decide) (by decide) (by decide)).trans e5)
      ((k8 _ (by decide) (by decide) (by decide)).trans (p5.trans e1)) ((k8 _ (by decide) (by decide) (by decide)).trans ((k5 _ (by decide)).trans e4)) (by simp (disch := decide) only [k8, k5, k4, k3, k2, k1, k0, cnt])
    generalize after while0Ops0_9 V8 = V9 at *
    obtain ⟨e65, e68, e69⟩ := e9
    let P := Alg.parOf sph w1 b1 w2 fa ct
    have hpos : ∀ n, P.alive (sd seed n) k → (fun i => x (ix3 n ⟨k, by omega⟩ i)) = P.pos (sd seed n) k := fun n h =>
      funext fun d => (hx' n ⟨k, by omega⟩ d).1 ⟨le_refl _, h⟩
    have e65' : V9 main_while0b_v65 = fun y : S1024.Idx => Alg.bit (¬ P.alive (sd seed (y 0)) (k + 1)) := by
      rw [e65, dead]
      rw [wrap96_eq _ (fun y => by rw [BitVec.toInt_eq_toNat_of_lt (by have := Alg.vx_lt (x (ix3 (y 0) ⟨k, by omega⟩ (y 1))); show 2 * (Alg.vx (x (ix3 (y 0) ⟨k, by omega⟩ (y 1)))).toNat < _; omega)]; omega)]
      funext y
      obtain ⟨n, rfl⟩ : ∃ n : Fin 1024, y = ix1 n := ⟨y 0, eq_ix1 y⟩
      refine Eq.trans ?_ (ended (P := P) (hpos n) (fun h => funext fun d => hpd' n d h))
      refine congrArg₂ IntOp.ori rfl ?_
      pointwise
      rw [gather96 fa _ (fun n d => Alg.vi (x (ix3 n ⟨k, by omega⟩ d))) (funext fun y => ofNat_vi _) n, Alg.ofBool_decide]
      rfl
    have k10 : ∀ b : Ref sig .tc, b ∉ while0Ops0_10_W → after while0Ops0_10 V9 b = V9 b := fun b hb => after_of_writes_sub _ _ while0Ops0_10_writes hb
    have e10 := s10 V9 (k := k + 1) hk (x := x) (by simp (disch := decide) only [k9, k8, k5, k4, k3, k2, k1, k0, hx]) e69
    generalize after while0Ops0_10 V9 = V10 at *
    have k12 : ∀ b : Ref sig .tc, b ∉ while0Ops0_11_W → b ∉ while0Ops0_12_W → after while0Ops0_12 (after while0Ops0_11 V10) b = V10 b :=
      fun b h6 h7 => (after_of_writes_sub _ _ while0Ops0_12_writes h7).trans (after_of_writes_sub _ _ while0Ops0_11_writes h6)
    have e12 := s12 V10 ((k10 _ (by decide)).trans e65') e10 ((k10 _ (by decide)).trans e68)
    generalize after while0Ops0_12 (after while0Ops0_11 V10) = V12 at *
    have k14 : ∀ b : Ref sig .tc, b ∉ while0Ops0_13_W → b ∉ while0Ops0_14_W → after while0Ops0_14 (after while0Ops0_13 V12) b = V12 b :=
      fun b h6 h7 => (after_of_writes_sub _ _ while0Ops0_14_writes h7).trans (after_of_writes_sub _ _ while0Ops0_13_writes h6)
    have e14 := s14 V12 hk (x := x) (by simp (disch := decide) only [k12, k10, k9, k8, k5, k4, k3, k2, k1, k0, hx]) e12
      (by simp (disch := decide) only [k12, k10, k9, k8, k5, k4, k3, k2, k1, k0, cnt])
    generalize after while0Ops0_14 (after while0Ops0_13 V12) = V14 at *
    have k16 : ∀ b : Ref sig .tc, b ∉ while0Ops0_15_W → b ∉ while0Ops0_16_W → after while0Ops0_16 (after while0Ops0_15 V14) b = V14 b :=
      fun b h6 h7 => (after_of_writes_sub _ _ while0Ops0_16_writes h7).trans (after_of_writes_sub _ _ while0Ops0_15_writes h6)
    have e16 := s16 V14 hk (x := V main_v8_9) (by simp (disch := decide) only [k14, k12, k10, k9, k8, k5, k4, k3, k2, k1, k0])
      ((k14 _ (by decide) (by decide)).trans ((k12 _ (by decide) (by decide)).trans ((k10 _ (by decide)).trans e65'))) (by simp (disch := decide) only [k14, k12, k10, k9, k8, k5, k4, k3, k2, k1, k0, cnt])
    generalize after while0Ops0_16 (after while0Ops0_15 V14) = V16 at *
    have k18 : ∀ b : Ref sig .tc, b ∉ while0Ops0_17_W → b ∉ while0Ops0_18_W → after while0Ops0_18 (after while0Ops0_17 V16) b = V16 b :=
      fun b h6 h7 => (after_of_writes_sub _ _ while0Ops0_18_writes h7).trans (after_of_writes_sub _ _ while0Ops0_17_writes h6)
    have e18 := s18 V16 (b := fun y => ¬ P.alive (sd seed (y 0)) (k + 1)) (by simp (disch := decide) only [k16, k14, k12, k10, e65'])
      (r := pd) (by simp (disch := decide) only [k16, k14, k12, k10, k9, k8, k5, k4, k3, k2, k1, k0, hpd])
      (Eq.trans (by simp (disch := decide) only [k16, k14, k12, k10, k9, k8, k5]) e4)
    generalize after while0Ops0_18 (after while0Ops0_17 V16) = V18 at *
    obtain ⟨e7, e8', e9', e10', e11'⟩ := s19 V18
    refine ⟨?_, ⟨_, e8'.trans (((k18 _ (by decide) (by decide)).trans (k16 _ (by decide) (by decide))).trans e14), ?_⟩, ?_, ?_, ⟨_, e11'.trans e18, ?_⟩⟩
    · rw [e7]; simp (disch := decide) only [k18, k16, k14, k12, k10, k9, k8, k5, k4, k3, k2, k1, e0]
    · intro n t d
      have hq : P.alive (sd seed n) (k + 1) → addf (fun y : S1024x3.Idx => x (ix3 (y 0) ⟨k, by omega⟩ (y 1)))
          (mulf (broadcastInDim S1024x3 ![] bcast_S_S1024x3 (constant S_ .f32 0x3F000000#32))
            (fun y : S1024x3.Idx => sph (ix2 (Alg.best (P.score fun i => x (ix3 (y 0) ⟨k, by omega⟩ i))) (y 1)))) (ix2 n d) = P.pos (sd seed n) (k + 1) d := by
        intro h
        have h' := hpos n ((P.alive_succ (sd seed n) k).1 h).1
        pointwise
        show _ = P.pos (sd seed n) k d + Ideal.ofBits .f32 0x3F000000#32 * P.nd (P.pos (sd seed n) k) d
        rw [← h']
        rfl
      by_cases ht : t.val = k + 1
      · obtain rfl : t = ⟨k + 1, hk⟩ := Fin.ext ht
        refine ⟨fun h => ?_, fun h => ?_⟩
        · exact (if_pos rfl).trans ((if_neg (not_not.2 h.2)).trans (hq h.2))
        · exact (if_pos rfl).trans ((if_pos fun ha => h ⟨le_refl _, ha⟩).trans ((hx' n ⟨k + 1, hk⟩ d).2 fun hh => absurd hh.1 (by simp)))
      · exact ⟨fun h => (if_neg ht).trans ((hx' n t d).1 ⟨by omega, h.2⟩), fun h => (if_neg ht).trans ((hx' n t d).2 fun hh => h ⟨by omega, hh.2⟩)⟩
    · rw [e9']
      refine ((k18 _ (by decide) (by decide)).trans e16).trans (funext fun y => ?_)
      rw [msk]
      obtain ⟨n, t, rfl⟩ : ∃ (n : Fin 1024) (t : Fin 64), y = ix2 n t := ⟨y 0, y 1, eq_ix2 y⟩
      by_cases ht : t.val = k + 1
      · obtain rfl : t = ⟨k + 1, hk⟩ := Fin.ext ht
        exact (if_pos rfl).trans (Alg.bit_congr (by show ¬ P.alive (sd seed n) (k + 1) ↔ ¬ (k + 1 ≤ k + 1 ∧ P.alive (sd seed n) (k + 1)); simp))
      · exact (if_neg ht).trans (Alg.bit_congr (by
          show ¬ (t.val ≤ k ∧ P.alive (sd seed n) t.val) ↔ ¬ (t.val ≤ k + 1 ∧ P.alive (sd seed n) t.val)
          have : t.val ≤ k ↔ t.val ≤ k + 1 := by omega
          rw [this]))
    · rw [e10']; simp (disch := decide) only [k18, k16, k14, k12, k10, e65']
      rfl
    · intro n d h
      refine (if_neg (not_not.2 h)).trans ?_
      have h' := ((P.alive_succ (sd seed n) k).1 h).1
      exact congrArg (fun q => P.nd q d) (hpos n h')
  exact ⟨(hkept _ (by decide)).trans hw1, (hkept _ (by decide)).trans hb1, (hkept _ (by decide)).trans hw2, (hkept _ (by decide)).trans hsph,
    (hkept _ (by decide)).trans hct, (hkept _ (by decide)).trans hfa, key.1, key.2.1, key.2.2.1, key.2.2.2.1, key.2.2.2.2⟩

end Cert.ReferenceIdeal.Body
-- ==== Proof.Ref.Value.lean ====
/- What the reference computes: the streamlines and their lengths. -/
module

public import proofs.«01_k».proof.Proof.Ref.Trip
public import proofs.«01_k».proof.Proof.Alg.Scatter

@[expose] public section

set_option maxRecDepth 16384

noncomputable section

namespace Cert.ReferenceIdeal.Body

open Cert.ReferenceIdeal Cert.ReferenceIdeal.Gen Cert.ReferenceIdeal.Value
open Idealize.ShloMosaic
open Idealize.ShloMosaic.TcCoe
open Idealize.ShloMosaic.StableHlo
open Idealize.SL Idealize.SL.Sem

variable (V0 : Valuation τ sig (Elt Ideal))

theorem start_ct : after hostOps0 V0 main_v8_4 = fun _ : S_.Idx => Alg.ct := by
  have e : after hostOps0 V0 main_v8_4 = Host.cos (F := Ideal) (mulf (constant S_ .f32 0x42700000#32) (constant S_ .f32 0x3C8EFA35#32)) := by after_results_entrywise []
  rw [e]
  funext y
  exact congrArg Alg.ctV (funext fun a => a.elim0)

theorem start_cnt : after hostOps0 V0 main_v8_7 = constantI S_ 32 0#32 := by after_results_entrywise []

theorem start_msk : after hostOps0 V0 main_v8_9 = Host.scatter scatter_S1024x64_S1_S1024_0_1_1_0 (fun _ b => b) (broadcastInDim S1024x64 ![] bcast_S_S1024x64 (constantI S_ 1 1#1))
    (broadcastInDim S1 ![] bcast_S_S1 (constantI S_ 32 0#32)) (broadcastInDim S1024 ![] bcast_S_S1024 (constantI S_ 1 0#1)) := by
  after_results_simp_entrywise
  exact id_eq _

theorem start_dead : after hostOps0 V0 main_v8_10 = broadcastInDim S1024 ![] bcast_S_S1024 (constantI S_ 1 0#1) := by after_results_entrywise []

theorem start_dir : after hostOps0 V0 main_v8_11 = fun _ : S1024x3.Idx => (0 : EReal) := by
  have e : after hostOps0 V0 main_v8_11 = broadcastInDim S1024x3 ![] bcast_S_S1024x3 (constant (F := Ideal) S_ .f32 0x00000000#32) := by after_results_entrywise []
  refine e.trans (funext fun y => ?_)
  idx_vars y
  pointwise

/-- What the loop carries in. -/
theorem inv_start (V : Valuation τ sig (Elt Ideal)) (a0 : FVec Ideal S1024x64x3 .f32) (a1 : FVec Ideal S724x3 .f32) (a2 : FVec Ideal S3x64 .f32)
    (a3 : FVec Ideal S64 .f32) (a4 : FVec Ideal S64x724 .f32) (a5 : FVec Ideal S96x96x96 .f32)
    (h0 : V main_arg0 = a0) (h1 : V main_arg1 = a1) (h2 : V main_arg2 = a2) (h3 : V main_arg3 = a3) (h4 : V main_arg4 = a4) (h5 : V main_arg5 = a5) :
    Inv (after hostOps0 V) a1 a2 a3 a4 a5 Alg.ct a0 0 := by
  refine ⟨by after_results_entrywise [h2], by after_results_entrywise [h3], by after_results_entrywise [h4], by after_results_entrywise [h1], start_ct V,
    by after_results_entrywise [h5], start_cnt V, ⟨a0, by after_results_entrywise [h0], ?_⟩, ?_, ?_, ⟨fun _ => (0 : EReal), start_dir V, fun n d _ => rfl⟩⟩
  · intro n t d
    refine ⟨fun h => ?_, fun _ => rfl⟩
    obtain rfl : t = 0 := Fin.ext (by have := h.1; show t.val = 0; omega)
    rfl
  · refine (start_msk V).trans (funext fun y => ?_)
    obtain ⟨n, t, rfl⟩ : ∃ (n : Fin 1024) (t : Fin 64), y = ix2 n t := ⟨y 0, y 1, eq_ix2 y⟩
    refine (Alg.scatter_column scatter_S1024x64_S1_S1024_0_1_1_0 rfl _ (fun _ => rfl) _ 0#1 n t).trans ?_
    by_cases ht : t.val = 0
    · obtain rfl : t = 0 := Fin.ext ht
      refine Eq.trans rfl (Alg.bit_false ?_).symm
      exact not_not.2 ⟨le_refl _, Alg.Par.alive_zero _ _⟩
    · refine (if_neg ht).trans (Alg.bit_true ?_).symm
      intro h
      exact ht (Nat.le_zero.1 h.1)
  · exact (start_dead V).trans (funext fun y => (Alg.bit_false (not_not.2 (Alg.Par.alive_zero _ _))).symm)

variable (m : (ℓ : Loc nD τ sig) → Buf (Elt Ideal) ℓ) (c : Dev nD)

/-- The streamlines' tracks, from the arguments as launched. -/
abbrev par : Alg.Par := Alg.parOf (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) Alg.ct

abbrev InvAt (k : Nat) (V : Valuation τ sig (Elt Ideal)) : Prop :=
  Inv V (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) Alg.ct (m ((c.tc : Thread nD τ).loc main_arg0)) k

theorem inv_cond {k : Nat} {V : Valuation τ sig (Elt Ideal)} (H : InvAt m c k V) : InvAt m c k (after condOps V) := by
  have hk : ∀ b : Ref sig .tc, b ∉ condOps_W → after condOps V b = V b := fun b h => after_of_writes_sub _ _ condOps_writes h
  obtain ⟨hw1, hb1, hw2, hsph, hct, hfa, cnt, ⟨x, hx, hx'⟩, msk, dead, ⟨pd, hpd, hpd'⟩⟩ := H
  exact ⟨(hk _ (by decide)).trans hw1, (hk _ (by decide)).trans hb1, (hk _ (by decide)).trans hw2, (hk _ (by decide)).trans hsph,
    (hk _ (by decide)).trans hct, (hk _ (by decide)).trans hfa, (hk _ (by decide)).trans cnt, ⟨x, (hk _ (by decide)).trans hx, hx'⟩,
    (hk _ (by decide)).trans msk, (hk _ (by decide)).trans dead, ⟨pd, (hk _ (by decide)).trans hpd, hpd'⟩⟩

theorem inv_at (k : Nat) (hk : k < 64) : InvAt m c k (atK m k c) := by
  induction k with
  | zero => exact inv_start _ _ _ _ _ _ _ rfl rfl rfl rfl rfl rfl
  | succ k ih => exact trip _ _ _ _ _ _ _ _ hk (inv_cond m c (ih (by omega)))

/-- The number of ones among one-bit words, as a 32-bit word. -/
theorem fold_count {ι : Type} (s : Finset ι) (q : ι → Prop) [DecidablePred q] :
    Finset.fold IntOp.addi (0#32) (fun t => (~~~ (Alg.bit (¬ q t))).setWidth 32) s = BitVec.ofNat 32 (s.filter q).card := by
  classical
  induction s using Finset.induction_on with
  | empty => rfl
  | insert a s ha ih =>
    rw [Finset.fold_insert ha, ih, Finset.filter_insert]
    by_cases h : q a
    · rw [if_pos h, Finset.card_insert_of_notMem (by simp [ha]), Alg.bit_false (not_not.2 h), Nat.add_comm]
      exact (BitVec.ofNat_add 1 _).symm
    · rw [if_neg h, Alg.bit_true h]
      exact BitVec.zero_add _

theorem final_len {V : Valuation τ sig (Elt Ideal)} (H : InvAt m c 63 V) :
    after hostOps0_1 V main_v11 = fun y : S1024.Idx => BitVec.ofNat 32 ((par m c).len (sd (m ((c.tc : Thread nD τ).loc main_arg0)) (y 0))) := by
  have e : after hostOps0_1 V main_v11 = Host.reduce IntOp.addi (extui 32 (noti (V main_v8_9)) natLt_1_32) (constantI S_ 32 0#32) reducesTo_S1024x64_S1024_d1 h_S_ := by
    after_results_entrywise []
  rw [e, H.msk]
  funext y
  obtain ⟨n, rfl⟩ : ∃ n : Fin 1024, y = ix1 n := ⟨y 0, eq_ix1 y⟩
  pointwise
  refine (Shape.ReducesTo.fold_fiber_r2_a1 reducesTo_S1024x64_S1024_d1 (ix1 n) IntOp.addi _ _).trans ?_
  classical
  refine (fold_count Finset.univ (fun t : Fin 64 => t.val ≤ 63 ∧ (par m c).alive (sd (m ((c.tc : Thread nD τ).loc main_arg0)) n) t.val)).trans ?_
  refine congrArg (BitVec.ofNat 32) ?_
  unfold Alg.Par.len
  refine congrArg Finset.card (Finset.ext fun t => ?_)
  simp only [Finset.mem_filter, Finset.mem_univ, true_and]
  exact ⟨fun h => h.2, fun h => ⟨by omega, h⟩⟩

theorem final_line {V : Valuation τ sig (Elt Ideal)} (H : InvAt m c 63 V)
    (hz : ∀ n (t : Fin 64) d, t ≠ 0 → (m ((c.tc : Thread nD τ).loc main_arg0) : FVec Ideal S1024x64x3 .f32) (ix3 n t d) = (0 : EReal)) :
    after hostOps0_1 V main_v8_8 = fun y : S1024x64x3.Idx => (par m c).line (sd (m ((c.tc : Thread nD τ).loc main_arg0)) (y 0)) (y 1).val (y 2) := by
  obtain ⟨x, hx, hx'⟩ := H.row
  refine ((after_of_writes_sub _ _ hostOps0_1_writes (by decide)).trans hx).trans (funext fun y => ?_)
  obtain ⟨n, t, d, rfl⟩ : ∃ (n : Fin 1024) (t : Fin 64) (d : Fin 3), y = ix3 n t d := ⟨y 0, y 1, y 2, eq_ix3 y⟩
  show x (ix3 n t d) = (par m c).line (sd (m ((c.tc : Thread nD τ).loc main_arg0)) n) t.val d
  unfold Alg.Par.line
  by_cases h : (par m c).alive (sd (m ((c.tc : Thread nD τ).loc main_arg0)) n) t.val
  · rw [if_pos h]
    exact (hx' n t d).1 ⟨by omega, h⟩
  · rw [if_neg h]
    refine ((hx' n t d).2 fun hh => h hh.2).trans (hz n t d ?_)
    rintro rfl
    exact h (Alg.Par.alive_zero _ _)

end Cert.ReferenceIdeal.Body
-- ==== Proof.Alg.Claim.lean ====
/- The kernel and the reference end with equal results, from ordinary inputs. -/
module

public import proofs.«01_k».proof.Defs
public import proofs.«01_k».proof.Proof.Alg.KValue
public import proofs.«01_k».proof.Proof.Alg.Pre
public import proofs.«01_k».proof.Proof.Ref.Value

@[expose] public section

noncomputable section

namespace Cert.Alg

open Idealize.ShloMosaic Idealize.SL.Sem

theorem parOf_congr {sph sph' : (⟨2, ![724, 3]⟩ : Shape).Idx → EReal} {w1 w1' : (⟨2, ![3, 64]⟩ : Shape).Idx → EReal} {b1 b1' : (⟨1, ![64]⟩ : Shape).Idx → EReal}
    {w2 w2' : (⟨2, ![64, 724]⟩ : Shape).Idx → EReal} {fa fa' : (⟨3, ![96, 96, 96]⟩ : Shape).Idx → EReal} {ct : EReal}
    (h1 : sph = sph') (h2 : w1 = w1') (h3 : b1 = b1') (h4 : w2 = w2') (h5 : fa = fa') : parOf sph w1 b1 w2 fa ct = parOf sph' w1' b1' w2' fa' ct := by
  rw [h1, h2, h3, h4, h5]

theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v29) = Cert.KernelIdeal.Segments.WD m c (Proc.devRef .tc Cert.KernelIdeal.main_v29)
      ∧ r.2.mem ((c.tc : Thread Cert.KernelIdeal.nD Cert.KernelIdeal.τ).loc Cert.KernelIdeal.main_v30) = Cert.KernelIdeal.Segments.WD m c (Proc.devRef .tc Cert.KernelIdeal.main_v30)
      ∧ ∀ b ∈ [Cert.KernelIdeal.main_arg0, Cert.KernelIdeal.main_arg1, Cert.KernelIdeal.main_arg2, Cert.KernelIdeal.main_arg3, Cert.KernelIdeal.main_arg4, Cert.KernelIdeal.main_arg5],
        r.2.mem ((c.tc : Thread Cert.KernelIdeal.nD Cert.KernelIdeal.τ).loc b) = m ((c.tc : Thread Cert.KernelIdeal.nD Cert.KernelIdeal.τ).loc b)) := by
  refine θ_run_mono (Cert.KernelIdeal.Frame.run m g) fun r hr c => ⟨hr.1 c _ (Cert.KernelIdeal.Frame.mem_uc _ (by decide)), hr.1 c _ (Cert.KernelIdeal.Frame.mem_uc _ (by decide)), fun b hb => ?_⟩
  have hs : (Proc.devRef (τ := Cert.KernelIdeal.τ) .tc b).isScoped = false := by
    simp only [List.mem_cons, List.not_mem_nil, or_false] at hb
    rcases hb with rfl | rfl | rfl | rfl | rfl | rfl <;> decide
  exact (hr.1 c _ (Cert.KernelIdeal.Frame.mem_uc b hs)).trans (Cert.KernelIdeal.Frame.args_kept m c b hb)

theorem reference_run (m : (ℓ : Loc Cert.ReferenceIdeal.nD Cert.ReferenceIdeal.τ Cert.ReferenceIdeal.sig) → Buf (Elt Ideal) ℓ) (g : Dev Cert.ReferenceIdeal.nD → PrngReg)
    (hz : ∀ c : Dev Cert.ReferenceIdeal.nD, ∀ n (t : Fin 64) d, t ≠ 0 →
      (m ((c.tc : Thread Cert.ReferenceIdeal.nD Cert.ReferenceIdeal.τ).loc Cert.ReferenceIdeal.main_arg0) : FVec Ideal Cert.ReferenceIdeal.S1024x64x3 .f32) (ix3 n t d) = (0 : EReal)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v8_8)
        = (fun y : Cert.ReferenceIdeal.S1024x64x3.Idx => (Cert.ReferenceIdeal.Body.par m c).line
          (Cert.ReferenceIdeal.Body.sd (m ((c.tc : Thread Cert.ReferenceIdeal.nD Cert.ReferenceIdeal.τ).loc Cert.ReferenceIdeal.main_arg0)) (y 0)) (y 1).val (y 2))
      ∧ r.2.mem ((c.tc : Thread Cert.ReferenceIdeal.nD Cert.ReferenceIdeal.τ).loc Cert.ReferenceIdeal.main_v11)
        = (fun y : Cert.ReferenceIdeal.S1024.Idx => BitVec.ofNat 32 ((Cert.ReferenceIdeal.Body.par m c).len
          (Cert.ReferenceIdeal.Body.sd (m ((c.tc : Thread Cert.ReferenceIdeal.nD Cert.ReferenceIdeal.τ).loc Cert.ReferenceIdeal.main_arg0)) (y 0))))
      ∧ ∀ b ∈ [Cert.ReferenceIdeal.main_arg0, Cert.ReferenceIdeal.main_arg1, Cert.ReferenceIdeal.main_arg2, Cert.ReferenceIdeal.main_arg3, Cert.ReferenceIdeal.main_arg4, Cert.ReferenceIdeal.main_arg5],
        r.2.mem ((c.tc : Thread Cert.ReferenceIdeal.nD Cert.ReferenceIdeal.τ).loc b) = m ((c.tc : Thread Cert.ReferenceIdeal.nD Cert.ReferenceIdeal.τ).loc b)) := by
  refine θ_run_mono (Cert.ReferenceIdeal.Value.run_fold m g) fun r hr c => ?_
  have H := Cert.ReferenceIdeal.Body.inv_cond m c (Cert.ReferenceIdeal.Body.inv_at m c 63 (by omega))
  refine ⟨(hr c _ (by decide)).trans ?_, (hr c _ (by decide)).trans ?_, fun b hb => ?_⟩
  · exact Cert.ReferenceIdeal.Body.final_line m c H (hz c)
  · exact Cert.ReferenceIdeal.Body.final_len m c H
  · simp only [List.mem_cons, List.not_mem_nil, or_false] at hb
    rcases hb with rfl | rfl | rfl | rfl | rfl | rfl <;>
      exact (hr c _ (by decide)).trans (Cert.ReferenceIdeal.Frame.final_kept m c _ (by decide) (by decide) (by decide) (by decide))

theorem algebraic : Cert.algebraic_KernelIdeal_ReferenceIdeal_pre_ordinary_inputs := by
  intro m g m' g' hpre hagree
  have hR := fun c => Cert.Pre_ordinary_inputs.Read.read (hpre c)
  refine ⟨fun c => Cert.KernelIdeal.Segments.WD m c (Proc.devRef .tc Cert.KernelIdeal.main_v29), fun c => Cert.KernelIdeal.Segments.WD m c (Proc.devRef .tc Cert.KernelIdeal.main_v30), ?_, ?_⟩
  · refine θ_run_mono (kernel_run m g) fun r hr c => ?_
    obtain ⟨h0, h1, hk⟩ := hr c
    exact ⟨h0, h1, hk _ (by decide), hk _ (by decide), hk _ (by decide), hk _ (by decide), hk _ (by decide), hk _ (by decide)⟩
  · refine θ_run_mono (reference_run m' g' fun c n t d ht => (congrFun (hagree c).1 (ix3 n t d)).trans ((hR c).1 n t d ht)) fun r hr c => ?_
    obtain ⟨h0, h1, hk⟩ := hr c
    obtain ⟨a0, a1, a2, a3, a4, a5⟩ := hagree c
    obtain ⟨-, b0, b1, b2, b3, b4⟩ := hR c
    have hs : (Cert.KernelIdeal.Result.par m c).Small := ⟨fun s d => b1 (ix2 s d), fun i j => b2 (ix2 i j), fun j => b3 (ix1 j), fun j s => b4 (ix2 j s)⟩
    have hp : Cert.ReferenceIdeal.Body.par m' c = Cert.KernelIdeal.Result.par m c := parOf_congr a1 a2 a3 a4 a5
    have hsd : ∀ n, Cert.ReferenceIdeal.Body.sd (m' ((c.tc : Thread Cert.ReferenceIdeal.nD Cert.ReferenceIdeal.τ).loc Cert.ReferenceIdeal.main_arg0)) n = Cert.KernelIdeal.Result.sd m c n :=
      fun n => funext fun d => congrFun a0 (ix3 n 0 d)
    have hline : ∀ n t d, (Cert.ReferenceIdeal.Body.par m' c).line (Cert.ReferenceIdeal.Body.sd (m' ((c.tc : Thread Cert.ReferenceIdeal.nD Cert.ReferenceIdeal.τ).loc Cert.ReferenceIdeal.main_arg0)) n) t d
        = (Cert.KernelIdeal.Result.par m c).line (Cert.KernelIdeal.Result.sd m c n) t d := fun n t d => by rw [hp, hsd]
    have hlen : ∀ n, (Cert.ReferenceIdeal.Body.par m' c).len (Cert.ReferenceIdeal.Body.sd (m' ((c.tc : Thread Cert.ReferenceIdeal.nD Cert.ReferenceIdeal.τ).loc Cert.ReferenceIdeal.main_arg0)) n)
        = (Cert.KernelIdeal.Result.par m c).len (Cert.KernelIdeal.Result.sd m c n) := fun n => by rw [hp, hsd]
    refine ⟨h0.trans ?_, h1.trans ?_, hk _ (by decide), hk _ (by decide), hk _ (by decide), hk _ (by decide), hk _ (by decide), hk _ (by decide)⟩
    · exact Eq.trans (funext fun y => hline (y 0) (y 1).val (y 2)) (Cert.KernelIdeal.Result.lines_eq m c hs b0).symm
    · exact Eq.trans (funext fun y => congrArg (BitVec.ofNat 32) (hlen (y 0))) (Cert.KernelIdeal.Result.lengths_eq m c hs b0).symm

end Cert.Alg
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.K.Frame
public import proofs.«01_k».proof.Proof.KI.Frame
public import proofs.«01_k».proof.Proof.Ref.Frame
public import proofs.«01_k».proof.Proof.Alg.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ordinary_inputs.Read.facts,
  fun m ρ _ => Cert.Kernel.Frame.frame m ρ,
  fun m ρ _ => Cert.KernelIdeal.Frame.frame m ρ,
  fun m ρ _ => Cert.KernelIdeal.Frame.frame m ρ,
  fun m ρ _ => Cert.ReferenceIdeal.Frame.frame m ρ,
  fun m ρ _ => Cert.ReferenceIdeal.Frame.frame m ρ,
  trivial,
  Cert.Alg.algebraic⟩

end Cert.Proof

end
